-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨3, ![2, 128, 512]⟩ ⟨3, ![2, 512, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x512 : Shape := ⟨2, ![512, 512]⟩
abbrev S2x128x32x64 : Shape := ⟨4, ![2, 128, 32, 64]⟩
abbrev S_ : Shape := ⟨0, ![]⟩

class Facts : Prop where
  bcast_S_S2x128x512 : S_.BroadcastsInDim S2x128x512 (![] : Fin 0 → Fin S2x128x512.rank)
  bcast_S_S512x512 : S_.BroadcastsInDim S512x512 (![] : Fin 0 → Fin S512x512.rank)
  bcast_S_S2x128x32x64 : S_.BroadcastsInDim S2x128x32x64 (![] : Fin 0 → Fin S2x128x32x64.rank)

variable [Facts]

def fn {F : FTy → Type} [FloatOps F] (main_arg0 : FVec F S2x128x512 .bf16) (main_arg1 : FVec F S512x512 .bf16) (main_arg2 : FVec F S2x128x32x64 .bf16) (main_arg3 : FVec F S2x128x32x64 .bf16) (main_arg4 : FVec F S512x512 .bf16) : IVec S2x128x512 1 × IVec S512x512 1 × IVec S2x128x32x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x512 .bf16 := Host.absf main_arg1
  let main_cst_0 : FVec F S_ .bf16 := constant S_ .bf16 0x7F80#16
  let main_v4 : FVec F S512x512 .bf16 := broadcastInDim S512x512 ![] bcast_S_S512x512 main_cst_0
  let main_v5 : IVec S512x512 1 := cmpf .olt main_v3 main_v4
  let main_v6 : FVec F S2x128x32x64 .bf16 := Host.absf main_arg2
  let main_cst_1 : FVec F S_ .bf16 := constant S_ .bf16 0x7F80#16
  let main_v7 : FVec F S2x128x32x64 .bf16 := broadcastInDim S2x128x32x64 ![] bcast_S_S2x128x32x64 main_cst_1
  let main_v8 : IVec S2x128x32x64 1 := cmpf .olt main_v6 main_v7
  (main_v2, main_v5, main_v8)
-- ==== Pre_finite_scores_ReferenceIdeal.lean ====
abbrev S2x512x512 : Shape := ⟨3, ![2, 512, 512]⟩
abbrev S512x2048 : Shape := ⟨2, ![512, 2048]⟩
abbrev S2x128x32x64 : Shape := ⟨4, ![2, 128, 32, 64]⟩
abbrev S2048x512 : Shape := ⟨2, ![2048, 512]⟩
abbrev S_ : Shape := ⟨0, ![]⟩

class Facts : Prop where
  bcast_S_S2x512x512 : S_.BroadcastsInDim S2x512x512 (![] : Fin 0 → Fin S2x512x512.rank)
  bcast_S_S512x2048 : S_.BroadcastsInDim S512x2048 (![] : Fin 0 → Fin S512x2048.rank)
  bcast_S_S2x128x32x64 : S_.BroadcastsInDim S2x128x32x64 (![] : Fin 0 → Fin S2x128x32x64.rank)

variable [Facts]

def fn {F : FTy → Type} [FloatOps F] (main_arg0 : FVec F S2x512x512 .bf16) (main_arg1 : FVec F S512x2048 .bf16) (main_arg2 : FVec F S2x128x32x64 .bf16) (main_arg3 : FVec F S2x128x32x64 .bf16) (main_arg4 : FVec F S2048x512 .bf16) : IVec S2x512x512 1 × IVec S512x2048 1 × IVec S2x128x32x64 1 :=
  let main_v0 : FVec F S2x512x512 .bf16 := Host.absf main_arg0
  let main_cst : FVec F S_ .bf16 := constant S_ .bf16 0x7F80#16
  let main_v1 : FVec F S2x512x512 .bf16 := broadcastInDim S2x512x512 ![] bcast_S_S2x512x512 main_cst
  let main_v2 : IVec S2x512x512 1 := cmpf .olt main_v0 main_v1
  let main_v3 : FVec F S512x2048 .bf16 := Host.absf main_arg1
  let main_cst_0 : FVec F S_ .bf16 := constant S_ .bf16 0x7F80#16
  let main_v4 : FVec F S512x2048 .bf16 := broadcastInDim S512x2048 ![] bcast_S_S512x2048 main_cst_0
  let main_v5 : IVec S512x2048 1 := cmpf .olt main_v3 main_v4
  let main_v6 : FVec F S2x128x32x64 .bf16 := Host.absf main_arg2
  let main_cst_1 : FVec F S_ .bf16 := constant S_ .bf16 0x7F80#16
  let main_v7 : FVec F S2x128x32x64 .bf16 := broadcastInDim S2x128x32x64 ![] bcast_S_S2x128x32x64 main_cst_1
  let main_v8 : IVec S2x128x32x64 1 := cmpf .olt main_v6 main_v7
  (main_v2, main_v5, main_v8)
-- ==== Kernel.lean ====
abbrev S2x128x512 : Shape := ⟨3, ![2, 128, 512]⟩
abbrev S512x512 : Shape := ⟨2, ![512, 512]⟩
abbrev S2x128x32x64 : Shape := ⟨4, ![2, 128, 32, 64]⟩
abbrev S_ : Shape := ⟨0, ![]⟩
abbrev S2x32x64x128 : Shape := ⟨4, ![2, 32, 64, 128]⟩
abbrev S2x8x64x128 : Shape := ⟨4, ![2, 8, 64, 128]⟩
abbrev S4x2x128x512 : Shape := ⟨4, ![4, 2, 128, 512]⟩
abbrev S128x512 : Shape := ⟨2, ![128, 512]⟩
abbrev S4x2 : Shape := ⟨2, ![4, 2]⟩
abbrev S1x1 : Shape := ⟨2, ![1, 1]⟩
abbrev S1x1x128x512 : Shape := ⟨4, ![1, 1, 128, 512]⟩
abbrev S1x128x512 : Shape := ⟨3, ![1, 128, 512]⟩
abbrev S1x1x64x128 : Shape := ⟨4, ![1, 1, 64, 128]⟩
abbrev S64x128 : Shape := ⟨2, ![64, 128]⟩
abbrev S128x64 : Shape := ⟨2, ![128, 64]⟩
abbrev S128x128 : Shape := ⟨2, ![128, 128]⟩
abbrev S128 : Shape := ⟨1, ![128]⟩
abbrev S128x1 : Shape := ⟨2, ![128, 1]⟩

abbrev nBuf : Space → Nat
  | .hbm => 36
  | .vmem => 11
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S2x128x32x64, .bf16⟩
  | .hbm, ⟨3, _⟩ => ⟨S2x128x32x64, .bf16⟩
  | .hbm, ⟨4, _⟩ => ⟨S512x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2x32x64x128, .bf16⟩
  | .hbm, ⟨12, _⟩ => ⟨S2x32x64x128, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S2x8x64x128, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2x8x64x128, .bf16⟩
  | .hbm, ⟨35, _⟩ => ⟨S2x128x512, .bf16⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S2x8x64x128, .bf16⟩
  | .local _ .vmem, ⟨4, _⟩ => ⟨S2x8x64x128, .bf16⟩
  | .local _ .vmem, ⟨5, _⟩ => ⟨S2x128x512, .bf16⟩
  | .local _ .vmem, ⟨6, _⟩ => ⟨S2x128x512, .bf16⟩
  | .local _ .vmem, ⟨7, _⟩ => ⟨S4x2x128x512, .bf16⟩
  | .local _ .vmem, ⟨8, _⟩ => ⟨S128x512, .f32⟩
  | .local _ .vmem, ⟨9, _⟩ => ⟨S4x2x128x512, .bf16⟩
  | .local _ .vmem, ⟨10, _⟩ => ⟨S4x2x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_c_8 : Ref sig .tc := ⟨.hbm, 26, rfl⟩
abbrev main_v13 : Ref sig .tc := ⟨.hbm, 27, rfl⟩
abbrev main_c_9 : Ref sig .tc := ⟨.hbm, 28, rfl⟩
abbrev main_v14 : Ref sig .tc := ⟨.hbm, 29, rfl⟩
abbrev main_v15 : Ref sig .tc := ⟨.hbm, 30, rfl⟩
abbrev main_c_10 : Ref sig .tc := ⟨.hbm, 31, rfl⟩
abbrev main_c_11 : Ref sig .tc := ⟨.hbm, 32, rfl⟩
abbrev main_c_12 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v48 : BitVec 32 := Scalar.addi v2 c1_i32_33
  let c4_i32_34 : BitVec 32 := 4#32
  let c0_i32_35 : BitVec 32 := 0#32
  let v49 : BitVec 1 := Scalar.cmpi .eq c4_i32_34 c0_i32_35
  let c1_i32_36 : BitVec 32 := 1#32
  let v50 : BitVec 32 := Scalar.select v49 c1_i32_36 c4_i32_34
  let v51 : BitVec 32 := Scalar.remsi v48 v50
  let c0_i32_38 : BitVec 32 := 0#32
  let v53 : BitVec 1 := Scalar.cmpi .slt v51 c0_i32_38
  let c0_i32_39 : BitVec 32 := 0#32
  let v54 : BitVec 1 := Scalar.cmpi .slt v50 c0_i32_39
  let v55 : BitVec 1 := Scalar.xori v53 v54
  let c0_i32_37 : BitVec 32 := 0#32
  let v52 : BitVec 1 := Scalar.cmpi .ne v51 c0_i32_37
  let v56 : BitVec 1 := Scalar.andi v55 v52
  let v57 : BitVec 32 := Scalar.addi v51 v50
  let v58 : BitVec 32 := Scalar.select v56 v57 v51
  let c1_i32_47 : BitVec 32 := 1#32
  let v59 : BitVec 32 := Scalar.muli v58 c1_i32_47
  let v60 : BitVec 32 := Scalar.addi c0_i32_48 v59
  v60.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_53 : BitVec 32 := 1#32
  let v69 : BitVec 32 := Scalar.addi v2 c1_i32_53
  let c4_i32_54 : BitVec 32 := 4#32
  let c0_i32_55 : BitVec 32 := 0#32
  let v70 : BitVec 1 := Scalar.cmpi .eq c4_i32_54 c0_i32_55
  let c1_i32_56 : BitVec 32 := 1#32
  let v71 : BitVec 32 := Scalar.select v70 c1_i32_56 c4_i32_54
  let v72 : BitVec 32 := Scalar.remsi v69 v71
  let c0_i32_58 : BitVec 32 := 0#32
  let v74 : BitVec 1 := Scalar.cmpi .slt v72 c0_i32_58
  let c0_i32_59 : BitVec 32 := 0#32
  let v75 : BitVec 1 := Scalar.cmpi .slt v71 c0_i32_59
  let v76 : BitVec 1 := Scalar.xori v74 v75
  let c0_i32_57 : BitVec 32 := 0#32
  let v73 : BitVec 1 := Scalar.cmpi .ne v72 c0_i32_57
  let v77 : BitVec 1 := Scalar.andi v76 v73
  let v78 : BitVec 32 := Scalar.addi v72 v71
  let v79 : BitVec 32 := Scalar.select v77 v78 v72
  let c1_i32_67 : BitVec 32 := 1#32
  let v80 : BitVec 32 := Scalar.muli v79 c1_i32_67
  let v81 : BitVec 32 := Scalar.addi c0_i32_68 v80
  v81.toNat
def k0_dev6 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_73 : BitVec 32 := 2#32
  let v90 : BitVec 32 := Scalar.addi v2 c2_i32_73
  let c4_i32_74 : BitVec 32 := 4#32
  let c0_i32_75 : BitVec 32 := 0#32
  let v91 : BitVec 1 := Scalar.cmpi .eq c4_i32_74 c0_i32_75
  let c1_i32_76 : BitVec 32 := 1#32
  let v92 : BitVec 32 := Scalar.select v91 c1_i32_76 c4_i32_74
  let v93 : BitVec 32 := Scalar.remsi v90 v92
  let c0_i32_78 : BitVec 32 := 0#32
  let v95 : BitVec 1 := Scalar.cmpi .slt v93 c0_i32_78
  let c0_i32_79 : BitVec 32 := 0#32
  let v96 : BitVec 1 := Scalar.cmpi .slt v92 c0_i32_79
  let v97 : BitVec 1 := Scalar.xori v95 v96
  let c0_i32_77 : BitVec 32 := 0#32
  let v94 : BitVec 1 := Scalar.cmpi .ne v93 c0_i32_77
  let v98 : BitVec 1 := Scalar.andi v97 v94
  let v99 : BitVec 32 := Scalar.addi v93 v92
  let v100 : BitVec 32 := Scalar.select v98 v99 v93
  let c1_i32_87 : BitVec 32 := 1#32
  let v101 : BitVec 32 := Scalar.muli v100 c1_i32_87
  let v102 : BitVec 32 := Scalar.addi c0_i32_88 v101
  v102.toNat
def k0_dev7 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_93 : BitVec 32 := 2#32
  let v111 : BitVec 32 := Scalar.addi v2 c2_i32_93
  let c4_i32_94 : BitVec 32 := 4#32
  let c0_i32_95 : BitVec 32 := 0#32
  let v112 : BitVec 1 := Scalar.cmpi .eq c4_i32_94 c0_i32_95
  let c1_i32_96 : BitVec 32 := 1#32
  let v113 : BitVec 32 := Scalar.select v112 c1_i32_96 c4_i32_94
  let v114 : BitVec 32 := Scalar.remsi v111 v113
  let c0_i32_98 : BitVec 32 := 0#32
  let v116 : BitVec 1 := Scalar.cmpi .slt v114 c0_i32_98
  let c0_i32_99 : BitVec 32 := 0#32
  let v117 : BitVec 1 := Scalar.cmpi .slt v113 c0_i32_99
  let v118 : BitVec 1 := Scalar.xori v116 v117
  let c0_i32_97 : BitVec 32 := 0#32
  let v115 : BitVec 1 := Scalar.cmpi .ne v114 c0_i32_97
  let v119 : BitVec 1 := Scalar.andi v118 v115
  let v120 : BitVec 32 := Scalar.addi v114 v113
  let v121 : BitVec 32 := Scalar.select v119 v120 v114
  let c1_i32_107 : BitVec 32 := 1#32
  let v122 : BitVec 32 := Scalar.muli v121 c1_i32_107
  let v123 : BitVec 32 := Scalar.addi c0_i32_108 v122
  v123.toNat
def k0_dev8 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_113 : BitVec 32 := 3#32
  let v132 : BitVec 32 := Scalar.addi v2 c3_i32_113
  let c4_i32_114 : BitVec 32 := 4#32
  let c0_i32_115 : BitVec 32 := 0#32
  let v133 : BitVec 1 := Scalar.cmpi .eq c4_i32_114 c0_i32_115
  let c1_i32_116 : BitVec 32 := 1#32
  let v134 : BitVec 32 := Scalar.select v133 c1_i32_116 c4_i32_114
  let v135 : BitVec 32 := Scalar.remsi v132 v134
  let c0_i32_118 : BitVec 32 := 0#32
  let v137 : BitVec 1 := Scalar.cmpi .slt v135 c0_i32_118
  let c0_i32_119 : BitVec 32 := 0#32
  let v138 : BitVec 1 := Scalar.cmpi .slt v134 c0_i32_119
  let v139 : BitVec 1 := Scalar.xori v137 v138
  let c0_i32_117 : BitVec 32 := 0#32
  let v136 : BitVec 1 := Scalar.cmpi .ne v135 c0_i32_117
  let v140 : BitVec 1 := Scalar.andi v139 v136
  let v141 : BitVec 32 := Scalar.addi v135 v134
  let v142 : BitVec 32 := Scalar.select v140 v141 v135
  let c1_i32_127 : BitVec 32 := 1#32
  let v143 : BitVec 32 := Scalar.muli v142 c1_i32_127
  let v144 : BitVec 32 := Scalar.addi c0_i32_128 v143
  v144.toNat
def k0_dev9 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_133 : BitVec 32 := 3#32
  let v153 : BitVec 32 := Scalar.addi v2 c3_i32_133
  let c4_i32_134 : BitVec 32 := 4#32
  let c0_i32_135 : BitVec 32 := 0#32
  let v154 : BitVec 1 := Scalar.cmpi .eq c4_i32_134 c0_i32_135
  let c1_i32_136 : BitVec 32 := 1#32
  let v155 : BitVec 32 := Scalar.select v154 c1_i32_136 c4_i32_134
  let v156 : BitVec 32 := Scalar.remsi v153 v155
  let c0_i32_138 : BitVec 32 := 0#32
  let v158 : BitVec 1 := Scalar.cmpi .slt v156 c0_i32_138
  let c0_i32_139 : BitVec 32 := 0#32
  let v159 : BitVec 1 := Scalar.cmpi .slt v155 c0_i32_139
  let v160 : BitVec 1 := Scalar.xori v158 v159
  let c0_i32_137 : BitVec 32 := 0#32
  let v157 : BitVec 1 := Scalar.cmpi .ne v156 c0_i32_137
  let v161 : BitVec 1 := Scalar.andi v160 v157
  let v162 : BitVec 32 := Scalar.addi v156 v155
  let v163 : BitVec 32 := Scalar.select v161 v162 v156
  let c1_i32_147 : BitVec 32 := 1#32
  let v164 : BitVec 32 := Scalar.muli v163 c1_i32_147
  let v165 : BitVec 32 := Scalar.addi c0_i32_148 v164
  v165.toNat
def k0_dev10 (d0 : Dev nD) : Nat :=
  let c0_i32_454 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_438 : BitVec 32 := 1#32
  let v575 : BitVec 32 := Scalar.subi v2 c1_i32_438
  let c4_i32_439 : BitVec 32 := 4#32
  let c0_i32_440 : BitVec 32 := 0#32
  let v576 : BitVec 1 := Scalar.cmpi .eq c4_i32_439 c0_i32_440
  let c1_i32_441 : BitVec 32 := 1#32
  let v577 : BitVec 32 := Scalar.select v576 c1_i32_441 c4_i32_439
  let v578 : BitVec 32 := Scalar.remsi v575 v577
  let c0_i32_443 : BitVec 32 := 0#32
  let v580 : BitVec 1 := Scalar.cmpi .slt v578 c0_i32_443
  let c0_i32_444 : BitVec 32 := 0#32
  let v581 : BitVec 1 := Scalar.cmpi .slt v577 c0_i32_444
  let v582 : BitVec 1 := Scalar.xori v580 v581
  let c0_i32_442 : BitVec 32 := 0#32
  let v579 : BitVec 1 := Scalar.cmpi .ne v578 c0_i32_442
  let v583 : BitVec 1 := Scalar.andi v582 v579
  let v584 : BitVec 32 := Scalar.addi v578 v577
  let v585 : BitVec 32 := Scalar.select v583 v584 v578
  let c1_i32_453 : BitVec 32 := 1#32
  let v586 : BitVec 32 := Scalar.muli v585 c1_i32_453
  let v587 : BitVec 32 := Scalar.addi c0_i32_454 v586
  v587.toNat
def k0_dev11 (d0 : Dev nD) : Nat :=
  let c0_i32_553 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_537 : BitVec 32 := 1#32
  let v719 : BitVec 32 := Scalar.subi v2 c1_i32_537
  let c4_i32_538 : BitVec 32 := 4#32
  let c0_i32_539 : BitVec 32 := 0#32
  let v720 : BitVec 1 := Scalar.cmpi .eq c4_i32_538 c0_i32_539
  let c1_i32_540 : BitVec 32 := 1#32
  let v721 : BitVec 32 := Scalar.select v720 c1_i32_540 c4_i32_538
  let v722 : BitVec 32 := Scalar.remsi v719 v721
  let c0_i32_542 : BitVec 32 := 0#32
  let v724 : BitVec 1 := Scalar.cmpi .slt v722 c0_i32_542
  let c0_i32_543 : BitVec 32 := 0#32
  let v725 : BitVec 1 := Scalar.cmpi .slt v721 c0_i32_543
  let v726 : BitVec 1 := Scalar.xori v724 v725
  let c0_i32_541 : BitVec 32 := 0#32
  let v723 : BitVec 1 := Scalar.cmpi .ne v722 c0_i32_541
  let v727 : BitVec 1 := Scalar.andi v726 v723
  let v728 : BitVec 32 := Scalar.addi v722 v721
  let v729 : BitVec 32 := Scalar.select v727 v728 v722
  let c1_i32_552 : BitVec 32 := 1#32
  let v730 : BitVec 32 := Scalar.muli v729 c1_i32_552
  let v731 : BitVec 32 := Scalar.addi c0_i32_553 v730
  v731.toNat
def k0_dev12 (d0 : Dev nD) : Nat :=
  let c0_i32_652 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_636 : BitVec 32 := 3#32
  let v863 : BitVec 32 := Scalar.subi v2 c3_i32_636
  let c4_i32_637 : BitVec 32 := 4#32
  let c0_i32_638 : BitVec 32 := 0#32
  let v864 : BitVec 1 := Scalar.cmpi .eq c4_i32_637 c0_i32_638
  let c1_i32_639 : BitVec 32 := 1#32
  let v865 : BitVec 32 := Scalar.select v864 c1_i32_639 c4_i32_637
  let v866 : BitVec 32 := Scalar.remsi v863 v865
  let c0_i32_641 : BitVec 32 := 0#32
  let v868 : BitVec 1 := Scalar.cmpi .slt v866 c0_i32_641
  let c0_i32_642 : BitVec 32 := 0#32
  let v869 : BitVec 1 := Scalar.cmpi .slt v865 c0_i32_642
  let v870 : BitVec 1 := Scalar.xori v868 v869
  let c0_i32_640 : BitVec 32 := 0#32
  let v867 : BitVec 1 := Scalar.cmpi .ne v866 c0_i32_640
  let v871 : BitVec 1 := Scalar.andi v870 v867
  let v872 : BitVec 32 := Scalar.addi v866 v865
  let v873 : BitVec 32 := Scalar.select v871 v872 v866
  let c1_i32_651 : BitVec 32 := 1#32
  let v874 : BitVec 32 := Scalar.muli v873 c1_i32_651
  let v875 : BitVec 32 := Scalar.addi c0_i32_652 v874
  v875.toNat
def k0_dev13 (d0 : Dev nD) : Nat :=
  let c0_i32_751 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_735 : BitVec 32 := 3#32
  let v1007 : BitVec 32 := Scalar.subi v2 c3_i32_735
  let c4_i32_736 : BitVec 32 := 4#32
  let c0_i32_737 : BitVec 32 := 0#32
  let v1008 : BitVec 1 := Scalar.cmpi .eq c4_i32_736 c0_i32_737
  let c1_i32_738 : BitVec 32 := 1#32
  let v1009 : BitVec 32 := Scalar.select v1008 c1_i32_738 c4_i32_736
  let v1010 : BitVec 32 := Scalar.remsi v1007 v1009
  let c0_i32_740 : BitVec 32 := 0#32
  let v1012 : BitVec 1 := Scalar.cmpi .slt v1010 c0_i32_740
  let c0_i32_741 : BitVec 32 := 0#32
  let v1013 : BitVec 1 := Scalar.cmpi .slt v1009 c0_i32_741
  let v1014 : BitVec 1 := Scalar.xori v1012 v1013
  let c0_i32_739 : BitVec 32 := 0#32
  let v1011 : BitVec 1 := Scalar.cmpi .ne v1010 c0_i32_739
  let v1015 : BitVec 1 := Scalar.andi v1014 v1011
  let v1016 : BitVec 32 := Scalar.addi v1010 v1009
  let v1017 : BitVec 32 := Scalar.select v1015 v1016 v1010
  let c1_i32_750 : BitVec 32 := 1#32
  let v1018 : BitVec 32 := Scalar.muli v1017 c1_i32_750
  let v1019 : BitVec 32 := Scalar.addi c0_i32_751 v1018
  v1019.toNat
def k0_dev14 (d0 : Dev nD) : Nat :=
  let c0_i32_850 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_834 : BitVec 32 := 2#32
  let v1151 : BitVec 32 := Scalar.subi v2 c2_i32_834
  let c4_i32_835 : BitVec 32 := 4#32
  let c0_i32_836 : BitVec 32 := 0#32
  let v1152 : BitVec 1 := Scalar.cmpi .eq c4_i32_835 c0_i32_836
  let c1_i32_837 : BitVec 32 := 1#32
  let v1153 : BitVec 32 := Scalar.select v1152 c1_i32_837 c4_i32_835
  let v1154 : BitVec 32 := Scalar.remsi v1151 v1153
  let c0_i32_839 : BitVec 32 := 0#32
  let v1156 : BitVec 1 := Scalar.cmpi .slt v1154 c0_i32_839
  let c0_i32_840 : BitVec 32 := 0#32
  let v1157 : BitVec 1 := Scalar.cmpi .slt v1153 c0_i32_840
  let v1158 : BitVec 1 := Scalar.xori v1156 v1157
  let c0_i32_838 : BitVec 32 := 0#32
  let v1155 : BitVec 1 := Scalar.cmpi .ne v1154 c0_i32_838
  let v1159 : BitVec 1 := Scalar.andi v1158 v1155
  let v1160 : BitVec 32 := Scalar.addi v1154 v1153
  let v1161 : BitVec 32 := Scalar.select v1159 v1160 v1154
  let c1_i32_849 : BitVec 32 := 1#32
  let v1162 : BitVec 32 := Scalar.muli v1161 c1_i32_849
  let v1163 : BitVec 32 := Scalar.addi c0_i32_850 v1162
  v1163.toNat
def k0_dev15 (d0 : Dev nD) : Nat :=
  let c0_i32_949 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_933 : BitVec 32 := 2#32
  let v1295 : BitVec 32 := Scalar.subi v2 c2_i32_933
  let c4_i32_934 : BitVec 32 := 4#32
  let c0_i32_935 : BitVec 32 := 0#32
  let v1296 : BitVec 1 := Scalar.cmpi .eq c4_i32_934 c0_i32_935
  let c1_i32_936 : BitVec 32 := 1#32
  let v1297 : BitVec 32 := Scalar.select v1296 c1_i32_936 c4_i32_934
  let v1298 : BitVec 32 := Scalar.remsi v1295 v1297
  let c0_i32_938 : BitVec 32 := 0#32
  let v1300 : BitVec 1 := Scalar.cmpi .slt v1298 c0_i32_938
  let c0_i32_939 : BitVec 32 := 0#32
  let v1301 : BitVec 1 := Scalar.cmpi .slt v1297 c0_i32_939
  let v1302 : BitVec 1 := Scalar.xori v1300 v1301
  let c0_i32_937 : BitVec 32 := 0#32
  let v1299 : BitVec 1 := Scalar.cmpi .ne v1298 c0_i32_937
  let v1303 : BitVec 1 := Scalar.andi v1302 v1299
  let v1304 : BitVec 32 := Scalar.addi v1298 v1297
  let v1305 : BitVec 32 := Scalar.select v1303 v1304 v1298
  let c1_i32_948 : BitVec 32 := 1#32
  let v1306 : BitVec 32 := Scalar.muli v1305 c1_i32_948
  let v1307 : BitVec 32 := Scalar.addi c0_i32_949 v1306
  v1307.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8x64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x512 : Shape := ⟨3, ![2, 512, 512]⟩
abbrev S512x2048 : Shape := ⟨2, ![512, 2048]⟩
abbrev S2x128x32x64 : Shape := ⟨4, ![2, 128, 32, 64]⟩
abbrev S2048x512 : Shape := ⟨2, ![2048, 512]⟩
abbrev S2x512x2048 : Shape := ⟨3, ![2, 512, 2048]⟩
abbrev S2x512x32x64 : Shape := ⟨4, ![2, 512, 32, 64]⟩
abbrev S_ : Shape := ⟨0, ![]⟩
abbrev S2x32x512x1 : Shape := ⟨4, ![2, 32, 512, 1]⟩
abbrev S2x32x512x128 : Shape := ⟨4, ![2, 32, 512, 128]⟩
abbrev S2x32x512 : Shape := ⟨3, ![2, 32, 512]⟩
abbrev S2x512x32x1 : Shape := ⟨4, ![2, 512, 32, 1]⟩
abbrev S2x32x64x512 : Shape := ⟨4, ![2, 32, 64, 512]⟩

abbrev nBuf : Space → Nat
  | .hbm => 48
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S512x2048, .bf16⟩
  | .hbm, ⟨2, _⟩ => ⟨S2x128x32x64, .bf16⟩
  | .hbm, ⟨3, _⟩ => ⟨S2x128x32x64, .bf16⟩
  | .hbm, ⟨4, _⟩ => ⟨S2048x512, .bf16⟩
  | .hbm, ⟨5, _⟩ => ⟨S2x512x2048, .f32⟩
  | .hbm, ⟨6, _⟩ => ⟨S2x512x2048, .bf16⟩
  | .hbm, ⟨7, _⟩ => ⟨S2x512x32x64, .bf16⟩
  | .hbm, ⟨8, _⟩ => ⟨S_, .f32⟩
  | .hbm, ⟨9, _⟩ => ⟨S2x512x32x64, .f32⟩
  | .hbm, ⟨10, _⟩ => ⟨S_, .f32⟩
  | .hbm, ⟨11, _⟩ => ⟨S2x32x512x1, .f32⟩
  | .hbm, ⟨12, _⟩ => ⟨S_, .f32⟩
  | .hbm, ⟨13, _⟩ => ⟨S2x32x512x1, .f32⟩
  | .hbm, ⟨14, _⟩ => ⟨S2x32x512x128, .f32⟩
  | .hbm, ⟨15, _⟩ => ⟨S2x32x512x128, .bf16⟩
  | .hbm, ⟨16, _⟩ => ⟨S2x32x512x128, .f32⟩
  | .hbm, ⟨17, _⟩ => ⟨S_, .f32⟩
  | .hbm, ⟨18, _⟩ => ⟨S2x32x512x128, .f32⟩
  | .hbm, ⟨19, _⟩ => ⟨S2x32x512x128, .f32⟩
  | .hbm, ⟨20, _⟩ => ⟨S_, .f32⟩
  | .hbm, ⟨21, _⟩ => ⟨S2x32x512, .f32⟩
  | .hbm, ⟨22, _⟩ => ⟨S2x32x512x1, .f32⟩
  | .hbm, ⟨23, _⟩ => ⟨S2x32x512x1, .f32⟩
  | .hbm, ⟨24, _⟩ => ⟨S2x32x512x1, .f32⟩
  | .hbm, ⟨25, _⟩ => ⟨S2x32x512x1, .f32⟩
  | .hbm, ⟨26, _⟩ => ⟨S2x32x512x128, .f32⟩
  | .hbm, ⟨27, _⟩ => ⟨S2x32x512x128, .f32⟩
  | .hbm, ⟨28, _⟩ => ⟨S2x32x512x128, .f32⟩
  | .hbm, ⟨29, _⟩ => ⟨S2x32x512x1, .f32⟩
  | .hbm, ⟨30, _⟩ => ⟨S_, .f32⟩
  | .hbm, ⟨31, _⟩ => ⟨S2x32x512, .f32⟩
  | .hbm, ⟨32, _⟩ => ⟨S2x32x512x1, .f32⟩
  | .hbm, ⟨33, _⟩ => ⟨S2x32x512x1, .f32⟩
  | .hbm, ⟨34, _⟩ => ⟨S2x512x32x1, .f32⟩
  | .hbm, ⟨35, _⟩ => ⟨S2x512x32x64, .f32⟩
  | .hbm, ⟨36, _⟩ => ⟨S2x512x32x64, .f32⟩
  | .hbm, ⟨37, _⟩ => ⟨S2x128x32x64, .f32⟩
  | .hbm, ⟨38, _⟩ => ⟨S2x32x64x512, .f32⟩
  | .hbm, ⟨39, _⟩ => ⟨S2x512x32x64, .f32⟩
  | .hbm, ⟨40, _⟩ => ⟨S2x512x32x64, .f32⟩
  | .hbm, ⟨41, _⟩ => ⟨S2x512x32x1, .f32⟩
  | .hbm, ⟨42, _⟩ => ⟨S2x512x32x64, .f32⟩
  | .hbm, ⟨43, _⟩ => ⟨S2x512x32x64, .f32⟩
  | .hbm, ⟨44, _⟩ => ⟨S2x512x2048, .f32⟩
  | .hbm, ⟨45, _⟩ => ⟨S2048x512, .f32⟩
  | .hbm, ⟨46, _⟩ => ⟨S2x512x512, .f32⟩
  | .hbm, ⟨47, _⟩ => ⟨S2x512x512, .bf16⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.Slots.lean ====
/-
  The buffers the devices exchange blocks through, cut into the slots the transfers use: `xs` in two (one per batch), and
  `xg`, `ys`, `yr` in eight (one per distance on the ring and batch). Where each slot's elements lie in its buffer, that the
  slots of one buffer are disjoint and cover it, and so that a buffer held whole is its slots held one by one.
-/
module

public import proofs.«01_k».proof.Proof.Gen.KernelIdeal.Launch
public import proofs.«01_k».proof.Proof.Gen.KernelIdeal.Points
public import Idealize.ShloMosaic.Lib.Rounds
public import Idealize.ShloMosaic.Lib.Rounds.Family
public import Idealize.ShloMosaic.Lib.Tactic

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

/-- The device `d` places after `c` on the ring of four. -/
def peer (c : Dev nD) (d : ℕ) : Dev nD := ⟨(c.val + d) % 4, Nat.mod_lt _ (by decide)⟩

/-- Going `d` and then `4 - d` places comes back. -/
theorem peer_back (c : Dev nD) (d : Fin 4) : peer (peer c (4 - d.val)) d.val = c := by revert c d; decide
/-- Going `4 - d` and then `d` places comes back. -/
theorem peer_forth (c : Dev nD) (d : Fin 4) : peer (peer c d.val) (4 - d.val) = c := by revert c d; decide

/-- The step by `d` places as a bijection of the devices. -/
def turn (d : Fin 4) : Dev nD ≃ Dev nD where
  toFun c := peer c d.val
  invFun c := peer c (4 - d.val)
  left_inv c := peer_forth c d
  right_inv c := peer_back c d

/-! ## The memrefs -/

abbrev xM : Memref sig .tc .vmem S2x128x512 .bf16 := Memref.whole cc0_stg0_0
abbrev wqM : Memref sig .tc .vmem S512x512 .bf16 := Memref.whole cc0_stg1_0
abbrev woM : Memref sig .tc .vmem S512x512 .bf16 := Memref.whole cc0_stg2_0
abbrev kM : Memref sig .tc .vmem S2x8x64x128 .bf16 := Memref.whole cc0_stg3_0
abbrev vM : Memref sig .tc .vmem S2x8x64x128 .bf16 := Memref.whole cc0_stg4_0
abbrev outM : Memref sig .tc .vmem S2x128x512 .bf16 := Memref.whole cc0_stg5_0
abbrev xsM : Memref sig .tc .vmem S2x128x512 .bf16 := Memref.whole cc0_scratch0
abbrev xgM : Memref sig .tc .vmem S4x2x128x512 .bf16 := Memref.whole cc0_scratch1
abbrev oM : Memref sig .tc .vmem S128x512 .f32 := Memref.whole cc0_scratch2
abbrev ysM : Memref sig .tc .vmem S4x2x128x512 .bf16 := Memref.whole cc0_scratch3
abbrev yrM : Memref sig .tc .vmem S4x2x128x512 .bf16 := Memref.whole cc0_scratch4

/-- Batch `b` of a buffer of two batches. -/
theorem inb_half (b : Fin 2) : ∀ a, (![b.val, 0, 0] : Fin 3 → ℕ) a + S1x128x512.size a ≤ S2x128x512.size a := by
  revert b; decide
/-- Slot `(d, b)` of a buffer of four by two slots. -/
theorem inb_slot (d : Fin 4) (b : Fin 2) :
    ∀ a, (![d.val, b.val, 0, 0] : Fin 4 → ℕ) a + S1x1x128x512.size a ≤ S4x2x128x512.size a := by
  revert d b; decide

abbrev halfR (b : Fin 2) : Rect S2x128x512 := Rect.unit (s := S2x128x512) ![b.val, 0, 0] S1x128x512.size (inb_half b)
abbrev slotR (d : Fin 4) (b : Fin 2) : Rect S4x2x128x512 :=
  Rect.unit (s := S4x2x128x512) ![d.val, b.val, 0, 0] S1x1x128x512.size (inb_slot d b)

/-- The slots as the transfers name them. -/
abbrev xsV (b : Fin 2) : Memref sig .tc .vmem S128x512 .bf16 :=
  (xsM.slice (halfR b) (fun _ => rfl)).squeeze S128x512 squeezes_S1x128x512_S128x512
abbrev xgV (d : Fin 4) (b : Fin 2) : Memref sig .tc .vmem S128x512 .bf16 :=
  (xgM.slice (slotR d b) (fun _ => rfl)).squeeze S128x512 squeezes_S1x1x128x512_S128x512
abbrev ysV (d : Fin 4) (b : Fin 2) : Memref sig .tc .vmem S128x512 .bf16 :=
  (ysM.slice (slotR d b) (fun _ => rfl)).squeeze S128x512 squeezes_S1x1x128x512_S128x512
abbrev yrV (d : Fin 4) (b : Fin 2) : Memref sig .tc .vmem S128x512 .bf16 :=
  (yrM.slice (slotR d b) (fun _ => rfl)).squeeze S128x512 squeezes_S1x1x128x512_S128x512

/-! ## Where a slot's elements lie -/

/-- The index `(d, b, i, j)`. -/
def at4 (d : Fin 4) (b : Fin 2) (i : S128x512.Idx) : S4x2x128x512.Idx := fun a =>
  match a with | 0 => d | 1 => b | 2 => i 0 | 3 => i 1
/-- The index `(b, i, j)`. -/
def at3 (b : Fin 2) (i : S128x512.Idx) : S2x128x512.Idx := fun a =>
  match a with | 0 => b | 1 => i 0 | 2 => i 1

/-- The elements of slot `(d, b)`: those whose first two coordinates are `d` and `b`. -/
def slotSet (d : Fin 4) (b : Fin 2) : Finset S4x2x128x512.Idx := Finset.univ.filter fun i => (i 0).val = d.val ∧ (i 1).val = b.val
/-- The elements of batch `b`: those whose first coordinate is `b`. -/
def halfSet (b : Fin 2) : Finset S2x128x512.Idx := Finset.univ.filter fun i => (i 0).val = b.val

theorem numel_slot : S128x512.numel = S1x1x128x512.numel := squeezes_S1x1x128x512_S128x512.numel_eq
theorem numel_half : S128x512.numel = S1x128x512.numel := squeezes_S1x128x512_S128x512.numel_eq

/-- The index a slot's own index `(i, j)` is read at, before the slot's offsets: `(0, 0, i, j)`. -/
theorem slot_unflat (i : S128x512.Idx) : Shape.reshapeEquiv numel_slot i =
    (fun a => match a with | 0 => (0 : Fin 1) | 1 => (0 : Fin 1) | 2 => i 0 | 3 => i 1 : S1x1x128x512.Idx) := by
  refine Shape.reshapeEquiv_eq_of_rowMajor _ ?_
  rw [Shape.rowMajor_val_four, Shape.rowMajor_val_two]
  show (((0 : ℕ) * 1 + 0) * 128 + (i 0).val) * 512 + (i 1).val = (i 0).val * 512 + (i 1).val
  omega

theorem half_unflat (i : S128x512.Idx) : Shape.reshapeEquiv numel_half i =
    (fun a => match a with | 0 => (0 : Fin 1) | 1 => i 0 | 2 => i 1 : S1x128x512.Idx) := by
  refine Shape.reshapeEquiv_eq_of_rowMajor _ ?_
  rw [Shape.rowMajor_val_three, Shape.rowMajor_val_two]
  show ((0 : ℕ) * 128 + (i 0).val) * 512 + (i 1).val = (i 0).val * 512 + (i 1).val
  omega

/-- Element `(i, j)` of slot `(d, b)` is the buffer's element `(d, b, i, j)`. -/
theorem slot_emb (d : Fin 4) (b : Fin 2) (i : S128x512.Idx) :
    (slotR d b).emb (Shape.reshapeEquiv numel_slot i) = at4 d b i := by
  rw [slot_unflat]
  funext a
  refine Fin.ext ?_
  rw [Rect.emb_apply]
  fin_cases a
  · show d.val + 1 * 0 = d.val; omega
  · show b.val + 1 * 0 = b.val; omega
  · show 0 + 1 * (i 0).val = (i 0).val; omega
  · show 0 + 1 * (i 1).val = (i 1).val; omega

theorem half_emb (b : Fin 2) (i : S128x512.Idx) :
    (halfR b).emb (Shape.reshapeEquiv numel_half i) = at3 b i := by
  rw [half_unflat]
  funext a
  refine Fin.ext ?_
  rw [Rect.emb_apply]
  fin_cases a
  · show b.val + 1 * 0 = b.val; omega
  · show 0 + 1 * (i 0).val = (i 0).val; omega
  · show 0 + 1 * (i 1).val = (i 1).val; omega

theorem xs_emb (b : Fin 2) (i : S128x512.Idx) : (xsV b).view.emb i = at3 b i := half_emb b i
theorem xg_emb (d : Fin 4) (b : Fin 2) (i : S128x512.Idx) : (xgV d b).view.emb i = at4 d b i := slot_emb d b i
theorem ys_emb (d : Fin 4) (b : Fin 2) (i : S128x512.Idx) : (ysV d b).view.emb i = at4 d b i := slot_emb d b i
theorem yr_emb (d : Fin 4) (b : Fin 2) (i : S128x512.Idx) : (yrV d b).view.emb i = at4 d b i := slot_emb d b i

/-- The image of a slot's indices is the set of elements with its two leading coordinates. -/
theorem slot_image (d : Fin 4) (b : Fin 2) (E : S128x512.Idx ↪ S4x2x128x512.Idx) (hE : ∀ i, E i = at4 d b i) :
    Finset.univ.map E = slotSet d b := by
  ext i
  simp only [Finset.mem_map, Finset.mem_univ, true_and, slotSet, Finset.mem_filter]
  constructor
  · rintro ⟨j, rfl⟩; rw [hE]; exact ⟨rfl, rfl⟩
  · rintro ⟨h0, h1⟩
    refine ⟨fun a => match a with | 0 => i 2 | 1 => i 3, ?_⟩
    rw [hE]; funext a; fin_cases a
    · exact Fin.ext h0.symm
    · exact Fin.ext h1.symm
    · rfl
    · rfl

theorem half_image (b : Fin 2) (E : S128x512.Idx ↪ S2x128x512.Idx) (hE : ∀ i, E i = at3 b i) :
    Finset.univ.map E = halfSet b := by
  ext i
  simp only [Finset.mem_map, Finset.mem_univ, true_and, halfSet, Finset.mem_filter]
  constructor
  · rintro ⟨j, rfl⟩; rw [hE]; rfl
  · rintro h0
    refine ⟨fun a => match a with | 0 => i 1 | 1 => i 2, ?_⟩
    rw [hE]; funext a; fin_cases a
    · exact Fin.ext h0.symm
    · rfl
    · rfl

theorem xs_set (b : Fin 2) : (xsV b).view.set = halfSet b := half_image b _ (xs_emb b)
theorem xg_set (d : Fin 4) (b : Fin 2) : (xgV d b).view.set = slotSet d b := slot_image d b _ (xg_emb d b)
theorem ys_set (d : Fin 4) (b : Fin 2) : (ysV d b).view.set = slotSet d b := slot_image d b _ (ys_emb d b)
theorem yr_set (d : Fin 4) (b : Fin 2) : (yrV d b).view.set = slotSet d b := slot_image d b _ (yr_emb d b)

/-! ## A buffer is its slots -/

/-- All slots. -/
abbrev slots : Finset (Fin 4 × Fin 2) := Finset.univ

theorem slots_disjoint : ∀ t ∈ slots, ∀ t' ∈ slots, t ≠ t' → Disjoint (slotSet t.1 t.2) (slotSet t'.1 t'.2) := by
  intro t _ t' _ h
  rw [Finset.disjoint_left]
  intro i hi hi'
  simp only [slotSet, Finset.mem_filter, Finset.mem_univ, true_and] at hi hi'
  exact h (Prod.ext (Fin.ext (hi.1.symm.trans hi'.1)) (Fin.ext (hi.2.symm.trans hi'.2)))

theorem slots_cover : slots.biUnion (fun t => slotSet t.1 t.2) = Finset.univ := by
  ext i
  simp only [Finset.mem_biUnion, Finset.mem_univ, true_and, iff_true]
  exact ⟨(i 0, i 1), by simp only [slotSet, Finset.mem_filter, Finset.mem_univ, true_and, and_self]⟩

theorem halves_disjoint : ∀ t ∈ (Finset.univ : Finset (Fin 2)), ∀ t' ∈ (Finset.univ : Finset (Fin 2)), t ≠ t' →
    Disjoint (halfSet t) (halfSet t') := by
  intro t _ t' _ h
  rw [Finset.disjoint_left]
  intro i hi hi'
  simp only [halfSet, Finset.mem_filter, Finset.mem_univ, true_and] at hi hi'
  exact h (Fin.ext (hi.symm.trans hi'))

theorem halves_cover : (Finset.univ : Finset (Fin 2)).biUnion halfSet = Finset.univ := by
  ext i
  simp only [Finset.mem_biUnion, Finset.mem_univ, true_and, iff_true]
  exact ⟨i 0, by simp only [halfSet, Finset.mem_filter, Finset.mem_univ, true_and]⟩

end Cert.KernelIdeal.Proof

end
-- ==== Proof.Schedule.lean ====
/-
  The protocol the four devices run, as rounds on their semaphore cells. Round 0 of a device's barrier cell has one duty for
  each other device, which hands over the slots the owner will write on that device; round 0 of each transfer's source and
  target cell has one duty, which hands over the source share back and the landed slot. What each device owes at launch, in the
  order it pays; the levels of the cells; and that every wait is below what its device still owes.
-/
module

public import proofs.«01_k».proof.Proof.Slots

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's ghost state beside the rounds', whose duties are named by distances on the ring. -/
abbrev UU : Type := UR sig nD τ × URounds (GSem nD τ sig) (Fin 4)

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

/-- The distance back: `-d` on the ring. -/
def neg4 (d : Fin 4) : Fin 4 := ⟨(4 - d.val) % 4, Nat.mod_lt _ (by decide)⟩

theorem neg4_neg4 (d : Fin 4) : neg4 (neg4 d) = d := by revert d; decide
theorem neg4_ne (d : Fin 4) (h : d ≠ 0) : neg4 d ≠ 0 := by revert d; decide
theorem peer_neg4 (c : Dev nD) (d : Fin 4) : peer (peer c d.val) (neg4 d).val = c := by revert c d; decide
theorem peer_neg4' (c : Dev nD) (d : Fin 4) : peer (peer c (neg4 d).val) d.val = c := by revert c d; decide

/-! ## The cells -/

abbrev barS : Sem sig := barrier0
/-- Semaphore `(d, b)` of array `a`: 0 the gather's sources, 1 its targets, 2 the scatter's sources, 3 its targets. -/
def dsem (a d : Fin 4) (b : Fin 2) : DmaSem sig :=
  ⟨6 + 8 * a.val + 2 * d.val + b.val, by have := a.2; have := d.2; have := b.2; show _ < 38; omega⟩
abbrev barCell (c : Dev nD) : GSem nD τ sig := ((c : Thread nD τ), .reg barS)
abbrev dcell (a d : Fin 4) (b : Fin 2) (c : Dev nD) : GSem nD τ sig := ((c : Thread nD τ), .dma (dsem a d b))

/-- The array, distance and batch of a semaphore by its number. -/
def arrOf (n : DmaSem sig) : Fin 4 := ⟨(n.val - 6) / 8 % 4, Nat.mod_lt _ (by decide)⟩
def distOf (n : DmaSem sig) : Fin 4 := ⟨(n.val - 6) / 2 % 4, Nat.mod_lt _ (by decide)⟩
def batOf (n : DmaSem sig) : Fin 2 := ⟨(n.val - 6) % 2, Nat.mod_lt _ (by decide)⟩

theorem arrOf_dsem (a d : Fin 4) (b : Fin 2) : arrOf (dsem a d b) = a := by revert a d b; decide
theorem distOf_dsem (a d : Fin 4) (b : Fin 2) : distOf (dsem a d b) = d := by revert a d b; decide
theorem batOf_dsem (a d : Fin 4) (b : Fin 2) : batOf (dsem a d b) = b := by revert a d b; decide
theorem six_le_dsem (a d : Fin 4) (b : Fin 2) : 6 ≤ (dsem a d b).val := by unfold dsem; dsimp only; omega

/-- What one transfer credits. -/
abbrev N : ℕ := (xgV 0 0).view.dmaCredit
theorem N_pos : 0 < N := View.dmaCredit_pos _ (by decide)

/-! ## Contents -/

/- The block of `x` each device starts from, and what each device computes for the others: its partial result for the block
    that came from `d` places before it, by `d`, batch, row and column. -/
variable (X : Dev nD → S2x128x512.Idx → Elt F .bf16) (Y : Dev nD → S4x2x128x512.Idx → Elt F .bf16)

/-- What has landed in `xg` of device `c`: in slot `(d, b)`, batch `b` of the block of the device `d` places before. -/
def XG (c : Dev nD) : S4x2x128x512.Idx → Elt F .bf16 := fun i =>
  X (peer c (neg4 (i 0)).val) (fun a => match a with | 0 => i 1 | 1 => i 2 | 2 => i 3)
/-- What has landed in `yr` of device `c`: in slot `(d, b)`, what the device `d` places after it computed for it. -/
def YR (c : Dev nD) : S4x2x128x512.Idx → Elt F .bf16 := fun i => Y (peer c (i 0).val) i

/-- The share of `xs` each of the three transfers out of a batch reads with. -/
def share (d : Fin 4) : PosShare TreeShare :=
  match d with | 0 => fullShare | 1 => fullShare.left | 2 => fullShare.right.left | 3 => fullShare.right.right

abbrev xsPts (c : Dev nD) (b : Fin 2) (q : PosShare TreeShare) (f : S2x128x512.Idx → Elt F .bf16) : sProp 𝕄 :=
  (xsV b).view.loc (c : Thread nD τ) ↦[(xsV b).view.set]{q} f
abbrev xgPts (c : Dev nD) (d : Fin 4) (b : Fin 2) (f : S4x2x128x512.Idx → Elt F .bf16) : sProp 𝕄 :=
  (xgV d b).view.loc (c : Thread nD τ) ↦[(xgV d b).view.set]{fullShare} f
abbrev ysPts (c : Dev nD) (d : Fin 4) (b : Fin 2) (f : S4x2x128x512.Idx → Elt F .bf16) : sProp 𝕄 :=
  (ysV d b).view.loc (c : Thread nD τ) ↦[(ysV d b).view.set]{fullShare} f
abbrev yrPts (c : Dev nD) (d : Fin 4) (b : Fin 2) (f : S4x2x128x512.Idx → Elt F .bf16) : sProp 𝕄 :=
  (yrV d b).view.loc (c : Thread nD τ) ↦[(yrV d b).view.set]{fullShare} f

/-- A gather transfer leaves in the target slot what `XG` names. -/
theorem gather_landed (c : Dev nD) (d : Fin 4) (b : Fin 2) (fd : S4x2x128x512.Idx → Elt F .bf16) :
    xgPts (peer c d.val) d b ((xgV d b).view.write (Elt F) fd ((xsV b).view.read (Elt F) (X c)) Finset.univ)
      = (xgPts (peer c d.val) d b (XG X (peer c d.val)) : sProp 𝕄) := by
  refine pointsTo_congr fun i hi => ?_
  obtain ⟨j, -, rfl⟩ := Finset.mem_map.mp hi
  rw [View.write_emb_of_mem (h := Finset.mem_univ j), xg_emb]
  show X c ((xsV b).view.emb j) = XG X (peer c d.val) (at4 d b j)
  rw [xs_emb]
  show X c (at3 b j) = X (peer (peer c d.val) (neg4 d).val) _
  rw [peer_neg4]
  congr 1

/-- A scatter transfer leaves in the target slot what `YR` names. -/
theorem scatter_landed (c : Dev nD) (d : Fin 4) (b : Fin 2) (fd : S4x2x128x512.Idx → Elt F .bf16) :
    yrPts (peer c (neg4 d).val) d b ((yrV d b).view.write (Elt F) fd ((ysV d b).view.read (Elt F) (Y c)) Finset.univ)
      = (yrPts (peer c (neg4 d).val) d b (YR Y (peer c (neg4 d).val)) : sProp 𝕄) := by
  refine pointsTo_congr fun i hi => ?_
  obtain ⟨j, -, rfl⟩ := Finset.mem_map.mp hi
  rw [View.write_emb_of_mem (h := Finset.mem_univ j), yr_emb]
  show Y c ((ysV d b).view.emb j) = YR Y (peer c (neg4 d).val) (at4 d b j)
  rw [ys_emb]
  show Y c (at4 d b j) = Y (peer (peer c (neg4 d).val) d.val) (at4 d b j)
  rw [peer_neg4']

/-! ## The schedule -/

/-- What a landing slot of batch `b` on device `p` is when handed over: at any contents, its target cell at round 0. -/
def xgRoom (p : Dev nD) (d : Fin 4) (b : Fin 2) : sProp 𝕄 :=
  iprop((∃ f, xgPts p d b f) ∗ reached ER (dcell 1 d b p) 0)
def yrRoom (p : Dev nD) (d : Fin 4) (b : Fin 2) : sProp 𝕄 :=
  iprop((∃ f, yrPts p d b f) ∗ reached ER (dcell 3 d b p) 0)

/-- The four slots device `p` lends the device `d` places before it. -/
def lent (p : Dev nD) (d : Fin 4) : sProp 𝕄 :=
  iprop(xgRoom p d 0 ∗ xgRoom p d 1 ∗ yrRoom p (neg4 d) 0 ∗ yrRoom p (neg4 d) 1)

/-- Paid to device `c`'s barrier cell by the device `e` places after it: the four slots there that `c` will write. -/
def barPay (c : Dev nD) (e : Fin 4) : sProp 𝕄 := lent (peer c e.val) e

/-- Paid to a transfer's cell `(d, b)` of array `a` on device `c`. -/
def slotPay (c : Dev nD) (a d : Fin 4) (b : Fin 2) : sProp 𝕄 :=
  match a with
  | 0 => xsPts c b (share d) (X c)
  | 1 => xgPts c d b (XG X c)
  | 2 => ysPts c d b (Y c)
  | 3 => yrPts c d b (YR Y c)

/-- The cells that take part: those of TensorCores. -/
def cellDuties (sm : SemLoc sig) : Finset (Fin 4) :=
  match sm with
  | .reg _ => {1, 2, 3}
  | .dma n => if 6 ≤ n.val ∧ distOf n ≠ 0 then {0} else ∅

def ringRd : Rounds.Schedule (GSem nD τ sig) (Fin 4) 𝕄 where
  duties g r := if r = 0 ∧ g.1.2 = .tc then cellDuties g.2 else ∅
  unitless _ := False
  amount g _ _ := match g.2 with | .reg _ => 1 | .dma _ => N
  payload g _ e := match g.2 with
    | .reg _ => barPay g.1.1 e
    | .dma n => slotPay X Y g.1.1 (arrOf n) (distOf n) (batOf n)
  amount_pos g _ _ _ := by
    rcases g with ⟨t, sm⟩
    cases sm with
    | reg s => exact Nat.one_pos
    | dma n => exact N_pos

instance slotPay_storable (c : Dev nD) (a d : Fin 4) (b : Fin 2) : BI.Storable (upEmb : UEmb _ 𝕄) (slotPay X Y c a d b) := by
  unfold slotPay; split <;> infer_instance

instance barPay_storable (c : Dev nD) (e : Fin 4) : BI.Storable (upEmb : UEmb _ 𝕄) (barPay (F := F) c e) := by
  unfold barPay lent xgRoom yrRoom; infer_instance

instance ringRd_payload_storable (g : GSem nD τ sig) (r : ℕ) (e : Fin 4) :
    BI.Storable (upEmb : UEmb _ 𝕄) ((ringRd X Y).payload g r e) := by
  rcases g with ⟨t, sm⟩
  cases sm with
  | reg s => exact barPay_storable t.1 e
  | dma n => exact slotPay_storable X Y t.1 _ _ _

section Tables

variable (c : Dev nD) (a d : Fin 4) (b : Fin 2)

theorem duties_bar : (ringRd X Y).duties (barCell c) 0 = {1, 2, 3} := by
  show (if 0 = 0 ∧ (barCell c).1.2 = .tc then cellDuties (barCell c).2 else ∅) = {1, 2, 3}
  rw [if_pos ⟨rfl, rfl⟩]; rfl
theorem duties_dma (hd : d ≠ 0) : (ringRd X Y).duties (dcell a d b c) 0 = {0} := by
  show (if 0 = 0 ∧ (dcell a d b c).1.2 = .tc then cellDuties (dcell a d b c).2 else ∅) = {0}
  rw [if_pos ⟨rfl, rfl⟩]
  show (if 6 ≤ (dsem a d b).val ∧ distOf (dsem a d b) ≠ 0 then ({0} : Finset (Fin 4)) else ∅) = {0}
  rw [if_pos ⟨six_le_dsem a d b, by rw [distOf_dsem]; exact hd⟩]
theorem duties_idle : ∀ r, (ringRd X Y).duties (dcell a 0 b c) r = ∅ := by
  intro r
  show (if r = 0 ∧ _ then (if 6 ≤ (dsem a 0 b).val ∧ distOf (dsem a 0 b) ≠ 0 then ({0} : Finset (Fin 4)) else ∅) else ∅) = ∅
  rw [if_neg (c := 6 ≤ (dsem a 0 b).val ∧ distOf (dsem a 0 b) ≠ 0) (by rw [distOf_dsem]; exact fun h => h.2 rfl), ite_self]
theorem duties_later (g : GSem nD τ sig) : ∀ r, 1 ≤ r → (ringRd X Y).duties g r = ∅ :=
  fun r hr => if_neg fun h => by omega

theorem amount_bar (e : Fin 4) : (ringRd X Y).amount (barCell c) 0 e = 1 := rfl
theorem amount_dma (e : Fin 4) : (ringRd X Y).amount (dcell a d b c) 0 e = N := rfl

theorem expect_bar : (ringRd X Y).expect (barCell c) 0 = 3 := by
  unfold Schedule.expect Schedule.amountOf; rw [duties_bar]; rfl
theorem expect_dma (hd : d ≠ 0) : (ringRd X Y).expect (dcell a d b c) 0 = N := by
  unfold Schedule.expect Schedule.amountOf; rw [duties_dma X Y c a d b hd, Finset.sum_singleton, amount_dma]

theorem payload_bar (e : Fin 4) : (ringRd X Y).payload (barCell c) 0 e = barPay c e := rfl
theorem payload_dma (e : Fin 4) : (ringRd X Y).payload (dcell a d b c) 0 e = slotPay X Y c a d b := by
  show slotPay X Y c (arrOf (dsem a d b)) (distOf (dsem a d b)) (batOf (dsem a d b)) = _
  rw [arrOf_dsem, distOf_dsem, batOf_dsem]

theorem rest_bar : bigSep ((ringRd X Y).duties (barCell c) 0 \ ∅) (fun e => (ringRd X Y).payload (barCell c) 0 e)
    = iprop(barPay c 1 ∗ barPay c 2 ∗ barPay c 3) := by
  rw [Finset.sdiff_empty, duties_bar, show ({1, 2, 3} : Finset (Fin 4)) = insert 1 (insert 2 {3}) from rfl,
    bigSep_insert (by decide), bigSep_insert (by decide), bigSep_singleton]
  rfl
theorem rest_dma (hd : d ≠ 0) :
    bigSep ((ringRd X Y).duties (dcell a d b c) 0 \ ∅) (fun e => (ringRd X Y).payload (dcell a d b c) 0 e)
      = slotPay X Y c a d b := by
  rw [Finset.sdiff_empty, duties_dma X Y c a d b hd, bigSep_singleton, payload_dma]

end Tables

/-! ## What each device owes, in the order it pays -/

/-- The tally of a list of dues. -/
def dues : List (GSem nD τ sig × ℕ) → CellTallies nD τ sig Unit
  | [] => 0
  | x :: l => dues l + tallyAt x.1 () x.2

theorem dues_pos (l : List (GSem nD τ sig × ℕ)) (g : GSem nD τ sig) (u : Unit) (h : 0 < dues l g u) : ∃ x ∈ l, x.1 = g := by
  induction l with
  | nil => exact absurd h (Nat.lt_irrefl 0)
  | cons x l ih =>
    have h' : 0 < dues l g u + (tallyAt x.1 () x.2 : CellTallies nD τ sig Unit) g u := h
    by_cases hx : x.1 = g
    · exact ⟨x, List.mem_cons_self, hx⟩
    · rw [tallyAt_apply, if_neg (fun e => hx e.1.symm), Nat.add_zero] at h'
      obtain ⟨y, hy, e⟩ := ih h'
      exact ⟨y, List.mem_cons_of_mem _ hy, e⟩

/-- The order of the transfers. -/
abbrev gatherOrder : List (Fin 4 × Fin 2) := [(1, 0), (1, 1), (2, 0), (2, 1), (3, 0), (3, 1)]
abbrev scatterOrder : List (Fin 4 × Fin 2) := [(1, 0), (1, 1), (3, 0), (3, 1), (2, 0), (2, 1)]

/-- A due of each kind: the barrier unit of the device `d` places on, the credit of a gather's target, of a scatter's. -/
def barDue (c : Dev nD) (d : Fin 4) : GSem nD τ sig × ℕ := (barCell (peer c d.val), 1)
def gatherDue (c : Dev nD) (t : Fin 4 × Fin 2) : GSem nD τ sig × ℕ := (dcell 1 t.1 t.2 (peer c t.1.val), N)
def scatterDue (c : Dev nD) (t : Fin 4 × Fin 2) : GSem nD τ sig × ℕ := (dcell 3 t.1 t.2 (peer c (neg4 t.1).val), N)

def O₀ (c : Dev nD) : CellTallies nD τ sig Unit :=
  dues ([1, 2, 3].map (barDue c) ++ (gatherOrder.map (gatherDue c) ++ scatterOrder.map (scatterDue c)))

/-! ## Levels -/

def L (g : GSem nD τ sig) : Finset Unit := if g.1.2 = .tc then {()} else ∅
/-- Barrier cells at 1, the gather's target cells at 2, the scatter's at 3, every other at 0. -/
def level (sm : SemLoc sig) : ℕ :=
  match sm with
  | .reg _ => 1
  | .dma n => if arrOf n = 1 then 2 else if arrOf n = 3 then 3 else 0
def lv (g : GSem nD τ sig) (_ : Unit) : ℕ := level g.2

theorem L_of_ne (g : GSem nD τ sig) (h : g.1.2 ≠ .tc) : L g = ∅ := if_neg h
theorem L_tc (c : Dev nD) (sm : SemLoc sig) : L ((c : Thread nD τ), sm) = {()} := if_pos rfl

theorem level_dsem (a d : Fin 4) (b : Fin 2) : level (.dma (dsem a d b)) = if a = 1 then 2 else if a = 3 then 3 else 0 := by
  show (if arrOf (dsem a d b) = 1 then 2 else if arrOf (dsem a d b) = 3 then 3 else 0) = _
  rw [arrOf_dsem]

/-- A list of dues all at a level above `n`, all on TensorCores. -/
def Above (n : ℕ) (l : List (GSem nD τ sig × ℕ)) : Prop := ∀ x ∈ l, x.1.1.2 = .tc ∧ n < level x.1.2

theorem above_nil (n : ℕ) : Above n [] := fun _ h => absurd h List.not_mem_nil
theorem above_scatter (c : Dev nD) (n : ℕ) (hn : n < 3) (l : List (Fin 4 × Fin 2)) : Above n (l.map (scatterDue c)) := by
  intro x hx
  obtain ⟨t, -, rfl⟩ := List.mem_map.mp hx
  exact ⟨rfl, by rw [scatterDue, level_dsem]; exact hn⟩
theorem above_gather (c : Dev nD) (n : ℕ) (hn : n < 2) (l : List (Fin 4 × Fin 2)) : Above n (l.map (gatherDue c)) := by
  intro x hx
  obtain ⟨t, -, rfl⟩ := List.mem_map.mp hx
  exact ⟨rfl, by rw [gatherDue, level_dsem]; exact hn⟩
theorem above_bar (c : Dev nD) (n : ℕ) (hn : n < 1) (l : List (Fin 4)) : Above n (l.map (barDue c)) := by
  intro x hx
  obtain ⟨t, -, rfl⟩ := List.mem_map.mp hx
  exact ⟨rfl, hn⟩
theorem above_append (n : ℕ) (l l' : List (GSem nD τ sig × ℕ)) (h : Above n l) (h' : Above n l') : Above n (l ++ l') :=
  fun x hx => (List.mem_append.mp hx).elim (h x) (h' x)

/-- A device may wait on a cell below everything it still owes. -/
theorem mayWait (c : Dev nD) (sm : SemLoc sig) (l : List (GSem nD τ sig × ℕ)) (h : Above (level sm) l) :
    (levAts L lv : sProp 𝕄) ⊢ MayWait (c : Thread nD τ) sm () (dues l) :=
  MayOwe.of_cut (L := L) (lev := lv) (level sm)
    (fun p hp => by rw [Finset.mem_singleton.mp hp, L_tc]; exact Finset.mem_singleton_self _)
    (fun g u hg => by
      obtain ⟨x, hx, rfl⟩ := dues_pos l g u hg
      rw [L, if_pos (h x hx).1]; exact Finset.mem_singleton_self _)
    (fun p hp => by rw [Finset.mem_singleton.mp hp]; exact le_refl _)
    (fun g u hg => by
      obtain ⟨x, hx, rfl⟩ := dues_pos l g u hg
      exact (h x hx).2)

/-! ## What a device holds of one cell -/

section Gear

variable (K : GSem nD τ sig → ℕ) (c : Dev nD)

/-- A cell's invariant at the name it was allocated at. -/
abbrev inv (g : GSem nD τ sig) : sProp 𝕄 := cellInv ER (ringRd X Y) (K g) g

/-- A barrier duty to pay: to the device `d` places on, as the device `-d` places after it. -/
def ringer (d : Fin 4) : sProp 𝕄 :=
  iprop(inv X Y K (barCell (peer c d.val)) ∗ reached ER (barCell (peer c d.val)) 0 ∗ dutyTok ER (barCell (peer c d.val)) 0 (neg4 d))
/-- The own barrier cell, to be waited on for all three. -/
def listener : sProp 𝕄 :=
  iprop(inv X Y K (barCell c) ∗ atPos ER (barCell c) 0 ∅ 0 ∗ cred (tallyAt (barCell c) () 3))
/-- A source cell before its transfer is enqueued. -/
def sender (a d : Fin 4) (b : Fin 2) : sProp 𝕄 :=
  iprop(inv X Y K (dcell a d b c) ∗ atPos ER (dcell a d b c) 0 ∅ 0 ∗ reached ER (dcell a d b c) 0 ∗ dutyTok ER (dcell a d b c) 0 0)
/-- A target cell on the device `p` the transfer is addressed to. -/
def target (a d : Fin 4) (b : Fin 2) (p : Dev nD) : sProp 𝕄 :=
  iprop(inv X Y K (dcell a d b p) ∗ dutyTok ER (dcell a d b p) 0 0)
/-- An own cell ready to be waited on. -/
def armed (a d : Fin 4) (b : Fin 2) : sProp 𝕄 :=
  iprop(inv X Y K (dcell a d b c) ∗ atPos ER (dcell a d b c) 0 ∅ 0 ∗ cred (tallyAt (dcell a d b c) () N))
/-- An own cell after its wait. -/
def spent (a d : Fin 4) (b : Fin 2) : sProp 𝕄 :=
  iprop(inv X Y K (dcell a d b c) ∗ atPos ER (dcell a d b c) 1 ∅ 0)

end Gear

end Cert.KernelIdeal.Proof

end
-- ==== Proof.Steps.lean ====
/-
  One lemma for each kind of statement by which the devices talk — the barrier's signals and wait, a gather transfer, a
  scatter transfer, the wait on a transfer's cell — each in terms of what a device holds of the cells concerned.
-/
module

public import proofs.«01_k».proof.Proof.Schedule

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → S2x128x512.Idx → Elt F .bf16) (Y : Dev nD → S4x2x128x512.Idx → Elt F .bf16)
variable (K : GSem nD τ sig → ℕ) (c : Dev nD)

/-- What a device owes, whatever waits it has made. -/
def owed (l : List (GSem nD τ sig × ℕ)) : sProp 𝕄 := iprop(∃ W : Waits sig Unit, owes (c : Thread nD τ) (dues l) W)

/-- A signal to the barrier of the device `d` places on, lending it this device's four slots. -/
theorem step_signal (d : Fin 4) (hd : d ≠ 0) (n : Dev nD) (hn : n = peer c d.val) (u : ℕ) (hu : u = 1)
    (l : List (GSem nD τ sig × ℕ))
    {α : Type} {Q : α → sProp 𝕄} {k : PUnit → Prog (TpuEff nD τ sig (Elt F) Λ₀ .tc) α} :
    iprop(ringer X Y K c d ∗ lent c (neg4 d) ∗ owed c (barDue c d :: l))
      ⊢ iprop((owed c l -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS u) k) Q) := by
  subst hn hu
  unfold ringer owed
  iintro ⟨⟨#Hi, #Hr, Htok⟩, Hl, ⟨%W, HO⟩⟩ Hk
  iapply (Rounds.wp_signal 𝒱₀ ER (ringRd X Y) (c : Thread nD τ) none (dst := (peer c d.val : Thread nD τ)) (sem := barS)
      (r := 0) (d := neg4 d) (κ := K (barCell (peer c d.val)))
      (by rw [duties_bar]; revert d; decide) (amount_bar X Y (peer c d.val) (neg4 d)) () (dues l) rfl)
    $$ [HO Htok Hl]
  · isplitr; · iexact Hi
    isplitl [HO]; · iexact HO
    isplitl [Htok]; · iexact Htok
    isplitl [Hl]
    · rw [payload_bar, barPay, peer_neg4]; iexact Hl
    · iexact Hr
  iintro HO
  iapply Hk
  iexists W
  iexact HO

/-- The wait on the own barrier for the three others' signals: every slot this device will write is lent to it. -/
theorem step_barrier (u : ℕ) (hu : u = 3) (l : List (GSem nD τ sig × ℕ)) (hl : Above 1 l)
    {α : Type} {Q : α → sProp 𝕄} {k : PUnit → Prog (TpuEff nD τ sig (Elt F) Λ₀ .tc) α} :
    iprop(levAts L lv ∗ listener X Y K c ∗ owed c l)
      ⊢ iprop(((owed c l ∗ (inv X Y K (barCell c) ∗ atPos ER (barCell c) 1 ∅ 0)
              ∗ (lent (peer c 1) 1 ∗ lent (peer c 2) 2 ∗ lent (peer c 3) 3))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS u) k) Q) := by
  subst hu
  unfold listener owed
  iintro ⟨#Hlev, ⟨#Hi, Hat, Hc⟩, ⟨%W, HO⟩⟩ Hk
  iapply (Rounds.wp_wait_rest_token 𝒱₀ ER (ringRd X Y) (c : Thread nD τ) none (κ := K (barCell c))
      (wpE_semWait_eq 𝒱₀ (c : Thread nD τ) none Set.univ) (Set.mem_univ _) () (O := dues l) (W := W) (R := 0) (m := 0) (T := ∅)
      ((Nat.zero_add 3).trans (expect_bar X Y c).symm)) $$ [Hc HO Hat]
  · isplitr; · iexact Hi
    isplitl [Hc]; · iexact Hc
    isplitl [HO]; · iexact HO
    isplitr; · iapply (mayWait c (.reg barS) l hl); iexact Hlev
    iexact Hat
  iintro ⟨HO, Hat, -, Hpay⟩
  ihave Hp := (Entails.of_eq (rest_bar X Y c)) $$ Hpay
  unfold barPay
  icases Hp with ⟨H1, H2, H3⟩
  iapply Hk
  isplitl [HO]
  · iexists _; iexact HO
  isplitl [Hat]
  · isplitr; · iexact Hi
    iexact Hat
  isplitl [H1]; · iexact H1
  isplitl [H2]; · iexact H2
  iexact H3

/-- A gather transfer: batch `b` of the own block to slot `(d, b)` of the device `d` places on. -/
theorem step_gather (d : Fin 4) (b : Fin 2) (hd : d ≠ 0) (n : Dev nD) (hn : n = peer c d.val)
    {hsc : (xgV d b).view.ref.isScScratch = false} {hsrc : (xsV b).view.WordExact} {hdst : (xgV d b).view.WordExact}
    (s₁ s₂ : DmaSem sig) (h₁ : s₁ = dsem 0 d b) (h₂ : s₂ = dsem 1 d b)
    {hsem : DmaTarget.Typed .vmem (.dma s₂) (.remote (Dev.tc n : Thread nD τ) (xgV d b) (.dma s₁) hsc)}
    (l : List (GSem nD τ sig × ℕ))
    {α : Type} {Q : α → sProp 𝕄} {k : PUnit → Prog (TpuEff nD τ sig (Elt F) Λ₀ .tc) α} :
    iprop(sender X Y K c 0 d b ∗ target X Y K 1 d b (peer c d.val) ∗ xgRoom (peer c d.val) d b ∗ xsPts c b (share d) (X c)
        ∗ owed c (gatherDue c (d, b) :: l))
      ⊢ iprop(((armed X Y K c 0 d b ∗ owed c l)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xsV b) (.remote (Dev.tc n : Thread nD τ) (xgV d b) (.dma s₁) hsc) (.dma s₂) hsrc hdst hsem) k) Q) := by
  subst hn h₁ h₂
  unfold sender target xgRoom owed
  iintro ⟨⟨#Hi, Hat, #Hr, Ht⟩, ⟨#Hi', Ht'⟩, ⟨⟨%f, Hg⟩, #Hr'⟩, Hx, ⟨%W, HO⟩⟩ Hk
  iapply (Rounds.wp_send_pointsTo 𝒱₀ ER (ringRd X Y) (c : Thread nD τ) none (c' := (peer c d.val : Thread nD τ))
      (src := xsV b) (dst := xgV d b) (sS := .dma (dsem 0 d b)) (sem := .dma (dsem 1 d b)) (q := share d) (fs := X c)
      (κ₁ := K (dcell 0 d b c)) (κ₂ := K (dcell 1 d b (peer c d.val))) (r₁ := 0) (r₂ := 0) (d₁ := 0) (d₂ := 0) (fd := f)
      (by rw [duties_dma X Y c 0 d b hd]; exact Finset.mem_singleton_self _)
      (by rw [duties_dma X Y (peer c d.val) 1 d b hd]; exact Finset.mem_singleton_self _)
      () () N rfl (amount_dma X Y c 0 d b 0) (amount_dma X Y (peer c d.val) 1 d b 0) (dues l) rfl (W := W)
      (by rw [payload_dma]; exact BI.Entails.refl _)
      (by rw [payload_dma]; exact Entails.of_eq (gather_landed X c d b f))) $$ [Hx Hg HO Ht Ht']
  · isplitr; · iexact Hi
    isplitr; · iexact Hi'
    isplitl [Hx]; · iexact Hx
    isplitl [Hg]; · iexact Hg
    isplitl [HO]; · iexact HO
    isplitl [Ht]; · iexact Ht
    isplitr; · iexact Hr
    isplitl [Ht']; · iexact Ht'
    iexact Hr'
  iintro ⟨Hc, HO⟩
  iapply Hk
  unfold armed
  isplitl [Hat Hc]
  · isplitr; · iexact Hi
    isplitl [Hat] <;> iassumption
  iexists W
  iexact HO

/-- A scatter transfer: the partial result in slot `(d, b)` back to the device `d` places before. -/
theorem step_scatter (d : Fin 4) (b : Fin 2) (hd : d ≠ 0) (n : Dev nD) (hn : n = peer c (neg4 d).val)
    {hsc : (yrV d b).view.ref.isScScratch = false} {hsrc : (ysV d b).view.WordExact} {hdst : (yrV d b).view.WordExact}
    (s₁ s₂ : DmaSem sig) (h₁ : s₁ = dsem 2 d b) (h₂ : s₂ = dsem 3 d b)
    {hsem : DmaTarget.Typed .vmem (.dma s₂) (.remote (Dev.tc n : Thread nD τ) (yrV d b) (.dma s₁) hsc)}
    (l : List (GSem nD τ sig × ℕ))
    {α : Type} {Q : α → sProp 𝕄} {k : PUnit → Prog (TpuEff nD τ sig (Elt F) Λ₀ .tc) α} :
    iprop(sender X Y K c 2 d b ∗ target X Y K 3 d b (peer c (neg4 d).val) ∗ yrRoom (peer c (neg4 d).val) d b ∗ ysPts c d b (Y c)
        ∗ owed c (scatterDue c (d, b) :: l))
      ⊢ iprop(((armed X Y K c 2 d b ∗ owed c l)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ysV d b) (.remote (Dev.tc n : Thread nD τ) (yrV d b) (.dma s₁) hsc) (.dma s₂) hsrc hdst hsem) k) Q) := by
  subst hn h₁ h₂
  unfold sender target yrRoom owed
  iintro ⟨⟨#Hi, Hat, #Hr, Ht⟩, ⟨#Hi', Ht'⟩, ⟨⟨%f, Hg⟩, #Hr'⟩, Hx, ⟨%W, HO⟩⟩ Hk
  iapply (Rounds.wp_send_pointsTo 𝒱₀ ER (ringRd X Y) (c : Thread nD τ) none (c' := (peer c (neg4 d).val : Thread nD τ))
      (src := ysV d b) (dst := yrV d b) (sS := .dma (dsem 2 d b)) (sem := .dma (dsem 3 d b)) (q := fullShare) (fs := Y c)
      (κ₁ := K (dcell 2 d b c)) (κ₂ := K (dcell 3 d b (peer c (neg4 d).val))) (r₁ := 0) (r₂ := 0) (d₁ := 0) (d₂ := 0) (fd := f)
      (by rw [duties_dma X Y c 2 d b hd]; exact Finset.mem_singleton_self _)
      (by rw [duties_dma X Y (peer c (neg4 d).val) 3 d b hd]; exact Finset.mem_singleton_self _)
      () () N rfl (amount_dma X Y c 2 d b 0) (amount_dma X Y (peer c (neg4 d).val) 3 d b 0) (dues l) rfl (W := W)
      (by rw [payload_dma]; exact BI.Entails.refl _)
      (by rw [payload_dma]; exact Entails.of_eq (scatter_landed Y c d b f))) $$ [Hx Hg HO Ht Ht']
  · isplitr; · iexact Hi
    isplitr; · iexact Hi'
    isplitl [Hx]; · iexact Hx
    isplitl [Hg]; · iexact Hg
    isplitl [HO]; · iexact HO
    isplitl [Ht]; · iexact Ht
    isplitr; · iexact Hr
    isplitl [Ht']; · iexact Ht'
    iexact Hr'
  iintro ⟨Hc, HO⟩
  iapply Hk
  unfold armed
  isplitl [Hat Hc]
  · isplitr; · iexact Hi
    isplitl [Hat] <;> iassumption
  iexists W
  iexact HO

/-- The wait on the own cell `(d, b)` of array `a`: what its transfer hands over. -/
theorem step_wait (a d : Fin 4) (b : Fin 2) (hd : d ≠ 0) {sp sp' : Space} {s s' : Shape} {e e' : EltTy}
    (s₁ : DmaSem sig) (h₁ : s₁ = dsem a d b)
    {src : Memref sig .tc sp' s' e'} {dst : Memref sig .tc sp s e} {hsrc : src.view.WordExact} {hdst : dst.view.WordExact}
    (hN : dst.view.dmaCredit = N) (l : List (GSem nD τ sig × ℕ)) (hl : Above (level (.dma (dsem a d b))) l)
    {α : Type} {Q : α → sProp 𝕄} {k : PUnit → Prog (TpuEff nD τ sig (Elt F) Λ₀ .tc) α} :
    iprop(levAts L lv ∗ armed X Y K c a d b ∗ owed c l)
      ⊢ iprop(((owed c l ∗ spent X Y K c a d b ∗ slotPay X Y c a d b)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s₁ src dst hsrc hdst) k) Q) := by
  subst h₁
  unfold armed spent owed
  iintro ⟨#Hlev, ⟨#Hi, Hat, Hc⟩, ⟨%W, HO⟩⟩ Hk
  iapply (Rounds.wp_wait_rest_token 𝒱₀ ER (ringRd X Y) (c : Thread nD τ) none (κ := K (dcell a d b c))
      (wpE_waitDma2_eq 𝒱₀ (c : Thread nD τ) none Set.univ) (Set.mem_univ _) () (O := dues l) (W := W) (R := 0) (m := 0) (T := ∅)
      (by rw [Nat.zero_add, expect_dma X Y c a d b hd, hN])) $$ [Hc HO Hat]
  · isplitr; · iexact Hi
    isplitl [Hc]; · rw [hN]; iexact Hc
    isplitl [HO]; · iexact HO
    isplitr; · iapply (mayWait c (.dma (dsem a d b)) l hl); iexact Hlev
    iexact Hat
  iintro ⟨HO, Hat, -, Hpay⟩
  ihave Hp := (Entails.of_eq (rest_dma X Y c a d b hd)) $$ Hpay
  iapply Hk
  isplitl [HO]
  · iexists _; iexact HO
  isplitl [Hat]
  · isplitr; · iexact Hi
    iexact Hat
  iexact Hp

end Cert.KernelIdeal.Proof

end
-- ==== Proof.Halves.lean ====
/-
  What a device computes from one batch of a block of `x`: the queries, one head's attention, the eight heads side by side,
  the product with the output weights. And the reads and writes of a device's own buffers, by what they leave.
-/
module

public import proofs.«01_k».proof.Proof.Steps

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The values -/

/-- The queries of one batch of a block: the block times the query weights, an eighth of it, rounded. -/
def qOf (xb : FVec F S128x512 .bf16) (wq : FVec F S512x512 .bf16) : FVec F S128x512 .bf16 :=
  truncf .bf16 (mulf (matmul dot_S128x512_S512x512_S128x512_1_0_0_1_n_n none xb wq (constant S128x512 .f32 0x00000000#32))
    (broadcast S128x512 (Scalar.ofBits .f32 0x3E000000#32))) bitsLt_bf16_f32

theorem slices_col (h : Fin 8) : S128x512.Slices ![0, 64 * h.val] S128x64 := by
  revert h; decide

/-- The exponentials of one head's scores. -/
def expOf (h : Fin 8) (q : FVec F S128x512 .bf16) (k : FVec F S64x128 .bf16) : FVec F S128x128 .f32 :=
  exp (matmul dot_S128x64_S64x128_S128x128_1_0_0_1_n_n none (extractStridedSlice S128x64 ![0, 64 * h.val] q (slices_col h)) k
    (constant S128x128 .f32 0x00000000#32))

/-- One head: the exponentials times the values, over the exponentials' row sums. -/
def headO (h : Fin 8) (q : FVec F S128x512 .bf16) (k v : FVec F S64x128 .bf16) : FVec F S128x64 .f32 :=
  shapeCast S128x64 (divf
    (matmul dot_S128x128_S64x128_S128x64_1_1_0_0_n_n none (truncf .bf16 (expOf h q k) bitsLt_bf16_f32) v
      (constant S128x64 .f32 0x00000000#32))
    (broadcastTo S128x64 (shapeCast S128x1
      (multiReduction .add [1] S128 (expOf h q k) 0x00000000#32 reduces_S128x128_S128 (.inl rfl) rfl)
      shapeCasts_S128_S128x1) broadcasts_S128x1_S128x64)) shapeCasts_S128x64_S128x64

/-- Eight blocks of 64 columns side by side. -/
def joined (p : Fin 8 → FVec F S128x64 .f32) : FVec F S128x512 .f32 := fun i =>
  p ⟨(i 1).val / 64, Nat.div_lt_of_lt_mul (i 1).isLt⟩
    (fun a => match a with | 0 => i 0 | 1 => ⟨(i 1).val % 64, Nat.mod_lt _ (by decide)⟩)

/-- The eight heads' results times the output weights. -/
def yOf (q : FVec F S128x512 .bf16) (wo : FVec F S512x512 .bf16) (k v : Fin 8 → FVec F S64x128 .bf16) : FVec F S128x512 .f32 :=
  matmul dot_S128x512_S512x512_S128x512_1_0_0_1_n_n none
    (truncf .bf16 (joined fun h => headO h q (k h) (v h)) bitsLt_bf16_f32) wo (constant S128x512 .f32 0x00000000#32)

/-! ## Boxes -/

theorem inb_head (b : Fin 2) (h : Fin 8) :
    ∀ a, (![b.val, h.val, 0, 0] : Fin 4 → ℕ) a + S1x1x64x128.size a ≤ S2x8x64x128.size a := by revert b h; decide
theorem inb_col (h : Fin 8) : ∀ a, (![0, 64 * h.val] : Fin 2 → ℕ) a + S128x64.size a ≤ S128x512.size a := by
  revert h; decide

abbrev headR (b : Fin 2) (h : Fin 8) : Rect S2x8x64x128 :=
  Rect.unit (s := S2x8x64x128) ![b.val, h.val, 0, 0] S1x1x64x128.size (inb_head b h)
abbrev colR (h : Fin 8) : Rect S128x512 := Rect.unit (s := S128x512) ![0, 64 * h.val] S128x64.size (inb_col h)
abbrev allR : Rect S128x512 := Rect.unit (s := S128x512) ![0, 0] S128x512.size inb_S128x512_S128x512_0_0

/-- Head `h` of batch `b` of the keys or values. -/
def blk (f : S2x8x64x128.Idx → Elt F .bf16) (b : Fin 2) (h : Fin 8) : FVec F S64x128 .bf16 :=
  shapeCast S64x128 (fun j : S1x1x64x128.Idx => (f ((headR b h).emb j) : Elt F .bf16)) shapeCasts_S1x1x64x128_S64x128

/-- One block of 64 columns written to `o`. -/
abbrev col (h : Fin 8) (w : Vec F S128x64 .f32) : View.Piece (Elt F) S128x512 .f32 := ⟨colR h, w⟩
/-- The eight, the last first. -/
abbrev cols (p : Fin 8 → Vec F S128x64 .f32) : List (View.Piece (Elt F) S128x512 .f32) :=
  [col 7 (p 7), col 6 (p 6), col 5 (p 5), col 4 (p 4), col 3 (p 3), col 2 (p 2), col 1 (p 1), col 0 (p 0)]

/-- A block of columns is its part of the eight side by side. -/
theorem joined_col (p : Fin 8 → Vec F S128x64 .f32) (h : Fin 8) (x : S128x64.Idx) : p h x = joined p ((colR h).emb x) := by
  have h1 : ((colR h).emb x 1).val = 64 * h.val + (x 1).val := by
    rw [Rect.emb_apply]; show 64 * h.val + 1 * (x 1).val = _; omega
  have h0 : ((colR h).emb x 0).val = (x 0).val := by
    rw [Rect.emb_apply]; show 0 + 1 * (x 0).val = _; omega
  have hx : (x 1).val < 64 := (x 1).isLt
  have e1 : (⟨((colR h).emb x 1).val / 64, Nat.div_lt_of_lt_mul ((colR h).emb x 1).isLt⟩ : Fin 8) = h :=
    Fin.ext (show ((colR h).emb x 1).val / 64 = h.val by rw [h1]; omega)
  unfold joined
  rw [e1]
  refine congrArg (p h) (funext fun a => ?_)
  match a with
  | 0 => exact Fin.ext h0.symm
  | 1 => exact Fin.ext (show (x 1).val = ((colR h).emb x 1).val % 64 by rw [h1]; omega)

/-- The eight blocks written, `o` reads as them side by side. -/
theorem read_cols (p : Fin 8 → Vec F S128x64 .f32) (f : S128x512.Idx → Elt F .f32)
    (L : List (View.Piece (Elt F) S128x512 .f32)) :
    oM.view.readAt (Elt F) allR.toLoadRect (oM.view.writes (Elt F) f (cols p ++ L)) = joined p := by
  rw [View.writes_append]
  generalize oM.view.writes (Elt F) f L = g
  have hG : ∀ q ∈ cols p, ∀ x : q.1.shape.Idx, q.2 x = joined p (q.1.emb x) := by
    intro q hq x
    simp only [cols, List.mem_cons, List.not_mem_nil, or_false] at hq
    rcases hq with rfl | rfl | rfl | rfl | rfl | rfl | rfl | rfl <;> exact joined_col p _ x
  have hc : ∀ y : S128x512.Idx, ∃ q ∈ cols p, y ∈ q.1.set := View.cover_of_tiled (cols p) ![128, 64] rfl
  funext i
  have hz : allR.emb i = i := by
    funext a
    refine Fin.ext ?_
    rw [Rect.emb_apply]
    revert a
    exact Fin.forall_fin_two.mpr ⟨by show 0 + 1 * (i 0).val = _; omega, by show 0 + 1 * (i 1).val = _; omega⟩
  show oM.view.read (Elt F) _ (allR.emb i) = _
  rw [hz]
  exact View.read_writes_apply_of_pieces oM.view g (joined p) (cols p) hG i (hc i)

/-! ## Steps on the own buffers -/

variable (c : Dev nD)

/-- A load of a buffer held whole. -/
theorem step_load {sp : CoreSpace} {s : Shape} {e : EltTy} {m : Memref sig .tc sp s e} {r : LoadRect s}
    {hl : m.view.LoadsAt r} {q : PosShare TreeShare} {f : Buf (Elt F) (m.view.loc (c : Thread nD τ))}
    {α : Type} {Q : α → sProp 𝕄} {k : (r.shape.Idx → Elt F e) → Prog (TpuEff nD τ sig (Elt F) Λ₀ .tc) α} :
    (m.view.loc (c : Thread nD τ) ↦{q} f)
      ⊢ iprop(((m.view.loc (c : Thread nD τ) ↦{q} f)
            -∗ wp frame (wpE (defs₀ (F := F)) 𝒱₀ (c : Thread nD τ) none) Set.univ (k (m.view.readAt (Elt F) r f)) Q)
          -∗ wp frame (wpE (defs₀ (F := F)) 𝒱₀ (c : Thread nD τ) none) Set.univ (.op (.load m r hl) k) Q) :=
  wp_load 𝒱₀ (c : Thread nD τ) none Set.univ (Finset.subset_univ _)

/-- `o` of device `c` after the writes `L` over some contents `f`. -/
abbrev oPts (f : S128x512.Idx → Elt F .f32) (L : List (View.Piece (Elt F) S128x512 .f32)) : sProp 𝕄 :=
  oM.view.loc (c : Thread nD τ) ↦{fullShare} oM.view.writes (Elt F) f L

/-- A store to `o` is one more write. -/
theorem step_o {r : Rect S128x512} {w : r.shape.Idx → Elt F .f32} {hx : (oM.access r).Stores Finset.univ}
    {hm : Finset.univ = Finset.univ ∨ ∀ a, r.stride a = 1} (f : S128x512.Idx → Elt F .f32)
    (L : List (View.Piece (Elt F) S128x512 .f32))
    {α : Type} {Q : α → sProp 𝕄} {k : PUnit → Prog (TpuEff nD τ sig (Elt F) Λ₀ .tc) α} :
    oPts c f L
      ⊢ iprop((oPts c f (⟨r, w⟩ :: L)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM r w Finset.univ hx hm) k) Q) :=
  wp_store_writes (m := oM) (f := f) (L := L) 𝒱₀ (c : Thread nD τ) none Set.univ (Finset.subset_univ _)

end Cert.KernelIdeal.Proof

end
-- ==== Proof.Access.lean ====
/-
  The local steps of the body — a block of columns of `o`, a slot of an exchange buffer — and what the body reads: a batch of
  the block a device starts from, of a landed block, of a partial result that came back.
-/
module

public import proofs.«01_k».proof.Proof.Halves

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ## A program's end, a column of `o` -/

/-- Every transfer between slots counts the same. -/
theorem credit_eq (v : View sig .tc .vmem S128x512 .bf16) : v.dmaCredit = N := by
  show RefSig.tileCredit S128x512 .bf16 = RefSig.tileCredit S128x512 .bf16
  rfl

/-- A program that returns, the value named. -/
theorem step_end {α : Type} {P : sProp 𝕄} {Q : α → sProp 𝕄} {v' : α} (v : α) (h : v = v') (hP : P ⊢ Q v) :
    P ⊢ wp frame (wpE (defs₀ (F := F)) 𝒱₀ (c : Thread nD τ) none) Set.univ (.ret v') Q := by
  subst h
  simp only [wp_ret]
  iintro H
  imodintro
  iapply hP
  iexact H

/-- A load of `o` whose value is not used, followed by a store. -/
theorem step_col {r : LoadRect S128x512} {hl : oM.view.LoadsAt r} {r' : Rect S128x512} {w : r'.shape.Idx → Elt F .f32}
    {hx : (oM.access r').Stores Finset.univ} {hm : Finset.univ = Finset.univ ∨ ∀ a, r'.stride a = 1}
    (f : S128x512.Idx → Elt F .f32) (L : List (View.Piece (Elt F) S128x512 .f32))
    {α : Type} {Q : α → sProp 𝕄} {k : PUnit → Prog (TpuEff nD τ sig (Elt F) Λ₀ .tc) α} :
    oPts c f L
      ⊢ iprop((oPts c f (⟨r', w⟩ :: L)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM r hl) fun _ => .op (.store oM r' w Finset.univ hx hm) k) Q) := by
  iintro Ho Hk
  iapply (step_load c) $$ Ho; iintro Ho
  iapply (step_o c f L) $$ Ho; iintro Ho
  iapply Hk
  iexact Ho

/-! ## Slots of the exchange buffers -/

/-- A load of slot `(d, b)` of a buffer of slots, held through the slot. -/
theorem step_slot (m : Memref sig .tc .vmem S4x2x128x512 .bf16) (d : Fin 4) (b : Fin 2)
    {hl : m.view.LoadsAt (slotR d b).toLoadRect} {q : PosShare TreeShare} {f : Buf (Elt F) (m.view.loc (c : Thread nD τ))}
    {α : Type} {Q : α → sProp 𝕄} {k : (S1x1x128x512.Idx → Elt F .bf16) → Prog (TpuEff nD τ sig (Elt F) Λ₀ .tc) α} :
    (m.view.loc (c : Thread nD τ)
        ↦[((m.slice (slotR d b) (fun _ => rfl)).squeeze S128x512 squeezes_S1x1x128x512_S128x512).view.set]{q} f)
      ⊢ iprop(((m.view.loc (c : Thread nD τ)
          ↦[((m.slice (slotR d b) (fun _ => rfl)).squeeze S128x512 squeezes_S1x1x128x512_S128x512).view.set]{q} f)
            -∗ wp frame (wpE (defs₀ (F := F)) 𝒱₀ (c : Thread nD τ) none) Set.univ
                (k (m.view.readAt (Elt F) (slotR d b).toLoadRect f)) Q)
          -∗ wp frame (wpE (defs₀ (F := F)) 𝒱₀ (c : Thread nD τ) none) Set.univ
              (.op (.load m (slotR d b).toLoadRect hl) k) Q) :=
  wp_load 𝒱₀ (c : Thread nD τ) none Set.univ (by
    have h : ((m.slice (slotR d b) (fun _ => rfl)).squeeze S128x512 squeezes_S1x1x128x512_S128x512).view.set
        = (m.view.slice (slotR d b)).set := View.set_reshape _ _
    rw [h, View.set_slice]
    exact Finset.Subset.refl _)

theorem squeezed (d : Fin 4) (b : Fin 2) (x : S128x512.Idx → Elt F .bf16) (i : S128x512.Idx) :
    shapeCast S1x1x128x512 x shapeCasts_S128x512_S1x1x128x512 (Shape.reshapeEquiv numel_slot i) = x i := by
  show x (Shape.reshapeEquiv _ (Shape.reshapeEquiv _ i)) = x i
  rw [Shape.reshapeEquiv_reshapeEquiv, Shape.reshapeEquiv_self]

/-- A load of slot `(d, b)` of `ys` whose value is not used, then a store to it of the rows `y`. -/
theorem step_ys (Y : Dev nD → S4x2x128x512.Idx → Elt F .bf16) (d : Fin 4) (b : Fin 2) {f : S4x2x128x512.Idx → Elt F .bf16}
    {hl : ysM.view.LoadsAt (slotR d b).toLoadRect} {w : Vec F S1x1x128x512 .bf16}
    {hx : (ysM.access (slotR d b)).Stores Finset.univ} {hm : Finset.univ = Finset.univ ∨ ∀ a, (slotR d b).stride a = 1}
    (y : S128x512.Idx → Elt F .bf16) (hw : w = shapeCast S1x1x128x512 y shapeCasts_S128x512_S1x1x128x512)
    (hy : ∀ i, y i = Y c (at4 d b i))
    {α : Type} {Q : α → sProp 𝕄} {k : PUnit → Prog (TpuEff nD τ sig (Elt F) Λ₀ .tc) α} :
    ysPts c d b f
      ⊢ iprop((ysPts c d b (Y c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load ysM (slotR d b).toLoadRect hl) fun _ => .op (.store ysM (slotR d b) w Finset.univ hx hm) k) Q) := by
  have hset : (ysV d b).view.set = (ysM.access (slotR d b)).set := View.set_reshape _ _
  have hc : ysPts c d b ((ysM.access (slotR d b)).write (Elt F) f w Finset.univ) = (ysPts c d b (Y c) : sProp 𝕄) := by
    refine pointsTo_congr fun i hi => ?_
    obtain ⟨j, -, rfl⟩ := Finset.mem_map.mp hi
    show (ysM.access (slotR d b)).write (Elt F) f w Finset.univ ((ysM.access (slotR d b)).emb (Shape.reshapeEquiv numel_slot j)) = _
    rw [View.write_emb_of_mem (h := Finset.mem_univ _), ys_emb, hw, ← hy j]
    exact squeezed d b y j
  iintro Hy Hk
  iapply (step_slot c ysM d b) $$ Hy; iintro Hy
  iapply (wp_store 𝒱₀ (c : Thread nD τ) none Set.univ (m := ysM) (r := slotR d b) (Mk := Finset.univ) (subset_of_eq hset.symm)) $$ Hy
  iintro Hy
  iapply Hk
  ihave Hy' := (Entails.of_eq hc) $$ Hy
  iexact Hy'

/-! ## What is read -/

variable (X : Dev nD → S2x128x512.Idx → Elt F .bf16) (Y : Dev nD → S4x2x128x512.Idx → Elt F .bf16)

/-- Batch `b` of a block of `x`. -/
def rows (f : S2x128x512.Idx → Elt F .bf16) (b : Fin 2) : FVec F S128x512 .bf16 := fun i => f (at3 b i)

theorem slices_half (b : Fin 2) : S2x128x512.Slices ![b.val, 0, 0] S1x128x512 := by revert b; decide

/-- Batch `b` cut out of the block a device starts from. -/
theorem rows_own (f : S2x128x512.Idx → Elt F .bf16) (b : Fin 2) :
    shapeCast S128x512 (extractStridedSlice S1x128x512 ![b.val, 0, 0] f (slices_half b)) shapeCasts_S1x128x512_S128x512
      = rows f b := by
  funext i
  unfold rows
  rw [← half_emb]
  show f _ = f _
  congr 1
  funext a
  refine Fin.ext ?_
  rw [Rect.emb_apply]
  show (![b.val, 0, 0] : Fin 3 → ℕ) a + _ = (![b.val, 0, 0] : Fin 3 → ℕ) a + 1 * _
  rw [Nat.one_mul]
  rfl

/-- A slot read through its box and squeezed is the slot's elements. -/
theorem slot_rows (f : S4x2x128x512.Idx → Elt F .bf16) (d : Fin 4) (b : Fin 2) :
    shapeCast S128x512 (fun j : S1x1x128x512.Idx => f ((slotR d b).emb j)) shapeCasts_S1x1x128x512_S128x512
      = fun i => f (at4 d b i) := by
  funext i
  rw [← slot_emb]
  rfl

/-- A landed slot of `xg` is a batch of the block of the device it came from. -/
theorem rows_landed (d : Fin 4) (b : Fin 2) :
    shapeCast S128x512 (xgM.view.readAt (Elt F) (slotR d b).toLoadRect (XG X c)) shapeCasts_S1x1x128x512_S128x512
      = rows (X (peer c (neg4 d).val)) b := by
  refine (slot_rows (XG X c) d b).trans ?_
  funext i
  show X (peer c (neg4 d).val) _ = X (peer c (neg4 d).val) (at3 b i)
  congr 1

/-- A landed slot of `yr` is what the device it came from computed. -/
theorem rows_back (d : Fin 4) (b : Fin 2) :
    shapeCast S128x512 (yrM.view.readAt (Elt F) (slotR d b).toLoadRect (YR Y c)) shapeCasts_S1x1x128x512_S128x512
      = fun i => Y (peer c d.val) (at4 d b i) := slot_rows (YR Y c) d b

/-- The block that landed in slot `(d, b)` of `xg`, as it is loaded. -/
abbrev xgBlk (d : Fin 4) (b : Fin 2) : S1x1x128x512.Idx → Elt F .bf16 := xgM.view.readAt (Elt F) (slotR d b).toLoadRect (XG X c)
/-- The rows that came back to slot `(d, b)` of `yr`, as they are loaded. -/
abbrev yrBlk (d : Fin 4) (b : Fin 2) : S1x1x128x512.Idx → Elt F .bf16 := yrM.view.readAt (Elt F) (slotR d b).toLoadRect (YR Y c)

/-- What `o` holds after the writes `L`, rounded and multiplied by the output weights. -/
abbrev prodO (wo : FVec F S512x512 .bf16) (f : S128x512.Idx → Elt F .f32) (L : List (View.Piece (Elt F) S128x512 .f32)) :
    FVec F S128x512 .f32 :=
  matmul dot_S128x512_S512x512_S128x512_1_0_0_1_n_n none
    (truncf .bf16 (oM.view.readAt (Elt F) allR.toLoadRect (oM.view.writes (Elt F) f L)) bitsLt_bf16_f32) wo
    (constant S128x512 .f32 0x00000000#32)

/-- A batch's product, from `o` as its eight blocks of columns left it. -/
theorem y_cols (q : FVec F S128x512 .bf16) (wo : FVec F S512x512 .bf16) (k v : Fin 8 → FVec F S64x128 .bf16)
    (f : S128x512.Idx → Elt F .f32) (L : List (View.Piece (Elt F) S128x512 .f32)) :
    yOf q wo k v = prodO wo f (cols (fun h => headO h q (k h) (v h)) ++ L) := by
  unfold prodO
  rw [read_cols]; rfl

end Cert.KernelIdeal.Proof

end
-- ==== Proof.BodyStart.lean ====
/-
  The body's pieces up to its first computation: the barrier, the own block copied and sent to the three other devices, the
  weights, keys and values read.
-/
module

public import proofs.«01_k».proof.Proof.Access
public import proofs.«01_k».proof.Proof.Gen.KernelIdeal.Skeleton
public import Idealize.ShloMosaic.Lib.Pipeline.Value

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A piece of the body on the buffers and semaphores the kernel is called with. -/
abbrev onBufs {β : Type 1} (p : (arg0 : Memref sig .tc .vmem S2x128x512 .bf16) → arg0.IsWhole →
      (arg1 : Memref sig .tc .vmem S512x512 .bf16) → arg1.IsWhole → (arg2 : Memref sig .tc .vmem S512x512 .bf16) → arg2.IsWhole →
      (arg3 : Memref sig .tc .vmem S2x8x64x128 .bf16) → arg3.IsWhole →
      (arg4 : Memref sig .tc .vmem S2x8x64x128 .bf16) → arg4.IsWhole →
      (arg5 : Memref sig .tc .vmem S2x128x512 .bf16) → arg5.IsWhole → (arg6 : Memref sig .tc .vmem S2x128x512 .bf16) → arg6.IsWhole →
      (arg7 : Memref sig .tc .vmem S4x2x128x512 .bf16) → arg7.IsWhole → (arg8 : Memref sig .tc .vmem S128x512 .f32) → arg8.IsWhole →
      (arg9 : Memref sig .tc .vmem S4x2x128x512 .bf16) → arg9.IsWhole →
      (arg10 : Memref sig .tc .vmem S4x2x128x512 .bf16) → arg10.IsWhole →
      DmaSems sig S4x2 → DmaSems sig S4x2 → DmaSems sig S4x2 → DmaSems sig S4x2 → β) : β :=
  p xM (Memref.isWhole_whole _) wqM (Memref.isWhole_whole _) woM (Memref.isWhole_whole _) kM (Memref.isWhole_whole _)
    vM (Memref.isWhole_whole _) outM (Memref.isWhole_whole _) xsM (Memref.isWhole_whole _) xgM (Memref.isWhole_whole _)
    oM (Memref.isWhole_whole _) ysM (Memref.isWhole_whole _) yrM (Memref.isWhole_whole _)
    cc0_scratch5 cc0_scratch6 cc0_scratch7 cc0_scratch8

variable (X : Dev nD → S2x128x512.Idx → Elt F .bf16) (Y : Dev nD → S4x2x128x512.Idx → Elt F .bf16)
variable (K : GSem nD τ sig → ℕ) (c : Dev nD)

/-- A piece of the body run by device `c`. -/
abbrev runs {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The barrier as an array of one semaphore. -/
abbrev barArr : Sems sig S_ := SemArray.scalar (sig.barrier 0 rfl)

/-! ## The devices the operations are addressed to -/

theorem dev1 : (⟨k0_dev1 c, k0_dev1_lt c⟩ : Dev nD) = peer c (1 : Fin 4).val := by revert c; decide +kernel
theorem dev2 : (⟨k0_dev2 c, k0_dev2_lt c⟩ : Dev nD) = peer c (2 : Fin 4).val := by revert c; decide +kernel
theorem dev3 : (⟨k0_dev3 c, k0_dev3_lt c⟩ : Dev nD) = peer c (3 : Fin 4).val := by revert c; decide +kernel
theorem dev4 : (⟨k0_dev4 c, k0_dev4_lt c⟩ : Dev nD) = peer c (1 : Fin 4).val := by revert c; decide +kernel
theorem dev5 : (⟨k0_dev5 c, k0_dev5_lt c⟩ : Dev nD) = peer c (1 : Fin 4).val := by revert c; decide +kernel
theorem dev6 : (⟨k0_dev6 c, k0_dev6_lt c⟩ : Dev nD) = peer c (2 : Fin 4).val := by revert c; decide +kernel
theorem dev7 : (⟨k0_dev7 c, k0_dev7_lt c⟩ : Dev nD) = peer c (2 : Fin 4).val := by revert c; decide +kernel
theorem dev8 : (⟨k0_dev8 c, k0_dev8_lt c⟩ : Dev nD) = peer c (3 : Fin 4).val := by revert c; decide +kernel
theorem dev9 : (⟨k0_dev9 c, k0_dev9_lt c⟩ : Dev nD) = peer c (3 : Fin 4).val := by revert c; decide +kernel

/-! ## Buffers -/

abbrev xPts (f : S2x128x512.Idx → Elt F .bf16) : sProp 𝕄 := xM.view.loc (c : Thread nD τ) ↦{fullShare} f
abbrev wqPts (f : S512x512.Idx → Elt F .bf16) : sProp 𝕄 := wqM.view.loc (c : Thread nD τ) ↦{fullShare} f
abbrev woPts (f : S512x512.Idx → Elt F .bf16) : sProp 𝕄 := woM.view.loc (c : Thread nD τ) ↦{fullShare} f
abbrev kPts (f : S2x8x64x128.Idx → Elt F .bf16) : sProp 𝕄 := kM.view.loc (c : Thread nD τ) ↦{fullShare} f
abbrev vPts (f : S2x8x64x128.Idx → Elt F .bf16) : sProp 𝕄 := vM.view.loc (c : Thread nD τ) ↦{fullShare} f
abbrev xsAll (f : S2x128x512.Idx → Elt F .bf16) : sProp 𝕄 := xsM.view.loc (c : Thread nD τ) ↦{fullShare} f

theorem zero2 : (![0, 0] : Fin 2 → ℕ) = fun _ => 0 := funext fun a => by fin_cases a <;> rfl
theorem zero3 : (![0, 0, 0] : Fin 3 → ℕ) = fun _ => 0 := funext fun a => by fin_cases a <;> rfl

abbrev blockR : Rect S2x128x512 := Rect.unit (s := S2x128x512) ![0, 0, 0] S2x128x512.size inb_S2x128x512_S2x128x512_0_0_0
abbrev weightR : Rect S512x512 := Rect.unit (s := S512x512) ![0, 0] S512x512.size inb_S512x512_S512x512_0_0

theorem x_read (f : S2x128x512.Idx → Elt F .bf16) : k0_pay3 (xM.view.readAt (Elt F) blockR.toLoadRect f) = f := by
  show shapeCast S2x128x512 (xM.view.readAt (Elt F) blockR.toLoadRect f) _ = f
  refine (shapeCast_self _ _).trans ?_
  exact Memref.readAt_unit_zero (Elt F) cc0_stg0_0 zero3 _ f
theorem xs_write (f g : S2x128x512.Idx → Elt F .bf16) : (xsM.access blockR : View sig .tc _ _ _).write (Elt F) g
    (k0_pay4 (xM.view.readAt (Elt F) blockR.toLoadRect f)) Finset.univ = f := by
  refine (Memref.write_access_unit_zero_univ (Elt F) cc0_scratch0 zero3 _ g _).trans ?_
  show shapeCast S2x128x512 (k0_pay3 (xM.view.readAt (Elt F) blockR.toLoadRect f)) _ = f
  rw [shapeCast_self, x_read]
theorem wq_read (f : S512x512.Idx → Elt F .bf16) : k0_pay5 (wqM.view.readAt (Elt F) weightR.toLoadRect f) = f := by
  show shapeCast S512x512 (wqM.view.readAt (Elt F) weightR.toLoadRect f) _ = f
  refine (shapeCast_self _ _).trans ?_
  exact Memref.readAt_unit_zero (Elt F) cc0_stg1_0 zero2 _ f
theorem wo_read (f : S512x512.Idx → Elt F .bf16) : k0_pay6 (woM.view.readAt (Elt F) weightR.toLoadRect f) = f := by
  show shapeCast S512x512 (woM.view.readAt (Elt F) weightR.toLoadRect f) _ = f
  refine (shapeCast_self _ _).trans ?_
  exact Memref.readAt_unit_zero (Elt F) cc0_stg2_0 zero2 _ f

/-! ## Transfers -/

/-- All a gather transfer takes, besides the duty owed. -/
def gatherKit (d : Fin 4) (b : Fin 2) : sProp 𝕄 :=
  iprop(sender X Y K c 0 d b ∗ target X Y K 1 d b (peer c d.val) ∗ xgRoom (peer c d.val) d b ∗ xsPts c b (share d) (X c))
/-- All a scatter transfer takes, besides the duty owed and the rows sent. -/
def scatterKit (d : Fin 4) (b : Fin 2) : sProp 𝕄 :=
  iprop(sender X Y K c 2 d b ∗ target X Y K 3 d b (peer c (neg4 d).val) ∗ yrRoom (peer c (neg4 d).val) d b)

/-- A gather transfer, from its kit. -/
theorem send_gather (d : Fin 4) (b : Fin 2) (hd : d ≠ 0) (n : Dev nD) (hn : n = peer c d.val)
    {hsc : (xgV d b).view.ref.isScScratch = false} {hsrc : (xsV b).view.WordExact} {hdst : (xgV d b).view.WordExact}
    (s₁ s₂ : DmaSem sig) (h₁ : s₁ = dsem 0 d b) (h₂ : s₂ = dsem 1 d b)
    {hsem : DmaTarget.Typed .vmem (.dma s₂) (.remote (Dev.tc n : Thread nD τ) (xgV d b) (.dma s₁) hsc)}
    (l : List (GSem nD τ sig × ℕ))
    {α : Type} {Q : α → sProp 𝕄} {k : PUnit → Prog (TpuEff nD τ sig (Elt F) Λ₀ .tc) α} :
    iprop(gatherKit X Y K c d b ∗ owed c (gatherDue c (d, b) :: l))
      ⊢ iprop(((armed X Y K c 0 d b ∗ owed c l)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xsV b) (.remote (Dev.tc n : Thread nD τ) (xgV d b) (.dma s₁) hsc) (.dma s₂) hsrc hdst hsem) k) Q) := by
  unfold gatherKit
  iintro ⟨⟨S, T, R, X⟩, HO⟩
  iapply (step_gather X Y K c d b hd n hn s₁ s₂ h₁ h₂ l)
  isplitl [S]; · iexact S
  isplitl [T]; · iexact T
  isplitl [R]; · iexact R
  isplitl [X]; · iexact X
  iexact HO

/-- A scatter transfer, from its kit and its rows. -/
theorem send_scatter (d : Fin 4) (b : Fin 2) (hd : d ≠ 0) (n : Dev nD) (hn : n = peer c (neg4 d).val)
    {hsc : (yrV d b).view.ref.isScScratch = false} {hsrc : (ysV d b).view.WordExact} {hdst : (yrV d b).view.WordExact}
    (s₁ s₂ : DmaSem sig) (h₁ : s₁ = dsem 2 d b) (h₂ : s₂ = dsem 3 d b)
    {hsem : DmaTarget.Typed .vmem (.dma s₂) (.remote (Dev.tc n : Thread nD τ) (yrV d b) (.dma s₁) hsc)}
    (l : List (GSem nD τ sig × ℕ))
    {α : Type} {Q : α → sProp 𝕄} {k : PUnit → Prog (TpuEff nD τ sig (Elt F) Λ₀ .tc) α} :
    iprop(scatterKit X Y K c d b ∗ ysPts c d b (Y c) ∗ owed c (scatterDue c (d, b) :: l))
      ⊢ iprop(((armed X Y K c 2 d b ∗ owed c l)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (ysV d b) (.remote (Dev.tc n : Thread nD τ) (yrV d b) (.dma s₁) hsc) (.dma s₂) hsrc hdst hsem) k) Q) := by
  unfold scatterKit
  iintro ⟨⟨S, T, R⟩, Hy, HO⟩
  iapply (step_scatter X Y K c d b hd n hn s₁ s₂ h₁ h₂ l)
  isplitl [S]; · iexact S
  isplitl [T]; · iexact T
  isplitl [R]; · iexact R
  isplitl [Hy]; · iexact Hy
  iexact HO

/-! ## The pieces up to the first computation -/

/-- Two signals. -/
theorem part1 (l : List (GSem nD τ sig × ℕ)) {Q : _ → sProp 𝕄} :
    iprop((ringer X Y K c 1 ∗ lent c (neg4 1)) ∗ (ringer X Y K c 2 ∗ lent c (neg4 2)) ∗ owed c (barDue c 1 :: barDue c 2 :: l))
      ⊢ iprop((∀ v2 v30 c4 v31, owed c l -∗ Q ⟨c, v2, barArr, v30, c4, v31⟩) -∗ runs c (onBufs (k0_part1 (F := F))) Q) := by
  simp only [runs, onBufs, k0_part1_eq_skeleton, k0_part1_skel, Prog.lift, Prog.bind_op, Prog.bind_ret, Prog.pure_eq_ret, semSignalWord, wp_deviceId]
  iintro ⟨⟨H1, L1⟩, ⟨H2, L2⟩, HO⟩ HQ
  iapply (step_signal X Y K c 1 (by decide) _ (dev1 c) _ rfl _) $$ [H1 L1 HO]
  · isplitl [H1]; · iexact H1
    isplitl [L1]; · iexact L1
    iexact HO
  iintro HO
  iapply (step_signal X Y K c 2 (by decide) _ (dev2 c) _ rfl _) $$ [H2 L2 HO]
  · isplitl [H2]; · iexact H2
    isplitl [L2]; · iexact L2
    iexact HO
  iintro HO
  simp only [wp_ret]
  imodintro
  iapply HQ
  iexact HO

/-- The third signal, the barrier's wait, and the own block copied to `xs`. -/
theorem part2 (l : List (GSem nD τ sig × ℕ)) (hl : Above 1 l) {v2 v30 c4 : BitVec 32} {v31 : BitVec 1} {Q : _ → sProp 𝕄} :
    iprop(levAts L lv ∗ (ringer X Y K c 3 ∗ lent c (neg4 3)) ∗ listener X Y K c ∗ xPts c (X c) ∗ (∃ f, xsAll c f)
        ∗ owed c (barDue c 3 :: l))
      ⊢ iprop((∀ v58 c1, (owed c l ∗ (inv X Y K (barCell c) ∗ atPos ER (barCell c) 1 ∅ 0)
              ∗ (lent (peer c 1) 1 ∗ lent (peer c 2) 2 ∗ lent (peer c 3) 3) ∗ xPts c (X c) ∗ xsAll c (X c)) -∗ Q ⟨X c, v58, c1⟩)
          -∗ runs c (onBufs (k0_part2 (F := F)) c v2 barArr v30 c4 v31) Q) := by
  simp only [runs, onBufs, k0_part2_eq_skeleton, k0_part2_skel, Prog.lift, Prog.bind_op, Prog.bind_ret, Prog.pure_eq_ret, semSignalWord, semWaitWord]
  iintro ⟨#Hlev, ⟨H3, L3⟩, Hb, Hx, ⟨%f, Hs⟩, HO⟩ HQ
  iapply (step_signal X Y K c 3 (by decide) _ (dev3 c) _ rfl _) $$ [H3 L3 HO]
  · isplitl [H3]; · iexact H3
    isplitl [L3]; · iexact L3
    iexact HO
  iintro HO
  iapply (step_barrier X Y K c _ rfl l hl) $$ [Hb HO]
  · isplitr; · iexact Hlev
    isplitl [Hb]; · iexact Hb
    iexact HO
  iintro ⟨HO, Hat, Hl⟩
  iapply (step_load c) $$ Hx; iintro Hx
  iapply (step_load c) $$ Hs; iintro Hs
  iapply (wp_store 𝒱₀ (c : Thread nD τ) none Set.univ (m := xsM) (r := blockR) (Mk := Finset.univ) (Finset.subset_univ _)) $$ Hs
  iintro Hs
  rw [x_read, xs_write]
  simp only [wp_ret]
  imodintro
  iapply HQ
  isplitl [HO]; · iexact HO
  isplitl [Hat]; · iexact Hat
  isplitl [Hl]; · iexact Hl
  isplitl [Hx]; · iexact Hx
  iexact Hs

/-- The transfers to the next device. -/
theorem part3 (l : List (GSem nD τ sig × ℕ)) {v2 v58 c1 : BitVec 32} {Q : _ → sProp 𝕄} :
    iprop(gatherKit X Y K c 1 0 ∗ gatherKit X Y K c 1 1 ∗ owed c (gatherDue c (1, 0) :: gatherDue c (1, 1) :: l))
      ⊢ iprop((∀ w w', (armed X Y K c 0 1 0 ∗ armed X Y K c 0 1 1 ∗ owed c l) -∗ Q ⟨w, w'⟩)
          -∗ runs c (onBufs (k0_part3 (F := F)) c v2 v58 c1) Q) := by
  simp only [runs, onBufs, k0_part3_eq_skeleton, k0_part3_skel, Prog.lift, Prog.bind_op, Prog.bind_ret, Prog.pure_eq_ret]
  iintro ⟨G0, G1, HO⟩ HQ
  iapply (send_gather X Y K c 1 0 (by decide) _ (dev4 c) _ _ rfl rfl _) $$ [G0 HO]
  · isplitl [G0]; · iexact G0
    iexact HO
  iintro ⟨A0, HO⟩
  iapply (send_gather X Y K c 1 1 (by decide) _ (dev5 c) _ _ rfl rfl _) $$ [G1 HO]
  · isplitl [G1]; · iexact G1
    iexact HO
  iintro ⟨A1, HO⟩
  simp only [wp_ret]
  imodintro
  iapply HQ
  isplitl [A0]; · iexact A0
  isplitl [A1]; · iexact A1
  iexact HO

/-- The first batch to the device two places on. -/
theorem part4 (l : List (GSem nD τ sig × ℕ)) {v2 v90 : BitVec 32} {Q : _ → sProp 𝕄} :
    iprop(gatherKit X Y K c 2 0 ∗ owed c (gatherDue c (2, 0) :: l))
      ⊢ iprop((∀ w w', (armed X Y K c 0 2 0 ∗ owed c l) -∗ Q ⟨w, w'⟩) -∗ runs c (onBufs (k0_part4 (F := F)) c v2 v90) Q) := by
  simp only [runs, onBufs, k0_part4_eq_skeleton, k0_part4_skel, Prog.lift, Prog.bind_op, Prog.bind_ret, Prog.pure_eq_ret]
  iintro ⟨G0, HO⟩ HQ
  iapply (send_gather X Y K c 2 0 (by decide) _ (dev6 c) _ _ rfl rfl _) $$ [G0 HO]
  · isplitl [G0]; · iexact G0
    iexact HO
  iintro ⟨A0, HO⟩
  simp only [wp_ret]
  imodintro
  iapply HQ
  isplitl [A0]; · iexact A0
  iexact HO

/-- The second batch to the device two places on. -/
theorem part5 (l : List (GSem nD τ sig × ℕ)) {v2 v121 : BitVec 32} {Q : _ → sProp 𝕄} :
    iprop(gatherKit X Y K c 2 1 ∗ owed c (gatherDue c (2, 1) :: l))
      ⊢ iprop((∀ w, (armed X Y K c 0 2 1 ∗ owed c l) -∗ Q w) -∗ runs c (onBufs (k0_part5 (F := F)) c v2 v121) Q) := by
  simp only [runs, onBufs, k0_part5_eq_skeleton, k0_part5_skel, Prog.lift, Prog.bind_op, Prog.bind_ret, Prog.pure_eq_ret]
  iintro ⟨G0, HO⟩ HQ
  iapply (send_gather X Y K c 2 1 (by decide) _ (dev7 c) _ _ rfl rfl _) $$ [G0 HO]
  · isplitl [G0]; · iexact G0
    iexact HO
  iintro ⟨A0, HO⟩
  simp only [wp_ret]
  imodintro
  iapply HQ
  isplitl [A0]; · iexact A0
  iexact HO

/-- The transfers to the device three places on; the weights and the first keys read. -/
theorem part6 (l : List (GSem nD τ sig × ℕ)) (f1 f2 : S512x512.Idx → Elt F .bf16) (fk : S2x8x64x128.Idx → Elt F .bf16)
    {v2 : BitVec 32} {Q : _ → sProp 𝕄} :
    iprop(gatherKit X Y K c 3 0 ∗ gatherKit X Y K c 3 1 ∗ owed c (gatherDue c (3, 0) :: gatherDue c (3, 1) :: l)
        ∗ wqPts c f1 ∗ woPts c f2 ∗ kPts c fk)
      ⊢ iprop((∀ w, (armed X Y K c 0 3 0 ∗ armed X Y K c 0 3 1 ∗ owed c l ∗ wqPts c f1 ∗ woPts c f2 ∗ kPts c fk)
            -∗ Q ⟨w, f1, f2, blk fk 0 0⟩)
          -∗ runs c (onBufs (k0_part6 (F := F)) c v2) Q) := by
  simp only [runs, onBufs, k0_part6_eq_skeleton, k0_part6_skel, Prog.lift, Prog.bind_op, Prog.bind_ret, Prog.pure_eq_ret]
  iintro ⟨G0, G1, HO, H1, H2, Hk⟩ HQ
  iapply (send_gather X Y K c 3 0 (by decide) _ (dev8 c) _ _ rfl rfl _) $$ [G0 HO]
  · isplitl [G0]; · iexact G0
    iexact HO
  iintro ⟨A0, HO⟩
  iapply (send_gather X Y K c 3 1 (by decide) _ (dev9 c) _ _ rfl rfl _) $$ [G1 HO]
  · isplitl [G1]; · iexact G1
    iexact HO
  iintro ⟨A1, HO⟩
  iapply (step_load c) $$ H1; iintro H1
  iapply (step_load c) $$ H2; iintro H2
  iapply (step_load c) $$ Hk; iintro Hk
  rw [wq_read, wo_read]
  refine step_end c ⟨_, f1, f2, blk fk 0 0⟩ rfl ?_
  iintro ⟨⟨⟨⟨⟨⟨HQ, A0⟩, A1⟩, HO⟩, H1⟩, H2⟩, Hk⟩
  iapply HQ
  isplitl [A0]; · iexact A0
  isplitl [A1]; · iexact A1
  isplitl [HO]; · iexact HO
  isplitl [H1]; · iexact H1
  isplitl [H2]; · iexact H2
  iexact Hk

/-- Keys and values read. -/
theorem part7 (fk fv : S2x8x64x128.Idx → Elt F .bf16) {Q : _ → sProp 𝕄} :
    iprop(kPts c fk ∗ vPts c fv)
      ⊢ iprop(((kPts c fk ∗ vPts c fv)
            -∗ Q ⟨blk fv 0 0, blk fk 0 1, blk fv 0 1, blk fk 0 2, blk fv 0 2, blk fk 0 3, blk fv 0 3,
                blk fk 0 4, blk fv 0 4, blk fk 0 5⟩)
          -∗ runs c (onBufs (k0_part7 (F := F))) Q) := by
  simp only [runs, onBufs, k0_part7_eq_skeleton, k0_part7_skel, Prog.lift, Prog.bind_op, Prog.bind_ret, Prog.pure_eq_ret]
  iintro ⟨Hk, Hv⟩ HQ
  iapply (step_load c) $$ Hv; iintro Hv
  iapply (step_load c) $$ Hk; iintro Hk
  iapply (step_load c) $$ Hv; iintro Hv
  iapply (step_load c) $$ Hk; iintro Hk
  iapply (step_load c) $$ Hv; iintro Hv
  iapply (step_load c) $$ Hk; iintro Hk
  iapply (step_load c) $$ Hv; iintro Hv
  iapply (step_load c) $$ Hk; iintro Hk
  iapply (step_load c) $$ Hv; iintro Hv
  iapply (step_load c) $$ Hk; iintro Hk
  refine step_end c ⟨blk fv 0 0, blk fk 0 1, blk fv 0 1, blk fk 0 2, blk fv 0 2, blk fk 0 3, blk fv 0 3,
    blk fk 0 4, blk fv 0 4, blk fk 0 5⟩ rfl ?_
  iintro ⟨⟨HQ, Hv⟩, Hk⟩
  iapply HQ
  isplitl [Hk]; · iexact Hk
  iexact Hv

/-- Keys and values read. -/
theorem part8 (fk fv : S2x8x64x128.Idx → Elt F .bf16) {Q : _ → sProp 𝕄} :
    iprop(kPts c fk ∗ vPts c fv)
      ⊢ iprop(((kPts c fk ∗ vPts c fv)
            -∗ Q ⟨blk fv 0 5, blk fk 0 6, blk fv 0 6, blk fk 0 7, blk fv 0 7, blk fk 1 0, blk fv 1 0,
                blk fk 1 1, blk fv 1 1, blk fk 1 2⟩)
          -∗ runs c (onBufs (k0_part8 (F := F))) Q) := by
  simp only [runs, onBufs, k0_part8_eq_skeleton, k0_part8_skel, Prog.lift, Prog.bind_op, Prog.bind_ret, Prog.pure_eq_ret]
  iintro ⟨Hk, Hv⟩ HQ
  iapply (step_load c) $$ Hv; iintro Hv
  iapply (step_load c) $$ Hk; iintro Hk
  iapply (step_load c) $$ Hv; iintro Hv
  iapply (step_load c) $$ Hk; iintro Hk
  iapply (step_load c) $$ Hv; iintro Hv
  iapply (step_load c) $$ Hk; iintro Hk
  iapply (step_load c) $$ Hv; iintro Hv
  iapply (step_load c) $$ Hk; iintro Hk
  iapply (step_load c) $$ Hv; iintro Hv
  iapply (step_load c) $$ Hk; iintro Hk
  refine step_end c ⟨blk fv 0 5, blk fk 0 6, blk fv 0 6, blk fk 0 7, blk fv 0 7, blk fk 1 0, blk fv 1 0,
    blk fk 1 1, blk fv 1 1, blk fk 1 2⟩ rfl ?_
  iintro ⟨⟨HQ, Hv⟩, Hk⟩
  iapply HQ
  isplitl [Hk]; · iexact Hk
  iexact Hv

/-- Keys and values read. -/
theorem part9 (fk fv : S2x8x64x128.Idx → Elt F .bf16) {Q : _ → sProp 𝕄} :
    iprop(kPts c fk ∗ vPts c fv)
      ⊢ iprop(((kPts c fk ∗ vPts c fv)
            -∗ Q ⟨blk fv 1 2, blk fk 1 3, blk fv 1 3, blk fk 1 4, blk fv 1 4, blk fk 1 5, blk fv 1 5,
                blk fk 1 6, blk fv 1 6, blk fk 1 7⟩)
          -∗ runs c (onBufs (k0_part9 (F := F))) Q) := by
  simp only [runs, onBufs, k0_part9_eq_skeleton, k0_part9_skel, Prog.lift, Prog.bind_op, Prog.bind_ret, Prog.pure_eq_ret]
  iintro ⟨Hk, Hv⟩ HQ
  iapply (step_load c) $$ Hv; iintro Hv
  iapply (step_load c) $$ Hk; iintro Hk
  iapply (step_load c) $$ Hv; iintro Hv
  iapply (step_load c) $$ Hk; iintro Hk
  iapply (step_load c) $$ Hv; iintro Hv
  iapply (step_load c) $$ Hk; iintro Hk
  iapply (step_load c) $$ Hv; iintro Hv
  iapply (step_load c) $$ Hk; iintro Hk
  iapply (step_load c) $$ Hv; iintro Hv
  iapply (step_load c) $$ Hk; iintro Hk
  refine step_end c ⟨blk fv 1 2, blk fk 1 3, blk fv 1 3, blk fk 1 4, blk fv 1 4, blk fk 1 5, blk fv 1 5,
    blk fk 1 6, blk fv 1 6, blk fk 1 7⟩ rfl ?_
  iintro ⟨⟨HQ, Hv⟩, Hk⟩
  iapply HQ
  isplitl [Hk]; · iexact Hk
  iexact Hv

end Cert.KernelIdeal.Proof

end
-- ==== Proof.Buffers.lean ====
/-
  The communication buffers cut into the pieces the transfers use, and joined again.
-/
module

public import proofs.«01_k».proof.Proof.BodyStart

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-- One assertion for each of the six slots that take part, by distance and batch. -/
abbrev six (P : Fin 4 → Fin 2 → sProp 𝕄) : sProp 𝕄 := iprop(P 1 0 ∗ P 1 1 ∗ P 2 0 ∗ P 2 1 ∗ P 3 0 ∗ P 3 1)

/-- All eight slots: the two at distance 0 and the six others. -/
theorem slots_eq (P : Fin 4 → Fin 2 → sProp 𝕄) :
    bigSep slots (fun t => P t.1 t.2) = iprop((P 0 0 ∗ P 0 1) ∗ six P) := by
  rw [show slots = insert (0, 0) (insert (0, 1) (insert (1, 0) (insert (1, 1) (insert (2, 0) (insert (2, 1)
      (insert (3, 0) {(3, 1)})))))) from by decide]
  rw [bigSep_insert (by decide), bigSep_insert (by decide), bigSep_insert (by decide), bigSep_insert (by decide),
    bigSep_insert (by decide), bigSep_insert (by decide), bigSep_insert (by decide), bigSep_singleton]
  have h : iprop(P 0 0 ∗ P 0 1 ∗ six P) = (iprop((P 0 0 ∗ P 0 1) ∗ six P) : sProp 𝕄) := by
    have h₁ : iprop(P 0 0 ∗ P 0 1 ∗ six P) ⊢ (iprop((P 0 0 ∗ P 0 1) ∗ six P) : sProp 𝕄) := by
      iintro ⟨A, B, C⟩
      isplitl [A B]; · isplitl [A] <;> iassumption
      iexact C
    have h₂ : iprop((P 0 0 ∗ P 0 1) ∗ six P) ⊢ (iprop(P 0 0 ∗ P 0 1 ∗ six P) : sProp 𝕄) := by
      iintro ⟨⟨A, B⟩, C⟩
      isplitl [A]; · iexact A
      isplitl [B]; · iexact B
      iexact C
    exact BI.equiv_iff.mp ⟨h₁, h₂⟩
  exact h

/-! ## The landing buffers and that of the rows sent back, slot by slot -/

/-- A buffer cut by a family of disjoint sets that covers it. -/
theorem cut_at {T : Type} [DecidableEq T] {ℓ : Loc nD τ sig} (A : Finset T) (S : T → Finset (Idx ℓ)) (f : Buf (Elt F) ℓ)
    (hd : ∀ t ∈ A, ∀ t' ∈ A, ∀ i, i ∈ S t → i ∈ S t' → t = t') (hc : ∀ i, ∃ t ∈ A, i ∈ S t) :
    (ℓ ↦{fullShare} f : sProp 𝕄) = bigSep A fun t => ℓ ↦[S t]{fullShare} f := by
  rw [← pointsTo_biUnion A S fun t ht t' ht' hne => Finset.disjoint_left.mpr fun i hi hi' => hne (hd t ht t' ht' i hi hi'),
    show A.biUnion S = Finset.univ from Finset.eq_univ_of_forall fun i => Finset.mem_biUnion.mpr (hc i)]

/-- The pieces of such a cut, each at some contents, are the buffer at some contents. -/
theorem join_at {T : Type} [DecidableEq T] {ℓ : Loc nD τ sig} (A : Finset T) (S : T → Finset (Idx ℓ)) (f₀ : Buf (Elt F) ℓ)
    (hd : ∀ t ∈ A, ∀ t' ∈ A, ∀ i, i ∈ S t → i ∈ S t' → t = t') (hc : ∀ i, ∃ t ∈ A, i ∈ S t) :
    bigSep A (fun t => iprop(∃ f : Buf (Elt F) ℓ, ℓ ↦[S t]{fullShare} f))
      ⊢ (iprop(∃ f : Buf (Elt F) ℓ, ℓ ↦{fullShare} f) : sProp 𝕄) := by
  haveI : Nonempty (Buf (Elt F) ℓ) := ⟨f₀⟩
  iintro H
  ihave H1 := (bigSep_exists_pi A (fun (t : T) (f : Buf (Elt F) ℓ) => (ℓ ↦[S t]{fullShare} f : sProp 𝕄))) $$ H
  icases H1 with ⟨%fs, H⟩
  ihave H2 := (pointsTo_biUnion_join A S fs f₀ fun t ht t' ht' hne =>
    Finset.disjoint_left.mpr fun i hi hi' => hne (hd t ht t' ht' i hi hi')) $$ H
  icases H2 with ⟨%g, -, H⟩
  ihave H := (Entails.of_eq (congrArg (fun I => (ℓ ↦[I]{fullShare} g : sProp 𝕄))
    (show A.biUnion S = Finset.univ from Finset.eq_univ_of_forall fun i => Finset.mem_biUnion.mpr (hc i)))) $$ H
  iexists g
  iexact H

theorem slots_apart : ∀ t ∈ slots, ∀ t' ∈ slots, ∀ i, i ∈ slotSet t.1 t.2 → i ∈ slotSet t'.1 t'.2 → t = t' :=
  fun t ht t' ht' _ hi hi' => by_contra fun hne => Finset.disjoint_left.mp (slots_disjoint t ht t' ht' hne) hi hi'
theorem slots_all (i : S4x2x128x512.Idx) : ∃ t ∈ slots, i ∈ slotSet t.1 t.2 :=
  Finset.mem_biUnion.mp (slots_cover ▸ Finset.mem_univ i)

theorem xgPts_eq (d : Fin 4) (b : Fin 2) (f : S4x2x128x512.Idx → Elt F .bf16) :
    (xgPts c d b f : sProp 𝕄) = (xgM.view.loc (c : Thread nD τ) ↦[slotSet d b]{fullShare} f) := by
  unfold xgPts; rw [xg_set]
theorem xg_slots (f : S4x2x128x512.Idx → Elt F .bf16) :
    (xgM.view.loc (c : Thread nD τ) ↦{fullShare} f : sProp 𝕄) = bigSep slots fun t => xgPts c t.1 t.2 f :=
  (cut_at (ℓ := xgM.view.loc (c : Thread nD τ)) slots (fun t => slotSet t.1 t.2) f slots_apart slots_all).trans
    (bigSep_congr fun t _ => (xgPts_eq c t.1 t.2 f).symm)
theorem xg_join : bigSep slots (fun t => iprop(∃ f, xgPts c t.1 t.2 f))
    ⊢ (iprop(∃ f : S4x2x128x512.Idx → Elt F .bf16, xgM.view.loc (c : Thread nD τ) ↦{fullShare} f) : sProp 𝕄) := by
  simp only [xgPts_eq]
  exact join_at (ℓ := xgM.view.loc (c : Thread nD τ)) slots (fun t => slotSet t.1 t.2) (fun _ => (Scalar.ofBits .bf16 0 : F .bf16)) slots_apart slots_all

theorem ysPts_eq (d : Fin 4) (b : Fin 2) (f : S4x2x128x512.Idx → Elt F .bf16) :
    (ysPts c d b f : sProp 𝕄) = (ysM.view.loc (c : Thread nD τ) ↦[slotSet d b]{fullShare} f) := by
  unfold ysPts; rw [ys_set]
theorem ys_slots (f : S4x2x128x512.Idx → Elt F .bf16) :
    (ysM.view.loc (c : Thread nD τ) ↦{fullShare} f : sProp 𝕄) = bigSep slots fun t => ysPts c t.1 t.2 f :=
  (cut_at (ℓ := ysM.view.loc (c : Thread nD τ)) slots (fun t => slotSet t.1 t.2) f slots_apart slots_all).trans
    (bigSep_congr fun t _ => (ysPts_eq c t.1 t.2 f).symm)
theorem ys_join : bigSep slots (fun t => iprop(∃ f, ysPts c t.1 t.2 f))
    ⊢ (iprop(∃ f : S4x2x128x512.Idx → Elt F .bf16, ysM.view.loc (c : Thread nD τ) ↦{fullShare} f) : sProp 𝕄) := by
  simp only [ysPts_eq]
  exact join_at (ℓ := ysM.view.loc (c : Thread nD τ)) slots (fun t => slotSet t.1 t.2) (fun _ => (Scalar.ofBits .bf16 0 : F .bf16)) slots_apart slots_all

theorem yrPts_eq (d : Fin 4) (b : Fin 2) (f : S4x2x128x512.Idx → Elt F .bf16) :
    (yrPts c d b f : sProp 𝕄) = (yrM.view.loc (c : Thread nD τ) ↦[slotSet d b]{fullShare} f) := by
  unfold yrPts; rw [yr_set]
theorem yr_slots (f : S4x2x128x512.Idx → Elt F .bf16) :
    (yrM.view.loc (c : Thread nD τ) ↦{fullShare} f : sProp 𝕄) = bigSep slots fun t => yrPts c t.1 t.2 f :=
  (cut_at (ℓ := yrM.view.loc (c : Thread nD τ)) slots (fun t => slotSet t.1 t.2) f slots_apart slots_all).trans
    (bigSep_congr fun t _ => (yrPts_eq c t.1 t.2 f).symm)
theorem yr_join : bigSep slots (fun t => iprop(∃ f, yrPts c t.1 t.2 f))
    ⊢ (iprop(∃ f : S4x2x128x512.Idx → Elt F .bf16, yrM.view.loc (c : Thread nD τ) ↦{fullShare} f) : sProp 𝕄) := by
  simp only [yrPts_eq]
  exact join_at (ℓ := yrM.view.loc (c : Thread nD τ)) slots (fun t => slotSet t.1 t.2) (fun _ => (Scalar.ofBits .bf16 0 : F .bf16)) slots_apart slots_all

/-! ## The copy of the own block, batch by batch and share by share -/

theorem xs_halves (f : S2x128x512.Idx → Elt F .bf16) :
    (xsAll c f : sProp 𝕄) = iprop(xsPts c 0 fullShare f ∗ xsPts c 1 fullShare f) := by
  refine (cut_at (ℓ := xsM.view.loc (c : Thread nD τ)) Finset.univ halfSet f ?_ ?_).trans ((bigSep_fin_two _).trans ?_)
  · exact fun t ht t' ht' i hi hi' => by_contra fun hne => Finset.disjoint_left.mp (halves_disjoint t ht t' ht' hne) hi hi'
  · exact fun i => Finset.mem_biUnion.mp (halves_cover ▸ Finset.mem_univ i)
  · unfold xsPts; rw [xs_set, xs_set]; rfl

theorem xs_shares (b : Fin 2) (f : S2x128x512.Idx → Elt F .bf16) :
    (xsPts c b fullShare f : sProp 𝕄) = iprop(xsPts c b (share 1) f ∗ xsPts c b (share 2) f ∗ xsPts c b (share 3) f) := by
  have h : ∀ q : PosShare TreeShare, (xsPts c b q f : sProp 𝕄) = iprop(xsPts c b q.left f ∗ xsPts c b q.right f) := fun q =>
    have e := pointsTo_share (PosShare.mem_left_op_right q)
    BI.equiv_iff.mp ⟨e.1, e.2⟩
  rw [h fullShare, h fullShare.right]
  rfl

/-- The copy of the own block, as the six transfers read it. -/
theorem xs_six (f : S2x128x512.Idx → Elt F .bf16) :
    (xsAll c f : sProp 𝕄) = six fun d b => xsPts c b (share d) f := by
  rw [xs_halves, xs_shares, xs_shares]
  have h₁ : (iprop((xsPts c 0 (share 1) f ∗ xsPts c 0 (share 2) f ∗ xsPts c 0 (share 3) f)
        ∗ xsPts c 1 (share 1) f ∗ xsPts c 1 (share 2) f ∗ xsPts c 1 (share 3) f) : sProp 𝕄)
      ⊢ six fun d b => xsPts c b (share d) f := by
    iintro ⟨⟨A1, A2, A3⟩, B1, B2, B3⟩
    isplitl [A1]; · iexact A1
    isplitl [B1]; · iexact B1
    isplitl [A2]; · iexact A2
    isplitl [B2]; · iexact B2
    isplitl [A3]; · iexact A3
    iexact B3
  have h₂ : (six fun d b => xsPts c b (share d) f)
      ⊢ (iprop((xsPts c 0 (share 1) f ∗ xsPts c 0 (share 2) f ∗ xsPts c 0 (share 3) f)
        ∗ xsPts c 1 (share 1) f ∗ xsPts c 1 (share 2) f ∗ xsPts c 1 (share 3) f) : sProp 𝕄) := by
    iintro ⟨A1, B1, A2, B2, A3, B3⟩
    isplitl [A1 A2 A3]
    · isplitl [A1]; · iexact A1
      isplitl [A2]; · iexact A2
      iexact A3
    isplitl [B1]; · iexact B1
    isplitl [B2]; · iexact B2
    iexact B3
  exact BI.equiv_iff.mp ⟨h₁, h₂⟩

end Cert.KernelIdeal.Proof

end
-- ==== Proof.Rows.lean ====
/-
  What each device computes for the block of each, what it sends back and what its result holds; and the steps on the
  result's buffer.
-/
module

public import proofs.«01_k».proof.Proof.Access

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What each device computes -/

section Values

variable (X : Dev nD → S2x128x512.Idx → Elt F .bf16) (WQ WO : Dev nD → S512x512.Idx → Elt F .bf16)
variable (KB VB : Dev nD → S2x8x64x128.Idx → Elt F .bf16)

/-- What device `c` computes for batch `b` of the block device `e` starts from. -/
def partialOf (c e : Dev nD) (b : Fin 2) : FVec F S128x512 .f32 :=
  yOf (qOf (rows (X e) b) (WQ c)) (WO c) (blk (KB c) b) (blk (VB c) b)

/-- What device `c` sends back: in slot `(d, b)`, for batch `b` of the block of the device `d` places before it, rounded. -/
def YS (c : Dev nD) : S4x2x128x512.Idx → Elt F .bf16 := fun i =>
  truncf .bf16 (partialOf X WQ WO KB VB c (peer c (neg4 (i 0)).val) (i 1)) bitsLt_bf16_f32
    (fun a => match a with | 0 => i 2 | 1 => i 3)

/-- What came back to device `c` from the device `d` places after it, for batch `b`. -/
def backOf (c : Dev nD) (d : Fin 4) (b : Fin 2) : FVec F S128x512 .f32 :=
  extf .f32 (fun i => YS X WQ WO KB VB (peer c d.val) (at4 d b i) : FVec F S128x512 .bf16) bitsLt_bf16_f32

/-- Batch `b` of the result of device `c`: its own part, then those that came back, in the order they are added. -/
def sumOf (c : Dev nD) (b : Fin 2) : FVec F S128x512 .f32 :=
  addf (addf (addf (partialOf X WQ WO KB VB c c b) (backOf X WQ WO KB VB c 1 b)) (backOf X WQ WO KB VB c 3 b))
    (backOf X WQ WO KB VB c 2 b)

/-- The result of device `c`. -/
def outOf (c : Dev nD) : S2x128x512.Idx → Elt F .bf16 := fun i =>
  truncf .bf16 (sumOf X WQ WO KB VB c (i 0)) bitsLt_bf16_f32 (fun a => match a with | 0 => i 1 | 1 => i 2)

variable (c : Dev nD)

/-- The own block's product, from `o`. -/
theorem own_prod (b : Fin 2) (g : S128x512.Idx → Elt F .f32) (q : FVec F S128x512 .bf16)
    (hq : q = qOf (shapeCast S128x512 (extractStridedSlice S1x128x512 ![b.val, 0, 0] (X c) (slices_half b))
      shapeCasts_S1x128x512_S128x512) (WQ c)) :
    prodO (WO c) g (cols (fun h => headO h q (blk (KB c) b h) (blk (VB c) b h)) ++ []) = partialOf X WQ WO KB VB c c b := by
  rw [hq, rows_own, ← y_cols]; rfl

/-- A landed block's product, rounded, is what is sent back. -/
theorem landed_prod (d : Fin 4) (b : Fin 2) (g : S128x512.Idx → Elt F .f32) (i : S128x512.Idx) :
    truncf .bf16 (prodO (WO c) g (cols (fun h => headO h (qOf (shapeCast S128x512 (xgBlk c X d b) shapeCasts_S1x1x128x512_S128x512)
      (WQ c)) (blk (KB c) b h) (blk (VB c) b h)) ++ [])) bitsLt_bf16_f32 i = YS X WQ WO KB VB c (at4 d b i) := by
  have e := rows_landed c X d b
  have e' : prodO (WO c) g (cols (fun h => headO h (qOf (shapeCast S128x512 (xgBlk c X d b) shapeCasts_S1x1x128x512_S128x512)
      (WQ c)) (blk (KB c) b h) (blk (VB c) b h)) ++ []) = partialOf X WQ WO KB VB c (peer c (neg4 d).val) b := by
    rw [← y_cols]; unfold partialOf; rw [← e]
  rw [e']
  unfold YS
  refine congrArg (truncf .bf16 (partialOf X WQ WO KB VB c (peer c (neg4 d).val) b) bitsLt_bf16_f32) (funext fun a => ?_)
  fin_cases a <;> rfl

/-- A sum's next term, from the rows as they are loaded. -/
theorem next_sum (y : FVec F S128x512 .f32) (d : Fin 4) (b : Fin 2) :
    addf y (extf .f32 (shapeCast S128x512 (yrBlk c (YS X WQ WO KB VB) d b) shapeCasts_S1x1x128x512_S128x512) bitsLt_bf16_f32)
      = addf y (backOf X WQ WO KB VB c d b) := by
  unfold backOf
  rw [← rows_back c (YS X WQ WO KB VB) d b]

end Values

/-! ## The result's two batches -/

variable (c : Dev nD)

/-- One batch written to the result. -/
abbrev half (b : Fin 2) (w : Vec F S1x128x512 .bf16) : View.Piece (Elt F) S2x128x512 .bf16 := ⟨halfR b, w⟩

/-- The result of device `c` after the writes `T` over some contents `f`. -/
abbrev outPts (f : S2x128x512.Idx → Elt F .bf16) (T : List (View.Piece (Elt F) S2x128x512 .bf16)) : sProp 𝕄 :=
  outM.view.loc (c : Thread nD τ) ↦{fullShare} outM.view.writes (Elt F) f T

/-- A store to the result is one more write. -/
theorem step_out {r : Rect S2x128x512} {w : r.shape.Idx → Elt F .bf16} {hx : (outM.access r).Stores Finset.univ}
    {hm : Finset.univ = Finset.univ ∨ ∀ a, r.stride a = 1} (f : S2x128x512.Idx → Elt F .bf16)
    (T : List (View.Piece (Elt F) S2x128x512 .bf16))
    {α : Type} {Q : α → sProp 𝕄} {k : PUnit → Prog (TpuEff nD τ sig (Elt F) Λ₀ .tc) α} :
    outPts c f T
      ⊢ iprop((outPts c f (⟨r, w⟩ :: T)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store outM r w Finset.univ hx hm) k) Q) :=
  wp_store_writes (m := outM) (f := f) (L := T) 𝒱₀ (c : Thread nD τ) none Set.univ (Finset.subset_univ _)

/-- The two batches written, the result holds them. -/
theorem out_written (f : S2x128x512.Idx → Elt F .bf16) (p : Fin 2 → FVec F S128x512 .bf16) :
    outM.view.writes (Elt F) f
        [half 1 (shapeCast S1x128x512 (p 1) shapeCasts_S128x512_S1x128x512),
          half 0 (shapeCast S1x128x512 (p 0) shapeCasts_S128x512_S1x128x512)]
      = fun i => p (i 0) (fun a => match a with | 0 => i 1 | 1 => i 2) := by
  have hp : ∀ (b : Fin 2) (x : S1x128x512.Idx), shapeCast S1x128x512 (p b) shapeCasts_S128x512_S1x128x512 x
      = (fun i : S2x128x512.Idx => p (i 0) (fun a => match a with | 0 => i 1 | 1 => i 2)) ((halfR b).emb x) := by
    intro b x
    obtain ⟨j, rfl⟩ := (Shape.reshapeEquiv numel_half).surjective x
    rw [half_emb]
    show p b (Shape.reshapeEquiv _ (Shape.reshapeEquiv _ j)) = p b _
    rw [Shape.reshapeEquiv_reshapeEquiv, Shape.reshapeEquiv_self]
    refine congrArg (p b) (funext fun a => ?_)
    fin_cases a <;> rfl
  have hr : ∀ g : S2x128x512.Idx → Elt F .bf16, outM.view.read (Elt F) g = g := fun g => rfl
  funext i
  refine (congrFun (hr _) i).symm.trans ?_
  refine View.read_writes_apply_of_pieces outM.view f
    (fun i : S2x128x512.Idx => p (i 0) (fun a => match a with | 0 => i 1 | 1 => i 2)) _ ?_ i
    (View.cover_of_tiled _ ![1, 128, 512] rfl i)
  intro q hq x
  simp only [List.mem_cons, List.not_mem_nil, or_false] at hq
  rcases hq with rfl | rfl <;> exact hp _ x

/-- Batch `b` of the sum, from the rows as they are loaded. -/
abbrev loaded (Y : Dev nD → S4x2x128x512.Idx → Elt F .bf16) (c : Dev nD) (d : Fin 4) (b : Fin 2) (y : FVec F S128x512 .f32) :
    FVec F S128x512 .f32 :=
  addf y (extf .f32 (shapeCast S128x512 (yrBlk c Y d b) shapeCasts_S1x1x128x512_S128x512) bitsLt_bf16_f32)

/-- The two sums written, rounded, the result is the one named. -/
theorem out_sums (X : Dev nD → S2x128x512.Idx → Elt F .bf16) (WQ WO : Dev nD → S512x512.Idx → Elt F .bf16)
    (KB VB : Dev nD → S2x8x64x128.Idx → Elt F .bf16) (f : S2x128x512.Idx → Elt F .bf16) (y0 y1 : FVec F S128x512 .f32)
    (h0 : y0 = partialOf X WQ WO KB VB c c 0) (h1 : y1 = partialOf X WQ WO KB VB c c 1) :
    outM.view.writes (Elt F) f
        [half 1 (shapeCast S1x128x512 (truncf .bf16 (loaded (YS X WQ WO KB VB) c 2 1 (loaded (YS X WQ WO KB VB) c 3 1
            (loaded (YS X WQ WO KB VB) c 1 1 y1))) bitsLt_bf16_f32) shapeCasts_S128x512_S1x128x512),
          half 0 (shapeCast S1x128x512 (truncf .bf16 (loaded (YS X WQ WO KB VB) c 2 0 (loaded (YS X WQ WO KB VB) c 3 0
            (loaded (YS X WQ WO KB VB) c 1 0 y0))) bitsLt_bf16_f32) shapeCasts_S128x512_S1x128x512)]
      = outOf X WQ WO KB VB c := by
  subst h0 h1
  simp only [loaded, next_sum]
  exact out_written f (fun b => truncf .bf16 (sumOf X WQ WO KB VB c b) bitsLt_bf16_f32)

end Cert.KernelIdeal.Proof

end
-- ==== Proof.BodyOwn.lean ====
/-
  The body's pieces that compute the two batches of the own block: each stores some heads' blocks of columns to `o`, and the
  last of a batch reads `o` whole and multiplies it by the output weights.
-/
module

public import proofs.«01_k».proof.Proof.BodyStart

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2x128x512.Idx → Elt F .bf16) (Y : Dev nD → S4x2x128x512.Idx → Elt F .bf16)
variable (K : GSem nD τ sig → ℕ) (c : Dev nD)

/-- Heads 0 to 1 written to `o`. -/
theorem part10 (f : S128x512.Idx → Elt F .f32) (T : List (View.Piece (Elt F) S128x512 .f32)) (fv : S2x8x64x128.Idx → Elt F .bf16)
    {v44 v175 v179 v181 v183 v185 v187 v189} {Q : _ → sProp 𝕄} :
    iprop(vPts c fv ∗ oPts c f T)
      ⊢ iprop(((vPts c fv ∗ oPts c f (col 1 (k0_pay41 v44 v175 v183 v185) :: col 0 (k0_pay40 v44 v175 v179 v181) :: T))
            -∗ Q ⟨blk fv 1 7, k0_pay39 v44 v175, k0_pay43 v44 v175 v187, k0_pay44 v44 v175 v187 v189⟩)
          -∗ runs c (onBufs (k0_part10 (F := F)) v44 v175 v179 v181 v183 v185 v187 v189) Q) := by
  simp only [runs, onBufs, k0_part10_eq_skeleton, k0_part10_skel, Prog.lift, Prog.bind_op, Prog.bind_ret, Prog.pure_eq_ret]
  iintro ⟨Hv, Ho⟩ HQ
  iapply (step_load c) $$ Hv; iintro Hv
  iapply (step_col c f _) $$ Ho; iintro Ho
  iapply (step_col c f _) $$ Ho; iintro Ho
  refine step_end c ⟨blk fv 1 7, k0_pay39 v44 v175, k0_pay43 v44 v175 v187, k0_pay44 v44 v175 v187 v189⟩ rfl ?_
  iintro ⟨⟨HQ, Hv⟩, Ho⟩
  iapply HQ
  isplitl [Hv]; · iexact Hv
  iexact Ho

/-- Heads 2 to 4 written to `o`. -/
theorem part11 (f : S128x512.Idx → Elt F .f32) (T : List (View.Piece (Elt F) S128x512 .f32))
    {v191 v193 v195 v197 v199 v201 v247 v276 v278} {Q : _ → sProp 𝕄} :
    iprop(oPts c f T)
      ⊢ iprop(((oPts c f (col 4 (k0_pay47 v195 v197 v247) :: col 3 (k0_pay46 v191 v193 v247) :: col 2 (k0_pay45 v276 v278)
          :: T))
            -∗ Q (k0_pay48 v199 v201 v247))
          -∗ runs c (onBufs (k0_part11 (F := F)) v191 v193 v195 v197 v199 v201 v247 v276 v278) Q) := by
  simp only [runs, onBufs, k0_part11_eq_skeleton, k0_part11_skel, Prog.lift, Prog.bind_op, Prog.bind_ret, Prog.pure_eq_ret]
  iintro Ho HQ
  iapply (step_col c f _) $$ Ho; iintro Ho
  iapply (step_col c f _) $$ Ho; iintro Ho
  iapply (step_col c f _) $$ Ho; iintro Ho
  iapply (step_load c) $$ Ho; iintro Ho
  simp only [wp_ret]
  imodintro
  iapply HQ
  iexact Ho

/-- Heads 5 to 7 written to `o`; the eight read together. -/
theorem part12 (f : S128x512.Idx → Elt F .f32) (T : List (View.Piece (Elt F) S128x512 .f32))
    {v44 v175 v177 v203 v205 v207 v209 v211 v247 v316} {Q : _ → sProp 𝕄} :
    iprop(oPts c f T)
      ⊢ iprop(((oPts c f (col 7 (k0_pay51 v207 v209 v247) :: col 6 (k0_pay50 v203 v205 v247) :: col 5 (k0_pay49 v316) :: T))
            -∗ Q ⟨prodO v177 f (col 7 (k0_pay51 v207 v209 v247) :: col 6 (k0_pay50 v203 v205 v247)
                :: col 5 (k0_pay49 v316) :: T), k0_pay53 v44 v175, k0_pay55 v44 v175 v211, k0_pay56 v44 v175 v211⟩)
          -∗ runs c (onBufs (k0_part12 (F := F)) v44 v175 v177 v203 v205 v207 v209 v211 v247 v316) Q) := by
  simp only [runs, onBufs, k0_part12_eq_skeleton, k0_part12_skel, Prog.lift, Prog.bind_op, Prog.bind_ret, Prog.pure_eq_ret]
  iintro Ho HQ
  iapply (step_o c f _) $$ Ho; iintro Ho
  iapply (step_col c f _) $$ Ho; iintro Ho
  iapply (step_col c f _) $$ Ho; iintro Ho
  iapply (step_load c) $$ Ho; iintro Ho
  refine step_end c ⟨prodO v177 f (col 7 (k0_pay51 v207 v209 v247) :: col 6 (k0_pay50 v203 v205 v247)
      :: col 5 (k0_pay49 v316) :: T), k0_pay53 v44 v175, k0_pay55 v44 v175 v211, k0_pay56 v44 v175 v211⟩ rfl ?_
  iintro ⟨HQ, Ho⟩
  iapply HQ
  iexact Ho

/-- Heads 0 to 2 written to `o`. -/
theorem part13 (f : S128x512.Idx → Elt F .f32) (T : List (View.Piece (Elt F) S128x512 .f32))
    {v213 v215 v217 v219 v221 v223 v225 v352 v357 v358} {Q : _ → sProp 𝕄} :
    iprop(oPts c f T)
      ⊢ iprop(((oPts c f (col 2 (k0_pay59 v219 v221 v352) :: col 1 (k0_pay58 v215 v217 v352)
          :: col 0 (k0_pay57 v213 v357 v358) :: T))
            -∗ Q (k0_pay60 v223 v225 v352))
          -∗ runs c (onBufs (k0_part13 (F := F)) v213 v215 v217 v219 v221 v223 v225 v352 v357 v358) Q) := by
  simp only [runs, onBufs, k0_part13_eq_skeleton, k0_part13_skel, Prog.lift, Prog.bind_op, Prog.bind_ret, Prog.pure_eq_ret]
  iintro Ho HQ
  iapply (step_col c f _) $$ Ho; iintro Ho
  iapply (step_col c f _) $$ Ho; iintro Ho
  iapply (step_col c f _) $$ Ho; iintro Ho
  simp only [wp_ret]
  imodintro
  iapply HQ
  iexact Ho

/-- Heads 3 to 6 written to `o`. -/
theorem part14 (f : S128x512.Idx → Elt F .f32) (T : List (View.Piece (Elt F) S128x512 .f32))
    {v227 v229 v231 v233 v235 v237 v352 v397} {Q : _ → sProp 𝕄} :
    iprop(oPts c f T)
      ⊢ iprop(((oPts c f (col 6 (k0_pay64 v235 v237 v352) :: col 5 (k0_pay63 v231 v233 v352)
          :: col 4 (k0_pay62 v227 v229 v352) :: col 3 (k0_pay61 v397) :: T))
            -∗ Q ⟨k0_pay65 v352, constant S128x128 .f32 0x00000000#32⟩)
          -∗ runs c (onBufs (k0_part14 (F := F)) v227 v229 v231 v233 v235 v237 v352 v397) Q) := by
  simp only [runs, onBufs, k0_part14_eq_skeleton, k0_part14_skel, Prog.lift, Prog.bind_op, Prog.bind_ret, Prog.pure_eq_ret]
  iintro Ho HQ
  iapply (step_col c f _) $$ Ho; iintro Ho
  iapply (step_col c f _) $$ Ho; iintro Ho
  iapply (step_col c f _) $$ Ho; iintro Ho
  iapply (step_col c f _) $$ Ho; iintro Ho
  simp only [wp_ret]
  imodintro
  iapply HQ
  iexact Ho

/-- Head 7 written to `o`; a wait on the sent block of slot (1, 0); the eight read together. -/
theorem part15 (l : List (GSem nD τ sig × ℕ)) (f : S128x512.Idx → Elt F .f32) (T : List (View.Piece (Elt F) S128x512 .f32))
    {v58 v177 v239 v241 v437 cst_352} (h010 : Above (level (.dma (dsem 0 1 0))) l)
    {Q : _ → sProp 𝕄} :
    iprop(levAts L lv ∗ armed X Y K c 0 1 0 ∗ owed c l ∗ oPts c f T)
      ⊢ iprop(((owed c l ∗ spent X Y K c 0 1 0 ∗ slotPay X Y c 0 1 0 ∗ oPts c f (col 7 (k0_pay66 v239 v241 v437 cst_352) :: T))
            -∗ Q (prodO v177 f (col 7 (k0_pay66 v239 v241 v437 cst_352) :: T)))
          -∗ runs c (onBufs (k0_part15 (F := F)) v58 v177 v239 v241 v437 cst_352) Q) := by
  simp only [runs, onBufs, k0_part15_eq_skeleton, k0_part15_skel, Prog.lift, Prog.bind_op, Prog.bind_ret, Prog.pure_eq_ret]
  iintro ⟨Hlev, A010, HO, Ho⟩ HQ
  iapply (step_col c f _) $$ Ho; iintro Ho
  iapply (step_load c) $$ Ho; iintro Ho
  iapply (step_wait X Y K c 0 1 0 (by decide) _ rfl (credit_eq _) l h010) $$ [Hlev A010 HO]
  · isplitl [Hlev]; · iexact Hlev
    isplitl [A010]; · iexact A010
    iexact HO
  iintro ⟨HO, S010, P010⟩
  refine step_end c (prodO v177 f (col 7 (k0_pay66 v239 v241 v437 cst_352) :: T)) rfl ?_
  iintro ⟨⟨⟨⟨HQ, Ho⟩, HO⟩, S010⟩, P010⟩
  iapply HQ
  isplitl [HO]; · iexact HO
  isplitl [S010]; · iexact S010
  isplitl [P010]; · iexact P010
  iexact Ho

end Cert.KernelIdeal.Proof

end
-- ==== Proof.BodyNext.lean ====
/-
  The body's pieces that compute the two batches of the block landed from one place before, and send the rows back; with
  the devices all rows are sent back to.
-/
module

public import proofs.«01_k».proof.Proof.BodyOwn

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2x128x512.Idx → Elt F .bf16) (Y : Dev nD → S4x2x128x512.Idx → Elt F .bf16)
variable (K : GSem nD τ sig → ℕ) (c : Dev nD)

/-! ## The devices the rows are sent back to -/

theorem dev10 : (⟨k0_dev10 c, k0_dev10_lt c⟩ : Dev nD) = peer c (neg4 1).val := by revert c; decide +kernel
theorem dev11 : (⟨k0_dev11 c, k0_dev11_lt c⟩ : Dev nD) = peer c (neg4 1).val := by revert c; decide +kernel
theorem dev12 : (⟨k0_dev12 c, k0_dev12_lt c⟩ : Dev nD) = peer c (neg4 3).val := by revert c; decide +kernel
theorem dev13 : (⟨k0_dev13 c, k0_dev13_lt c⟩ : Dev nD) = peer c (neg4 3).val := by revert c; decide +kernel
theorem dev14 : (⟨k0_dev14 c, k0_dev14_lt c⟩ : Dev nD) = peer c (neg4 2).val := by revert c; decide +kernel
theorem dev15 : (⟨k0_dev15 c, k0_dev15_lt c⟩ : Dev nD) = peer c (neg4 2).val := by revert c; decide +kernel

/-- A wait on the landed block of slot (1, 0); heads 0 to 1 written to `o`. -/
theorem part16 (l : List (GSem nD τ sig × ℕ)) (f : S128x512.Idx → Elt F .f32) (T : List (View.Piece (Elt F) S128x512 .f32))
    {v175 v179 v181 v183 v185 v187} (h110 : Above (level (.dma (dsem 1 1 0))) l)
    {Q : _ → sProp 𝕄} :
    iprop(levAts L lv ∗ armed X Y K c 1 1 0 ∗ owed c l ∗ oPts c f T)
      ⊢ iprop(((owed c l ∗ spent X Y K c 1 1 0 ∗ slotPay X Y c 1 1 0
          ∗ oPts c f (col 1 (k0_pay70 v175 v183 v185 (xgBlk c X 1 0)) :: col 0 (k0_pay69 v175 v179 v181 (xgBlk c X 1 0)) :: T))
            -∗ Q ⟨k0_pay68 v175 (xgBlk c X 1 0), k0_pay72 v175 v187 (xgBlk c X 1 0), k0_pay73 v175 v187 (xgBlk c X 1 0),
                constant S128x64 .f32 0x00000000#32⟩)
          -∗ runs c (onBufs (k0_part16 (F := F)) v175 v179 v181 v183 v185 v187) Q) := by
  simp only [runs, onBufs, k0_part16_eq_skeleton, k0_part16_skel, Prog.lift, Prog.bind_op, Prog.bind_ret, Prog.pure_eq_ret]
  iintro ⟨Hlev, A110, HO, Ho⟩ HQ
  iapply (step_wait X Y K c 1 1 0 (by decide) _ rfl (credit_eq _) l h110) $$ [Hlev A110 HO]
  · isplitl [Hlev]; · iexact Hlev
    isplitl [A110]; · iexact A110
    iexact HO
  iintro ⟨HO, S110, P110⟩
  ihave B := (Entails.of_eq (show slotPay X Y c 1 1 0 = xgPts c 1 0 (XG X c) from rfl)) $$ P110
  iapply (step_slot c xgM 1 0) $$ B; iintro B
  ihave P110 := (Entails.of_eq (show slotPay X Y c 1 1 0 = xgPts c 1 0 (XG X c) from rfl).symm) $$ B
  iapply (step_col c f _) $$ Ho; iintro Ho
  iapply (step_col c f _) $$ Ho; iintro Ho
  simp only [wp_ret]
  imodintro
  iapply HQ
  isplitl [HO]; · iexact HO
  isplitl [S110]; · iexact S110
  isplitl [P110]; · iexact P110
  iexact Ho

/-- Heads 2 to 4 written to `o`. -/
theorem part17 (f : S128x512.Idx → Elt F .f32) (T : List (View.Piece (Elt F) S128x512 .f32))
    {v189 v191 v193 v195 v197 v199 v201 v471 v500 v501 cst_403} {Q : _ → sProp 𝕄} :
    iprop(oPts c f T)
      ⊢ iprop((∀ w0, (oPts c f (col 4 (k0_pay76 v195 v197 v471) :: col 3 (k0_pay75 v191 v193 v471)
          :: col 2 (k0_pay74 v189 v500 v501 cst_403) :: T))
            -∗ Q ⟨k0_pay77 v199 v201 v471, w0⟩)
          -∗ runs c (onBufs (k0_part17 (F := F)) v189 v191 v193 v195 v197 v199 v201 v471 v500 v501 cst_403) Q) := by
  simp only [runs, onBufs, k0_part17_eq_skeleton, k0_part17_skel, Prog.lift, Prog.bind_op, Prog.bind_ret, Prog.pure_eq_ret]
  iintro Ho HQ
  iapply (step_col c f _) $$ Ho; iintro Ho
  iapply (step_col c f _) $$ Ho; iintro Ho
  iapply (step_col c f _) $$ Ho; iintro Ho
  iapply (step_load c) $$ Ho; iintro Ho
  simp only [wp_ret]
  imodintro
  iapply HQ
  iexact Ho

/-- Heads 5 to 7 written to `o`; the rows stored to slot (1, 0); the eight read together. -/
theorem part18 (f : S128x512.Idx → Elt F .f32) (T : List (View.Piece (Elt F) S128x512 .f32))
    {v2 v177 v203 v205 v207 v209 v471 v540 v541} {Q : _ → sProp 𝕄} :
    iprop(⌜∀ i, truncf .bf16 (prodO v177 f (col 7 (k0_pay80 v207 v209 v471) :: col 6 (k0_pay79 v203 v205 v471)
        :: col 5 (k0_pay78 v540) :: T)) bitsLt_bf16_f32 i = Y c (at4 1 0 i)⌝ ∗ (∃ g, ysPts c 1 0 g) ∗ oPts c f T)
      ⊢ iprop((∀ w0 w1 w2 w3, (ysPts c 1 0 (Y c) ∗ oPts c f (col 7 (k0_pay80 v207 v209 v471)
          :: col 6 (k0_pay79 v203 v205 v471) :: col 5 (k0_pay78 v540) :: T))
            -∗ Q ⟨w0, w1, w2, w3⟩)
          -∗ runs c (onBufs (k0_part18 (F := F)) v2 v177 v203 v205 v207 v209 v471 v540 v541) Q) := by
  simp only [runs, onBufs, k0_part18_eq_skeleton, k0_part18_skel, Prog.lift, Prog.bind_op, Prog.bind_ret, Prog.pure_eq_ret]
  iintro ⟨%hY, ⟨%g, Hy⟩, Ho⟩ HQ
  iapply (step_o c f _) $$ Ho; iintro Ho
  iapply (step_col c f _) $$ Ho; iintro Ho
  iapply (step_col c f _) $$ Ho; iintro Ho
  iapply (step_load c) $$ Ho; iintro Ho
  iapply (step_ys c Y 1 0 (truncf .bf16 _ bitsLt_bf16_f32) rfl hY) $$ Hy; iintro Hy
  simp only [wp_ret]
  imodintro
  iapply HQ
  isplitl [Hy]; · iexact Hy
  iexact Ho

/-- The rows of slot (1, 0) sent back; a wait on the sent block of slot (1, 1). -/
theorem part19 (l : List (GSem nD τ sig × ℕ))
    {v575 c4_i32_439 v576 c1_i32_441} (h011 : Above (level (.dma (dsem 0 1 1))) l)
    {Q : _ → sProp 𝕄} :
    iprop(levAts L lv ∗ armed X Y K c 0 1 1 ∗ scatterKit X Y K c 1 0 ∗ ysPts c 1 0 (Y c) ∗ owed c (scatterDue c (1, 0) :: l))
      ⊢ iprop((∀ w0, (owed c l ∗ armed X Y K c 2 1 0 ∗ spent X Y K c 0 1 1 ∗ slotPay X Y c 0 1 1)
            -∗ Q w0)
          -∗ runs c (onBufs (k0_part19 (F := F)) c v575 c4_i32_439 v576 c1_i32_441) Q) := by
  simp only [runs, onBufs, k0_part19_eq_skeleton, k0_part19_skel, Prog.lift, Prog.bind_op, Prog.bind_ret, Prog.pure_eq_ret]
  iintro ⟨Hlev, A011, G, Hy, HO⟩ HQ
  iapply (send_scatter X Y K c 1 0 (by decide) _ (dev10 c) _ _ rfl rfl _) $$ [G Hy HO]
  · isplitl [G]; · iexact G
    isplitl [Hy]; · iexact Hy
    iexact HO
  iintro ⟨A210, HO⟩
  iapply (step_wait X Y K c 0 1 1 (by decide) _ rfl (credit_eq _) l h011) $$ [Hlev A011 HO]
  · isplitl [Hlev]; · iexact Hlev
    isplitl [A011]; · iexact A011
    iexact HO
  iintro ⟨HO, S011, P011⟩
  simp only [wp_ret]
  imodintro
  iapply HQ
  isplitl [HO]; · iexact HO
  isplitl [A210]; · iexact A210
  isplitl [S011]; · iexact S011
  iexact P011

/-- A wait on the landed block of slot (1, 1); head 0 written to `o`. -/
theorem part20 (l : List (GSem nD τ sig × ℕ)) (f : S128x512.Idx → Elt F .f32) (T : List (View.Piece (Elt F) S128x512 .f32))
    {v79 v175 v211 v213 v215 v217} (h111 : Above (level (.dma (dsem 1 1 1))) l)
    {Q : _ → sProp 𝕄} :
    iprop(levAts L lv ∗ armed X Y K c 1 1 1 ∗ owed c l ∗ oPts c f T)
      ⊢ iprop(((owed c l ∗ spent X Y K c 1 1 1 ∗ slotPay X Y c 1 1 1
          ∗ oPts c f (col 0 (k0_pay83 v175 v211 v213 (xgBlk c X 1 1)) :: T))
            -∗ Q ⟨k0_pay82 v175 (xgBlk c X 1 1), k0_pay84 v175 v215 v217 (xgBlk c X 1 1)⟩)
          -∗ runs c (onBufs (k0_part20 (F := F)) v79 v175 v211 v213 v215 v217) Q) := by
  simp only [runs, onBufs, k0_part20_eq_skeleton, k0_part20_skel, Prog.lift, Prog.bind_op, Prog.bind_ret, Prog.pure_eq_ret]
  iintro ⟨Hlev, A111, HO, Ho⟩ HQ
  iapply (step_wait X Y K c 1 1 1 (by decide) _ rfl (credit_eq _) l h111) $$ [Hlev A111 HO]
  · isplitl [Hlev]; · iexact Hlev
    isplitl [A111]; · iexact A111
    iexact HO
  iintro ⟨HO, S111, P111⟩
  ihave B := (Entails.of_eq (show slotPay X Y c 1 1 1 = xgPts c 1 1 (XG X c) from rfl)) $$ P111
  iapply (step_slot c xgM 1 1) $$ B; iintro B
  ihave P111 := (Entails.of_eq (show slotPay X Y c 1 1 1 = xgPts c 1 1 (XG X c) from rfl).symm) $$ B
  iapply (step_col c f _) $$ Ho; iintro Ho
  simp only [wp_ret]
  imodintro
  iapply HQ
  isplitl [HO]; · iexact HO
  isplitl [S111]; · iexact S111
  isplitl [P111]; · iexact P111
  iexact Ho

/-- Heads 1 to 4 written to `o`. -/
theorem part21 (f : S128x512.Idx → Elt F .f32) (T : List (View.Piece (Elt F) S128x512 .f32))
    {v219 v221 v223 v225 v227 v229 v615 v636} {Q : _ → sProp 𝕄} :
    iprop(oPts c f T)
      ⊢ iprop(((oPts c f (col 4 (k0_pay88 v227 v229 v615) :: col 3 (k0_pay87 v223 v225 v615)
          :: col 2 (k0_pay86 v219 v221 v615) :: col 1 (k0_pay85 v636) :: T))
            -∗ Q ⟨⟩)
          -∗ runs c (onBufs (k0_part21 (F := F)) v219 v221 v223 v225 v227 v229 v615 v636) Q) := by
  simp only [runs, onBufs, k0_part21_eq_skeleton, k0_part21_skel, Prog.lift, Prog.bind_op, Prog.bind_ret, Prog.pure_eq_ret]
  iintro Ho HQ
  iapply (step_col c f _) $$ Ho; iintro Ho
  iapply (step_col c f _) $$ Ho; iintro Ho
  iapply (step_col c f _) $$ Ho; iintro Ho
  iapply (step_col c f _) $$ Ho; iintro Ho
  simp only [wp_ret]
  imodintro
  iapply HQ
  iexact Ho

/-- Heads 5 to 7 written to `o`; the eight read together. -/
theorem part22 (f : S128x512.Idx → Elt F .f32) (T : List (View.Piece (Elt F) S128x512 .f32))
    {v177 v231 v233 v235 v237 v239 v241 v615} {Q : _ → sProp 𝕄} :
    iprop(oPts c f T)
      ⊢ iprop(((oPts c f (col 7 (k0_pay91 v239 v241 v615) :: col 6 (k0_pay90 v235 v237 v615)
          :: col 5 (k0_pay89 v231 v233 v615) :: T))
            -∗ Q (prodO v177 f (col 7 (k0_pay91 v239 v241 v615) :: col 6 (k0_pay90 v235 v237 v615)
                :: col 5 (k0_pay89 v231 v233 v615) :: T)))
          -∗ runs c (onBufs (k0_part22 (F := F)) v177 v231 v233 v235 v237 v239 v241 v615) Q) := by
  simp only [runs, onBufs, k0_part22_eq_skeleton, k0_part22_skel, Prog.lift, Prog.bind_op, Prog.bind_ret, Prog.pure_eq_ret]
  iintro Ho HQ
  iapply (step_col c f _) $$ Ho; iintro Ho
  iapply (step_col c f _) $$ Ho; iintro Ho
  iapply (step_col c f _) $$ Ho; iintro Ho
  iapply (step_load c) $$ Ho; iintro Ho
  refine step_end c (prodO v177 f (col 7 (k0_pay91 v239 v241 v615) :: col 6 (k0_pay90 v235 v237 v615)
      :: col 5 (k0_pay89 v231 v233 v615) :: T)) rfl ?_
  iintro ⟨HQ, Ho⟩
  iapply HQ
  iexact Ho

/-- The rows stored to slot (1, 1); the rows of slot (1, 1) sent back. -/
theorem part23 (l : List (GSem nD τ sig × ℕ))
    {v2 v714} {Q : _ → sProp 𝕄} :
    iprop(⌜∀ i, truncf .bf16 v714 bitsLt_bf16_f32 i = Y c (at4 1 1 i)⌝ ∗ (∃ g, ysPts c 1 1 g) ∗ scatterKit X Y K c 1 1
        ∗ owed c (scatterDue c (1, 1) :: l))
      ⊢ iprop((∀ w0, (owed c l ∗ armed X Y K c 2 1 1)
            -∗ Q w0)
          -∗ runs c (onBufs (k0_part23 (F := F)) c v2 v714) Q) := by
  simp only [runs, onBufs, k0_part23_eq_skeleton, k0_part23_skel, Prog.lift, Prog.bind_op, Prog.bind_ret, Prog.pure_eq_ret]
  iintro ⟨%hY, ⟨%g, Hy⟩, G, HO⟩ HQ
  iapply (step_ys c Y 1 1 (truncf .bf16 v714 bitsLt_bf16_f32) rfl hY) $$ Hy; iintro Hy
  iapply (send_scatter X Y K c 1 1 (by decide) _ (dev11 c) _ _ rfl rfl _) $$ [G Hy HO]
  · isplitl [G]; · iexact G
    isplitl [Hy]; · iexact Hy
    iexact HO
  iintro ⟨A211, HO⟩
  simp only [wp_ret]
  imodintro
  iapply HQ
  isplitl [HO]; · iexact HO
  iexact A211

end Cert.KernelIdeal.Proof

end
-- ==== Proof.BodyRest.lean ====
/-
  The body's pieces that compute the batches of the blocks landed from three and two places before, and send the rows back.
-/
module

public import proofs.«01_k».proof.Proof.BodyNext

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2x128x512.Idx → Elt F .bf16) (Y : Dev nD → S4x2x128x512.Idx → Elt F .bf16)
variable (K : GSem nD τ sig → ℕ) (c : Dev nD)

/-- A wait on the sent block of slot (3, 0); a wait on the landed block of slot (3, 0). -/
theorem part24 (l : List (GSem nD τ sig × ℕ)) (f : S128x512.Idx → Elt F .f32) (T : List (View.Piece (Elt F) S128x512 .f32))
    {v142 v175 v179 v181} (h030 : Above (level (.dma (dsem 0 3 0))) l)
    (h130 : Above (level (.dma (dsem 1 3 0))) l)
    {Q : _ → sProp 𝕄} :
    iprop(levAts L lv ∗ armed X Y K c 0 3 0 ∗ armed X Y K c 1 3 0 ∗ owed c l ∗ oPts c f T)
      ⊢ iprop((∀ w0, (owed c l ∗ spent X Y K c 0 3 0 ∗ slotPay X Y c 0 3 0 ∗ spent X Y K c 1 3 0 ∗ slotPay X Y c 1 3 0
          ∗ oPts c f T)
            -∗ Q ⟨k0_pay94 v175 (xgBlk c X 3 0), k0_pay95 v175 v179 v181 (xgBlk c X 3 0), w0⟩)
          -∗ runs c (onBufs (k0_part24 (F := F)) v142 v175 v179 v181) Q) := by
  simp only [runs, onBufs, k0_part24_eq_skeleton, k0_part24_skel, Prog.lift, Prog.bind_op, Prog.bind_ret, Prog.pure_eq_ret]
  iintro ⟨#Hlev, A030, A130, HO, Ho⟩ HQ
  iapply (step_wait X Y K c 0 3 0 (by decide) _ rfl (credit_eq _) l h030) $$ [A030 HO]
  · isplitr; · iexact Hlev
    isplitl [A030]; · iexact A030
    iexact HO
  iintro ⟨HO, S030, P030⟩
  iapply (step_wait X Y K c 1 3 0 (by decide) _ rfl (credit_eq _) l h130) $$ [A130 HO]
  · isplitr; · iexact Hlev
    isplitl [A130]; · iexact A130
    iexact HO
  iintro ⟨HO, S130, P130⟩
  ihave B := (Entails.of_eq (show slotPay X Y c 1 3 0 = xgPts c 3 0 (XG X c) from rfl)) $$ P130
  iapply (step_slot c xgM 3 0) $$ B; iintro B
  ihave P130 := (Entails.of_eq (show slotPay X Y c 1 3 0 = xgPts c 3 0 (XG X c) from rfl).symm) $$ B
  iapply (step_load c) $$ Ho; iintro Ho
  simp only [wp_ret]
  imodintro
  iapply HQ
  isplitl [HO]; · iexact HO
  isplitl [S030]; · iexact S030
  isplitl [P030]; · iexact P030
  isplitl [S130]; · iexact S130
  isplitl [P130]; · iexact P130
  iexact Ho

/-- Heads 0 to 3 written to `o`. -/
theorem part25 (f : S128x512.Idx → Elt F .f32) (T : List (View.Piece (Elt F) S128x512 .f32))
    {v183 v185 v187 v189 v191 v193 v195 v759 v768 v769} {Q : _ → sProp 𝕄} :
    iprop(oPts c f T)
      ⊢ iprop(((oPts c f (col 3 (k0_pay99 v191 v193 v759) :: col 2 (k0_pay98 v187 v189 v759)
          :: col 1 (k0_pay97 v183 v185 v759) :: col 0 (k0_pay96 v768) :: T))
            -∗ Q (k0_pay100 v195 v759))
          -∗ runs c (onBufs (k0_part25 (F := F)) v183 v185 v187 v189 v191 v193 v195 v759 v768 v769) Q) := by
  simp only [runs, onBufs, k0_part25_eq_skeleton, k0_part25_skel, Prog.lift, Prog.bind_op, Prog.bind_ret, Prog.pure_eq_ret]
  iintro Ho HQ
  iapply (step_o c f _) $$ Ho; iintro Ho
  iapply (step_col c f _) $$ Ho; iintro Ho
  iapply (step_col c f _) $$ Ho; iintro Ho
  iapply (step_col c f _) $$ Ho; iintro Ho
  simp only [wp_ret]
  imodintro
  iapply HQ
  iexact Ho

/-- Heads 4 to 6 written to `o`. -/
theorem part26 (f : S128x512.Idx → Elt F .f32) (T : List (View.Piece (Elt F) S128x512 .f32))
    {v197 v199 v201 v203 v205 v207 v759 v809} {Q : _ → sProp 𝕄} :
    iprop(oPts c f T)
      ⊢ iprop(((oPts c f (col 6 (k0_pay103 v203 v205 v759) :: col 5 (k0_pay102 v199 v201 v759)
          :: col 4 (k0_pay101 v197 v809) :: T))
            -∗ Q ⟨k0_pay105 v207 v759, k0_pay106 v207 v759, constant S128x64 .f32 0x00000000#32⟩)
          -∗ runs c (onBufs (k0_part26 (F := F)) v197 v199 v201 v203 v205 v207 v759 v809) Q) := by
  simp only [runs, onBufs, k0_part26_eq_skeleton, k0_part26_skel, Prog.lift, Prog.bind_op, Prog.bind_ret, Prog.pure_eq_ret]
  iintro Ho HQ
  iapply (step_col c f _) $$ Ho; iintro Ho
  iapply (step_col c f _) $$ Ho; iintro Ho
  iapply (step_col c f _) $$ Ho; iintro Ho
  simp only [wp_ret]
  imodintro
  iapply HQ
  iexact Ho

/-- Head 7 written to `o`; the rows stored to slot (3, 0); the eight read together. -/
theorem part27 (f : S128x512.Idx → Elt F .f32) (T : List (View.Piece (Elt F) S128x512 .f32))
    {v2 v177 v209 v848 v849 cst_626} {Q : _ → sProp 𝕄} :
    iprop(⌜∀ i, truncf .bf16 (prodO v177 f (col 7 (k0_pay107 v209 v848 v849 cst_626)
        :: T)) bitsLt_bf16_f32 i = Y c (at4 3 0 i)⌝ ∗ (∃ g, ysPts c 3 0 g) ∗ oPts c f T)
      ⊢ iprop((∀ w0, (ysPts c 3 0 (Y c) ∗ oPts c f (col 7 (k0_pay107 v209 v848 v849 cst_626) :: T))
            -∗ Q w0)
          -∗ runs c (onBufs (k0_part27 (F := F)) v2 v177 v209 v848 v849 cst_626) Q) := by
  simp only [runs, onBufs, k0_part27_eq_skeleton, k0_part27_skel, Prog.lift, Prog.bind_op, Prog.bind_ret, Prog.pure_eq_ret]
  iintro ⟨%hY, ⟨%g, Hy⟩, Ho⟩ HQ
  iapply (step_col c f _) $$ Ho; iintro Ho
  iapply (step_load c) $$ Ho; iintro Ho
  iapply (step_ys c Y 3 0 (truncf .bf16 _ bitsLt_bf16_f32) rfl hY) $$ Hy; iintro Hy
  simp only [wp_ret]
  imodintro
  iapply HQ
  isplitl [Hy]; · iexact Hy
  iexact Ho

/-- The rows of slot (3, 0) sent back; a wait on the sent block of slot (3, 1); a wait on the landed block of slot (3, 1). -/
theorem part28 (l : List (GSem nD τ sig × ℕ))
    {v163 v175} (h031 : Above (level (.dma (dsem 0 3 1))) l)
    (h131 : Above (level (.dma (dsem 1 3 1))) l)
    {Q : _ → sProp 𝕄} :
    iprop(levAts L lv ∗ armed X Y K c 0 3 1 ∗ armed X Y K c 1 3 1 ∗ scatterKit X Y K c 3 0 ∗ ysPts c 3 0 (Y c)
        ∗ owed c (scatterDue c (3, 0) :: l))
      ⊢ iprop(((owed c l ∗ armed X Y K c 2 3 0 ∗ spent X Y K c 0 3 1 ∗ slotPay X Y c 0 3 1 ∗ spent X Y K c 1 3 1
          ∗ slotPay X Y c 1 3 1)
            -∗ Q (k0_pay109 v175 (xgBlk c X 3 1)))
          -∗ runs c (onBufs (k0_part28 (F := F)) c v163 v175) Q) := by
  simp only [runs, onBufs, k0_part28_eq_skeleton, k0_part28_skel, Prog.lift, Prog.bind_op, Prog.bind_ret, Prog.pure_eq_ret]
  iintro ⟨#Hlev, A031, A131, G, Hy, HO⟩ HQ
  iapply (send_scatter X Y K c 3 0 (by decide) _ (dev12 c) _ _ rfl rfl _) $$ [G Hy HO]
  · isplitl [G]; · iexact G
    isplitl [Hy]; · iexact Hy
    iexact HO
  iintro ⟨A230, HO⟩
  iapply (step_wait X Y K c 0 3 1 (by decide) _ rfl (credit_eq _) l h031) $$ [A031 HO]
  · isplitr; · iexact Hlev
    isplitl [A031]; · iexact A031
    iexact HO
  iintro ⟨HO, S031, P031⟩
  iapply (step_wait X Y K c 1 3 1 (by decide) _ rfl (credit_eq _) l h131) $$ [A131 HO]
  · isplitr; · iexact Hlev
    isplitl [A131]; · iexact A131
    iexact HO
  iintro ⟨HO, S131, P131⟩
  ihave B := (Entails.of_eq (show slotPay X Y c 1 3 1 = xgPts c 3 1 (XG X c) from rfl)) $$ P131
  iapply (step_slot c xgM 3 1) $$ B; iintro B
  ihave P131 := (Entails.of_eq (show slotPay X Y c 1 3 1 = xgPts c 3 1 (XG X c) from rfl).symm) $$ B
  simp only [wp_ret]
  imodintro
  iapply HQ
  isplitl [HO]; · iexact HO
  isplitl [A230]; · iexact A230
  isplitl [S031]; · iexact S031
  isplitl [P031]; · iexact P031
  isplitl [S131]; · iexact S131
  iexact P131

/-- Heads 0 to 2 written to `o`. -/
theorem part29 (f : S128x512.Idx → Elt F .f32) (T : List (View.Piece (Elt F) S128x512 .f32))
    {v211 v213 v215 v217 v219 v221 v223 v903} {Q : _ → sProp 𝕄} :
    iprop(oPts c f T)
      ⊢ iprop(((oPts c f (col 2 (k0_pay112 v219 v221 v903) :: col 1 (k0_pay111 v215 v217 v903)
          :: col 0 (k0_pay110 v211 v213 v903) :: T))
            -∗ Q ⟨k0_pay113 v223 v903, k0_pay114 v223 v903⟩)
          -∗ runs c (onBufs (k0_part29 (F := F)) v211 v213 v215 v217 v219 v221 v223 v903) Q) := by
  simp only [runs, onBufs, k0_part29_eq_skeleton, k0_part29_skel, Prog.lift, Prog.bind_op, Prog.bind_ret, Prog.pure_eq_ret]
  iintro Ho HQ
  iapply (step_col c f _) $$ Ho; iintro Ho
  iapply (step_col c f _) $$ Ho; iintro Ho
  iapply (step_col c f _) $$ Ho; iintro Ho
  simp only [wp_ret]
  imodintro
  iapply HQ
  iexact Ho

/-- Heads 3 to 5 written to `o`. -/
theorem part30 (f : S128x512.Idx → Elt F .f32) (T : List (View.Piece (Elt F) S128x512 .f32))
    {v225 v227 v229 v231 v233 v235 v237 v903 v942 v943} {Q : _ → sProp 𝕄} :
    iprop(oPts c f T)
      ⊢ iprop(((oPts c f (col 5 (k0_pay117 v231 v233 v903) :: col 4 (k0_pay116 v227 v229 v903)
          :: col 3 (k0_pay115 v225 v942 v943) :: T))
            -∗ Q (k0_pay118 v235 v237 v903))
          -∗ runs c (onBufs (k0_part30 (F := F)) v225 v227 v229 v231 v233 v235 v237 v903 v942 v943) Q) := by
  simp only [runs, onBufs, k0_part30_eq_skeleton, k0_part30_skel, Prog.lift, Prog.bind_op, Prog.bind_ret, Prog.pure_eq_ret]
  iintro Ho HQ
  iapply (step_col c f _) $$ Ho; iintro Ho
  iapply (step_col c f _) $$ Ho; iintro Ho
  iapply (step_col c f _) $$ Ho; iintro Ho
  simp only [wp_ret]
  imodintro
  iapply HQ
  iexact Ho

/-- Heads 6 to 7 written to `o`; the rows stored to slot (3, 1); the eight read together. -/
theorem part31 (f : S128x512.Idx → Elt F .f32) (T : List (View.Piece (Elt F) S128x512 .f32))
    {v2 v177 v239 v241 v903 v984} {Q : _ → sProp 𝕄} :
    iprop(⌜∀ i, truncf .bf16 (prodO v177 f (col 7 (k0_pay120 v239 v241 v903) :: col 6 (k0_pay119 v984)
        :: T)) bitsLt_bf16_f32 i = Y c (at4 3 1 i)⌝ ∗ (∃ g, ysPts c 3 1 g) ∗ oPts c f T)
      ⊢ iprop((∀ w0, (ysPts c 3 1 (Y c) ∗ oPts c f (col 7 (k0_pay120 v239 v241 v903) :: col 6 (k0_pay119 v984) :: T))
            -∗ Q w0)
          -∗ runs c (onBufs (k0_part31 (F := F)) v2 v177 v239 v241 v903 v984) Q) := by
  simp only [runs, onBufs, k0_part31_eq_skeleton, k0_part31_skel, Prog.lift, Prog.bind_op, Prog.bind_ret, Prog.pure_eq_ret]
  iintro ⟨%hY, ⟨%g, Hy⟩, Ho⟩ HQ
  iapply (step_col c f _) $$ Ho; iintro Ho
  iapply (step_col c f _) $$ Ho; iintro Ho
  iapply (step_load c) $$ Ho; iintro Ho
  iapply (step_ys c Y 3 1 (truncf .bf16 _ bitsLt_bf16_f32) rfl hY) $$ Hy; iintro Hy
  simp only [wp_ret]
  imodintro
  iapply HQ
  isplitl [Hy]; · iexact Hy
  iexact Ho

/-- The rows of slot (3, 1) sent back; a wait on the sent block of slot (2, 0). -/
theorem part32 (l : List (GSem nD τ sig × ℕ))
    {v100 v1017} (h020 : Above (level (.dma (dsem 0 2 0))) l)
    {Q : _ → sProp 𝕄} :
    iprop(levAts L lv ∗ armed X Y K c 0 2 0 ∗ scatterKit X Y K c 3 1 ∗ ysPts c 3 1 (Y c) ∗ owed c (scatterDue c (3, 1) :: l))
      ⊢ iprop(((owed c l ∗ armed X Y K c 2 3 1 ∗ spent X Y K c 0 2 0 ∗ slotPay X Y c 0 2 0)
            -∗ Q ⟨⟩)
          -∗ runs c (onBufs (k0_part32 (F := F)) c v100 v1017) Q) := by
  simp only [runs, onBufs, k0_part32_eq_skeleton, k0_part32_skel, Prog.lift, Prog.bind_op, Prog.bind_ret, Prog.pure_eq_ret]
  iintro ⟨Hlev, A020, G, Hy, HO⟩ HQ
  iapply (send_scatter X Y K c 3 1 (by decide) _ (dev13 c) _ _ rfl rfl _) $$ [G Hy HO]
  · isplitl [G]; · iexact G
    isplitl [Hy]; · iexact Hy
    iexact HO
  iintro ⟨A231, HO⟩
  iapply (step_wait X Y K c 0 2 0 (by decide) _ rfl (credit_eq _) l h020) $$ [Hlev A020 HO]
  · isplitl [Hlev]; · iexact Hlev
    isplitl [A020]; · iexact A020
    iexact HO
  iintro ⟨HO, S020, P020⟩
  simp only [wp_ret]
  imodintro
  iapply HQ
  isplitl [HO]; · iexact HO
  isplitl [A231]; · iexact A231
  isplitl [S020]; · iexact S020
  iexact P020

/-- A wait on the landed block of slot (2, 0); heads 0 to 1 written to `o`. -/
theorem part33 (l : List (GSem nD τ sig × ℕ)) (f : S128x512.Idx → Elt F .f32) (T : List (View.Piece (Elt F) S128x512 .f32))
    {v175 v179 v181 v183 v185 v187} (h120 : Above (level (.dma (dsem 1 2 0))) l)
    {Q : _ → sProp 𝕄} :
    iprop(levAts L lv ∗ armed X Y K c 1 2 0 ∗ owed c l ∗ oPts c f T)
      ⊢ iprop(((owed c l ∗ spent X Y K c 1 2 0 ∗ slotPay X Y c 1 2 0
          ∗ oPts c f (col 1 (k0_pay124 v175 v183 v185 (xgBlk c X 2 0)) :: col 0 (k0_pay123 v175 v179 v181 (xgBlk c X 2 0))
              :: T))
            -∗ Q ⟨k0_pay122 v175 (xgBlk c X 2 0), k0_pay126 v175 v187 (xgBlk c X 2 0), k0_pay127 v175 v187 (xgBlk c X 2 0),
                constant S128x64 .f32 0x00000000#32⟩)
          -∗ runs c (onBufs (k0_part33 (F := F)) v175 v179 v181 v183 v185 v187) Q) := by
  simp only [runs, onBufs, k0_part33_eq_skeleton, k0_part33_skel, Prog.lift, Prog.bind_op, Prog.bind_ret, Prog.pure_eq_ret]
  iintro ⟨Hlev, A120, HO, Ho⟩ HQ
  iapply (step_wait X Y K c 1 2 0 (by decide) _ rfl (credit_eq _) l h120) $$ [Hlev A120 HO]
  · isplitl [Hlev]; · iexact Hlev
    isplitl [A120]; · iexact A120
    iexact HO
  iintro ⟨HO, S120, P120⟩
  ihave B := (Entails.of_eq (show slotPay X Y c 1 2 0 = xgPts c 2 0 (XG X c) from rfl)) $$ P120
  iapply (step_slot c xgM 2 0) $$ B; iintro B
  ihave P120 := (Entails.of_eq (show slotPay X Y c 1 2 0 = xgPts c 2 0 (XG X c) from rfl).symm) $$ B
  iapply (step_col c f _) $$ Ho; iintro Ho
  iapply (step_col c f _) $$ Ho; iintro Ho
  simp only [wp_ret]
  imodintro
  iapply HQ
  isplitl [HO]; · iexact HO
  isplitl [S120]; · iexact S120
  isplitl [P120]; · iexact P120
  iexact Ho

/-- Heads 2 to 4 written to `o`. -/
theorem part34 (f : S128x512.Idx → Elt F .f32) (T : List (View.Piece (Elt F) S128x512 .f32))
    {v189 v191 v193 v195 v197 v199 v201 v1047 v1076 v1077 cst_799} {Q : _ → sProp 𝕄} :
    iprop(oPts c f T)
      ⊢ iprop((∀ w0, (oPts c f (col 4 (k0_pay130 v195 v197 v1047) :: col 3 (k0_pay129 v191 v193 v1047)
          :: col 2 (k0_pay128 v189 v1076 v1077 cst_799) :: T))
            -∗ Q ⟨k0_pay131 v199 v201 v1047, w0⟩)
          -∗ runs c (onBufs (k0_part34 (F := F)) v189 v191 v193 v195 v197 v199 v201 v1047 v1076 v1077 cst_799) Q) := by
  simp only [runs, onBufs, k0_part34_eq_skeleton, k0_part34_skel, Prog.lift, Prog.bind_op, Prog.bind_ret, Prog.pure_eq_ret]
  iintro Ho HQ
  iapply (step_col c f _) $$ Ho; iintro Ho
  iapply (step_col c f _) $$ Ho; iintro Ho
  iapply (step_col c f _) $$ Ho; iintro Ho
  iapply (step_load c) $$ Ho; iintro Ho
  simp only [wp_ret]
  imodintro
  iapply HQ
  iexact Ho

/-- Heads 5 to 7 written to `o`; the rows stored to slot (2, 0); the eight read together. -/
theorem part35 (f : S128x512.Idx → Elt F .f32) (T : List (View.Piece (Elt F) S128x512 .f32))
    {v2 v177 v203 v205 v207 v209 v1047 v1116 v1117} {Q : _ → sProp 𝕄} :
    iprop(⌜∀ i, truncf .bf16 (prodO v177 f (col 7 (k0_pay134 v207 v209 v1047) :: col 6 (k0_pay133 v203 v205 v1047)
        :: col 5 (k0_pay132 v1116) :: T)) bitsLt_bf16_f32 i = Y c (at4 2 0 i)⌝ ∗ (∃ g, ysPts c 2 0 g) ∗ oPts c f T)
      ⊢ iprop((∀ w0 w1 w2 w3, (ysPts c 2 0 (Y c) ∗ oPts c f (col 7 (k0_pay134 v207 v209 v1047)
          :: col 6 (k0_pay133 v203 v205 v1047) :: col 5 (k0_pay132 v1116) :: T))
            -∗ Q ⟨w0, w1, w2, w3⟩)
          -∗ runs c (onBufs (k0_part35 (F := F)) v2 v177 v203 v205 v207 v209 v1047 v1116 v1117) Q) := by
  simp only [runs, onBufs, k0_part35_eq_skeleton, k0_part35_skel, Prog.lift, Prog.bind_op, Prog.bind_ret, Prog.pure_eq_ret]
  iintro ⟨%hY, ⟨%g, Hy⟩, Ho⟩ HQ
  iapply (step_o c f _) $$ Ho; iintro Ho
  iapply (step_col c f _) $$ Ho; iintro Ho
  iapply (step_col c f _) $$ Ho; iintro Ho
  iapply (step_load c) $$ Ho; iintro Ho
  iapply (step_ys c Y 2 0 (truncf .bf16 _ bitsLt_bf16_f32) rfl hY) $$ Hy; iintro Hy
  simp only [wp_ret]
  imodintro
  iapply HQ
  isplitl [Hy]; · iexact Hy
  iexact Ho

/-- The rows of slot (2, 0) sent back; a wait on the sent block of slot (2, 1). -/
theorem part36 (l : List (GSem nD τ sig × ℕ))
    {v1151 c4_i32_835 v1152 c1_i32_837} (h021 : Above (level (.dma (dsem 0 2 1))) l)
    {Q : _ → sProp 𝕄} :
    iprop(levAts L lv ∗ armed X Y K c 0 2 1 ∗ scatterKit X Y K c 2 0 ∗ ysPts c 2 0 (Y c) ∗ owed c (scatterDue c (2, 0) :: l))
      ⊢ iprop((∀ w0, (owed c l ∗ armed X Y K c 2 2 0 ∗ spent X Y K c 0 2 1 ∗ slotPay X Y c 0 2 1)
            -∗ Q w0)
          -∗ runs c (onBufs (k0_part36 (F := F)) c v1151 c4_i32_835 v1152 c1_i32_837) Q) := by
  simp only [runs, onBufs, k0_part36_eq_skeleton, k0_part36_skel, Prog.lift, Prog.bind_op, Prog.bind_ret, Prog.pure_eq_ret]
  iintro ⟨Hlev, A021, G, Hy, HO⟩ HQ
  iapply (send_scatter X Y K c 2 0 (by decide) _ (dev14 c) _ _ rfl rfl _) $$ [G Hy HO]
  · isplitl [G]; · iexact G
    isplitl [Hy]; · iexact Hy
    iexact HO
  iintro ⟨A220, HO⟩
  iapply (step_wait X Y K c 0 2 1 (by decide) _ rfl (credit_eq _) l h021) $$ [Hlev A021 HO]
  · isplitl [Hlev]; · iexact Hlev
    isplitl [A021]; · iexact A021
    iexact HO
  iintro ⟨HO, S021, P021⟩
  simp only [wp_ret]
  imodintro
  iapply HQ
  isplitl [HO]; · iexact HO
  isplitl [A220]; · iexact A220
  isplitl [S021]; · iexact S021
  iexact P021

/-- A wait on the landed block of slot (2, 1); head 0 written to `o`. -/
theorem part37 (l : List (GSem nD τ sig × ℕ)) (f : S128x512.Idx → Elt F .f32) (T : List (View.Piece (Elt F) S128x512 .f32))
    {v121 v175 v211 v213 v215 v217} (h121 : Above (level (.dma (dsem 1 2 1))) l)
    {Q : _ → sProp 𝕄} :
    iprop(levAts L lv ∗ armed X Y K c 1 2 1 ∗ owed c l ∗ oPts c f T)
      ⊢ iprop(((owed c l ∗ spent X Y K c 1 2 1 ∗ slotPay X Y c 1 2 1
          ∗ oPts c f (col 0 (k0_pay137 v175 v211 v213 (xgBlk c X 2 1)) :: T))
            -∗ Q ⟨k0_pay136 v175 (xgBlk c X 2 1), k0_pay138 v175 v215 v217 (xgBlk c X 2 1)⟩)
          -∗ runs c (onBufs (k0_part37 (F := F)) v121 v175 v211 v213 v215 v217) Q) := by
  simp only [runs, onBufs, k0_part37_eq_skeleton, k0_part37_skel, Prog.lift, Prog.bind_op, Prog.bind_ret, Prog.pure_eq_ret]
  iintro ⟨Hlev, A121, HO, Ho⟩ HQ
  iapply (step_wait X Y K c 1 2 1 (by decide) _ rfl (credit_eq _) l h121) $$ [Hlev A121 HO]
  · isplitl [Hlev]; · iexact Hlev
    isplitl [A121]; · iexact A121
    iexact HO
  iintro ⟨HO, S121, P121⟩
  ihave B := (Entails.of_eq (show slotPay X Y c 1 2 1 = xgPts c 2 1 (XG X c) from rfl)) $$ P121
  iapply (step_slot c xgM 2 1) $$ B; iintro B
  ihave P121 := (Entails.of_eq (show slotPay X Y c 1 2 1 = xgPts c 2 1 (XG X c) from rfl).symm) $$ B
  iapply (step_col c f _) $$ Ho; iintro Ho
  simp only [wp_ret]
  imodintro
  iapply HQ
  isplitl [HO]; · iexact HO
  isplitl [S121]; · iexact S121
  isplitl [P121]; · iexact P121
  iexact Ho

/-- Heads 1 to 4 written to `o`. -/
theorem part38 (f : S128x512.Idx → Elt F .f32) (T : List (View.Piece (Elt F) S128x512 .f32))
    {v219 v221 v223 v225 v227 v229 v1191 v1212} {Q : _ → sProp 𝕄} :
    iprop(oPts c f T)
      ⊢ iprop(((oPts c f (col 4 (k0_pay142 v227 v229 v1191) :: col 3 (k0_pay141 v223 v225 v1191)
          :: col 2 (k0_pay140 v219 v221 v1191) :: col 1 (k0_pay139 v1212) :: T))
            -∗ Q ⟨⟩)
          -∗ runs c (onBufs (k0_part38 (F := F)) v219 v221 v223 v225 v227 v229 v1191 v1212) Q) := by
  simp only [runs, onBufs, k0_part38_eq_skeleton, k0_part38_skel, Prog.lift, Prog.bind_op, Prog.bind_ret, Prog.pure_eq_ret]
  iintro Ho HQ
  iapply (step_col c f _) $$ Ho; iintro Ho
  iapply (step_col c f _) $$ Ho; iintro Ho
  iapply (step_col c f _) $$ Ho; iintro Ho
  iapply (step_col c f _) $$ Ho; iintro Ho
  simp only [wp_ret]
  imodintro
  iapply HQ
  iexact Ho

/-- Heads 5 to 7 written to `o`; the eight read together. -/
theorem part39 (f : S128x512.Idx → Elt F .f32) (T : List (View.Piece (Elt F) S128x512 .f32))
    {v177 v231 v233 v235 v237 v239 v241 v1191} {Q : _ → sProp 𝕄} :
    iprop(oPts c f T)
      ⊢ iprop(((oPts c f (col 7 (k0_pay145 v239 v241 v1191) :: col 6 (k0_pay144 v235 v237 v1191)
          :: col 5 (k0_pay143 v231 v233 v1191) :: T))
            -∗ Q (prodO v177 f (col 7 (k0_pay145 v239 v241 v1191) :: col 6 (k0_pay144 v235 v237 v1191)
                :: col 5 (k0_pay143 v231 v233 v1191) :: T)))
          -∗ runs c (onBufs (k0_part39 (F := F)) v177 v231 v233 v235 v237 v239 v241 v1191) Q) := by
  simp only [runs, onBufs, k0_part39_eq_skeleton, k0_part39_skel, Prog.lift, Prog.bind_op, Prog.bind_ret, Prog.pure_eq_ret]
  iintro Ho HQ
  iapply (step_col c f _) $$ Ho; iintro Ho
  iapply (step_col c f _) $$ Ho; iintro Ho
  iapply (step_col c f _) $$ Ho; iintro Ho
  iapply (step_load c) $$ Ho; iintro Ho
  refine step_end c (prodO v177 f (col 7 (k0_pay145 v239 v241 v1191) :: col 6 (k0_pay144 v235 v237 v1191)
      :: col 5 (k0_pay143 v231 v233 v1191) :: T)) rfl ?_
  iintro ⟨HQ, Ho⟩
  iapply HQ
  iexact Ho

/-- The rows stored to slot (2, 1); the rows of slot (2, 1) sent back. -/
theorem part40 (l : List (GSem nD τ sig × ℕ))
    {v2 v1290} {Q : _ → sProp 𝕄} :
    iprop(⌜∀ i, truncf .bf16 v1290 bitsLt_bf16_f32 i = Y c (at4 2 1 i)⌝ ∗ (∃ g, ysPts c 2 1 g) ∗ scatterKit X Y K c 2 1
        ∗ owed c (scatterDue c (2, 1) :: l))
      ⊢ iprop((∀ w0, (owed c l ∗ armed X Y K c 2 2 1)
            -∗ Q w0)
          -∗ runs c (onBufs (k0_part40 (F := F)) c v2 v1290) Q) := by
  simp only [runs, onBufs, k0_part40_eq_skeleton, k0_part40_skel, Prog.lift, Prog.bind_op, Prog.bind_ret, Prog.pure_eq_ret]
  iintro ⟨%hY, ⟨%g, Hy⟩, G, HO⟩ HQ
  iapply (step_ys c Y 2 1 (truncf .bf16 v1290 bitsLt_bf16_f32) rfl hY) $$ Hy; iintro Hy
  iapply (send_scatter X Y K c 2 1 (by decide) _ (dev15 c) _ _ rfl rfl _) $$ [G Hy HO]
  · isplitl [G]; · iexact G
    isplitl [Hy]; · iexact Hy
    iexact HO
  iintro ⟨A221, HO⟩
  simp only [wp_ret]
  imodintro
  iapply HQ
  isplitl [HO]; · iexact HO
  iexact A221

end Cert.KernelIdeal.Proof

end
-- ==== Proof.BodyEnd.lean ====
/-
  The body's last pieces: the waits on the rows sent back and on those that came, and their sums.
-/
module

public import proofs.«01_k».proof.Proof.BodyStart

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2x128x512.Idx → Elt F .bf16) (Y : Dev nD → S4x2x128x512.Idx → Elt F .bf16)
variable (K : GSem nD τ sig → ℕ) (c : Dev nD)

/-- A wait on the sent rows of slot (1, 0); a wait on the rows that came back of slot (1, 0); the rows of slot (1, 0) read. -/
theorem part41 (l : List (GSem nD τ sig × ℕ))
    {v346 v585} (h210 : Above (level (.dma (dsem 2 1 0))) l)
    (h310 : Above (level (.dma (dsem 3 1 0))) l)
    {Q : _ → sProp 𝕄} :
    iprop(levAts L lv ∗ armed X Y K c 2 1 0 ∗ armed X Y K c 3 1 0 ∗ owed c l)
      ⊢ iprop(((owed c l ∗ spent X Y K c 2 1 0 ∗ slotPay X Y c 2 1 0 ∗ spent X Y K c 3 1 0 ∗ slotPay X Y c 3 1 0)
            -∗ Q (k0_pay148 v346 (yrBlk c Y 1 0)))
          -∗ runs c (onBufs (k0_part41 (F := F)) v346 v585) Q) := by
  simp only [runs, onBufs, k0_part41_eq_skeleton, k0_part41_skel, Prog.lift, Prog.bind_op, Prog.bind_ret, Prog.pure_eq_ret]
  iintro ⟨#Hlev, A210, A310, HO⟩ HQ
  iapply (step_wait X Y K c 2 1 0 (by decide) _ rfl (credit_eq _) l h210) $$ [A210 HO]
  · isplitr; · iexact Hlev
    isplitl [A210]; · iexact A210
    iexact HO
  iintro ⟨HO, S210, P210⟩
  iapply (step_wait X Y K c 3 1 0 (by decide) _ rfl (credit_eq _) l h310) $$ [A310 HO]
  · isplitr; · iexact Hlev
    isplitl [A310]; · iexact A310
    iexact HO
  iintro ⟨HO, S310, P310⟩
  ihave B := (Entails.of_eq (show slotPay X Y c 3 1 0 = yrPts c 1 0 (YR Y c) from rfl)) $$ P310
  iapply (step_slot c yrM 1 0) $$ B; iintro B
  ihave P310 := (Entails.of_eq (show slotPay X Y c 3 1 0 = yrPts c 1 0 (YR Y c) from rfl).symm) $$ B
  simp only [wp_ret]
  imodintro
  iapply HQ
  isplitl [HO]; · iexact HO
  isplitl [S210]; · iexact S210
  isplitl [P210]; · iexact P210
  isplitl [S310]; · iexact S310
  iexact P310

/-- A wait on the sent rows of slot (1, 1); a wait on the rows that came back of slot (1, 1); the rows of slot (1,
    1) read; a wait on the sent rows of slot (3, 0). -/
theorem part42 (l : List (GSem nD τ sig × ℕ))
    {v451 v729} (h211 : Above (level (.dma (dsem 2 1 1))) l)
    (h311 : Above (level (.dma (dsem 3 1 1))) l)
    (h230 : Above (level (.dma (dsem 2 3 0))) l)
    {Q : _ → sProp 𝕄} :
    iprop(levAts L lv ∗ armed X Y K c 2 1 1 ∗ armed X Y K c 3 1 1 ∗ armed X Y K c 2 3 0 ∗ owed c l)
      ⊢ iprop(((owed c l ∗ spent X Y K c 2 1 1 ∗ slotPay X Y c 2 1 1 ∗ spent X Y K c 3 1 1 ∗ slotPay X Y c 3 1 1
          ∗ spent X Y K c 2 3 0 ∗ slotPay X Y c 2 3 0)
            -∗ Q (k0_pay149 v451 (yrBlk c Y 1 1)))
          -∗ runs c (onBufs (k0_part42 (F := F)) v451 v729) Q) := by
  simp only [runs, onBufs, k0_part42_eq_skeleton, k0_part42_skel, Prog.lift, Prog.bind_op, Prog.bind_ret, Prog.pure_eq_ret]
  iintro ⟨#Hlev, A211, A311, A230, HO⟩ HQ
  iapply (step_wait X Y K c 2 1 1 (by decide) _ rfl (credit_eq _) l h211) $$ [A211 HO]
  · isplitr; · iexact Hlev
    isplitl [A211]; · iexact A211
    iexact HO
  iintro ⟨HO, S211, P211⟩
  iapply (step_wait X Y K c 3 1 1 (by decide) _ rfl (credit_eq _) l h311) $$ [A311 HO]
  · isplitr; · iexact Hlev
    isplitl [A311]; · iexact A311
    iexact HO
  iintro ⟨HO, S311, P311⟩
  ihave B := (Entails.of_eq (show slotPay X Y c 3 1 1 = yrPts c 1 1 (YR Y c) from rfl)) $$ P311
  iapply (step_slot c yrM 1 1) $$ B; iintro B
  ihave P311 := (Entails.of_eq (show slotPay X Y c 3 1 1 = yrPts c 1 1 (YR Y c) from rfl).symm) $$ B
  iapply (step_wait X Y K c 2 3 0 (by decide) _ rfl (credit_eq _) l h230) $$ [A230 HO]
  · isplitr; · iexact Hlev
    isplitl [A230]; · iexact A230
    iexact HO
  iintro ⟨HO, S230, P230⟩
  simp only [wp_ret]
  imodintro
  iapply HQ
  isplitl [HO]; · iexact HO
  isplitl [S211]; · iexact S211
  isplitl [P211]; · iexact P211
  isplitl [S311]; · iexact S311
  isplitl [P311]; · iexact P311
  isplitl [S230]; · iexact S230
  iexact P230

/-- A wait on the rows that came back of slot (3, 0); the rows of slot (3, 0) read; a wait on the sent rows of slot (3, 1). -/
theorem part43 (l : List (GSem nD τ sig × ℕ))
    {v873 v1017 v1333} (h330 : Above (level (.dma (dsem 3 3 0))) l)
    (h231 : Above (level (.dma (dsem 2 3 1))) l)
    {Q : _ → sProp 𝕄} :
    iprop(levAts L lv ∗ armed X Y K c 3 3 0 ∗ armed X Y K c 2 3 1 ∗ owed c l)
      ⊢ iprop(((owed c l ∗ spent X Y K c 3 3 0 ∗ slotPay X Y c 3 3 0 ∗ spent X Y K c 2 3 1 ∗ slotPay X Y c 2 3 1)
            -∗ Q (k0_pay150 v1333 (yrBlk c Y 3 0)))
          -∗ runs c (onBufs (k0_part43 (F := F)) v873 v1017 v1333) Q) := by
  simp only [runs, onBufs, k0_part43_eq_skeleton, k0_part43_skel, Prog.lift, Prog.bind_op, Prog.bind_ret, Prog.pure_eq_ret]
  iintro ⟨#Hlev, A330, A231, HO⟩ HQ
  iapply (step_wait X Y K c 3 3 0 (by decide) _ rfl (credit_eq _) l h330) $$ [A330 HO]
  · isplitr; · iexact Hlev
    isplitl [A330]; · iexact A330
    iexact HO
  iintro ⟨HO, S330, P330⟩
  ihave B := (Entails.of_eq (show slotPay X Y c 3 3 0 = yrPts c 3 0 (YR Y c) from rfl)) $$ P330
  iapply (step_slot c yrM 3 0) $$ B; iintro B
  ihave P330 := (Entails.of_eq (show slotPay X Y c 3 3 0 = yrPts c 3 0 (YR Y c) from rfl).symm) $$ B
  iapply (step_wait X Y K c 2 3 1 (by decide) _ rfl (credit_eq _) l h231) $$ [A231 HO]
  · isplitr; · iexact Hlev
    isplitl [A231]; · iexact A231
    iexact HO
  iintro ⟨HO, S231, P231⟩
  simp only [wp_ret]
  imodintro
  iapply HQ
  isplitl [HO]; · iexact HO
  isplitl [S330]; · iexact S330
  isplitl [P330]; · iexact P330
  isplitl [S231]; · iexact S231
  iexact P231

/-- A wait on the rows that came back of slot (3, 1); the rows of slot (3, 1) read; a wait on the sent rows of slot (2,
    0); a wait on the rows that came back of slot (2, 0). -/
theorem part44 (l : List (GSem nD τ sig × ℕ))
    {v1161 v1351} (h331 : Above (level (.dma (dsem 3 3 1))) l)
    (h220 : Above (level (.dma (dsem 2 2 0))) l)
    (h320 : Above (level (.dma (dsem 3 2 0))) l)
    {Q : _ → sProp 𝕄} :
    iprop(levAts L lv ∗ armed X Y K c 3 3 1 ∗ armed X Y K c 2 2 0 ∗ armed X Y K c 3 2 0 ∗ owed c l)
      ⊢ iprop(((owed c l ∗ spent X Y K c 3 3 1 ∗ slotPay X Y c 3 3 1 ∗ spent X Y K c 2 2 0 ∗ slotPay X Y c 2 2 0
          ∗ spent X Y K c 3 2 0 ∗ slotPay X Y c 3 2 0)
            -∗ Q (k0_pay151 v1351 (yrBlk c Y 3 1)))
          -∗ runs c (onBufs (k0_part44 (F := F)) v1161 v1351) Q) := by
  simp only [runs, onBufs, k0_part44_eq_skeleton, k0_part44_skel, Prog.lift, Prog.bind_op, Prog.bind_ret, Prog.pure_eq_ret]
  iintro ⟨#Hlev, A331, A220, A320, HO⟩ HQ
  iapply (step_wait X Y K c 3 3 1 (by decide) _ rfl (credit_eq _) l h331) $$ [A331 HO]
  · isplitr; · iexact Hlev
    isplitl [A331]; · iexact A331
    iexact HO
  iintro ⟨HO, S331, P331⟩
  ihave B := (Entails.of_eq (show slotPay X Y c 3 3 1 = yrPts c 3 1 (YR Y c) from rfl)) $$ P331
  iapply (step_slot c yrM 3 1) $$ B; iintro B
  ihave P331 := (Entails.of_eq (show slotPay X Y c 3 3 1 = yrPts c 3 1 (YR Y c) from rfl).symm) $$ B
  iapply (step_wait X Y K c 2 2 0 (by decide) _ rfl (credit_eq _) l h220) $$ [A220 HO]
  · isplitr; · iexact Hlev
    isplitl [A220]; · iexact A220
    iexact HO
  iintro ⟨HO, S220, P220⟩
  iapply (step_wait X Y K c 3 2 0 (by decide) _ rfl (credit_eq _) l h320) $$ [A320 HO]
  · isplitr; · iexact Hlev
    isplitl [A320]; · iexact A320
    iexact HO
  iintro ⟨HO, S320, P320⟩
  simp only [wp_ret]
  imodintro
  iapply HQ
  isplitl [HO]; · iexact HO
  isplitl [S331]; · iexact S331
  isplitl [P331]; · iexact P331
  isplitl [S220]; · iexact S220
  isplitl [P220]; · iexact P220
  isplitl [S320]; · iexact S320
  iexact P320

/-- The rows of slot (2, 0) read; a wait on the sent rows of slot (2, 1); a wait on the rows that came back of slot (2,
    1); the rows of slot (2, 1) read. -/
theorem part45 (l : List (GSem nD τ sig × ℕ))
    {v1305 v1369 v1387} (h221 : Above (level (.dma (dsem 2 2 1))) l)
    (h321 : Above (level (.dma (dsem 3 2 1))) l)
    {Q : _ → sProp 𝕄} :
    iprop(levAts L lv ∗ armed X Y K c 2 2 1 ∗ armed X Y K c 3 2 1 ∗ slotPay X Y c 3 2 0 ∗ owed c l)
      ⊢ iprop(((owed c l ∗ spent X Y K c 2 2 1 ∗ slotPay X Y c 2 2 1 ∗ spent X Y K c 3 2 1 ∗ slotPay X Y c 3 2 1
          ∗ slotPay X Y c 3 2 0)
            -∗ Q ⟨k0_pay152 v1387 (yrBlk c Y 2 1), k0_pay153 v1369 (yrBlk c Y 2 0)⟩)
          -∗ runs c (onBufs (k0_part45 (F := F)) v1305 v1369 v1387) Q) := by
  simp only [runs, onBufs, k0_part45_eq_skeleton, k0_part45_skel, Prog.lift, Prog.bind_op, Prog.bind_ret, Prog.pure_eq_ret]
  iintro ⟨#Hlev, A221, A321, P320, HO⟩ HQ
  ihave B := (Entails.of_eq (show slotPay X Y c 3 2 0 = yrPts c 2 0 (YR Y c) from rfl)) $$ P320
  iapply (step_slot c yrM 2 0) $$ B; iintro B
  ihave P320 := (Entails.of_eq (show slotPay X Y c 3 2 0 = yrPts c 2 0 (YR Y c) from rfl).symm) $$ B
  iapply (step_wait X Y K c 2 2 1 (by decide) _ rfl (credit_eq _) l h221) $$ [A221 HO]
  · isplitr; · iexact Hlev
    isplitl [A221]; · iexact A221
    iexact HO
  iintro ⟨HO, S221, P221⟩
  iapply (step_wait X Y K c 3 2 1 (by decide) _ rfl (credit_eq _) l h321) $$ [A321 HO]
  · isplitr; · iexact Hlev
    isplitl [A321]; · iexact A321
    iexact HO
  iintro ⟨HO, S321, P321⟩
  ihave B := (Entails.of_eq (show slotPay X Y c 3 2 1 = yrPts c 2 1 (YR Y c) from rfl)) $$ P321
  iapply (step_slot c yrM 2 1) $$ B; iintro B
  ihave P321 := (Entails.of_eq (show slotPay X Y c 3 2 1 = yrPts c 2 1 (YR Y c) from rfl).symm) $$ B
  simp only [wp_ret]
  imodintro
  iapply HQ
  isplitl [HO]; · iexact HO
  isplitl [S221]; · iexact S221
  isplitl [P221]; · iexact P221
  isplitl [S321]; · iexact S321
  isplitl [P321]; · iexact P321
  iexact P320

end Cert.KernelIdeal.Proof

end
-- ==== Proof.Body.lean ====
/-
  The body of the kernel, run by one device: its parts put together.
-/
module

public import proofs.«01_k».proof.Proof.Buffers
public import proofs.«01_k».proof.Proof.Rows
public import proofs.«01_k».proof.Proof.BodyOwn
public import proofs.«01_k».proof.Proof.BodyNext
public import proofs.«01_k».proof.Proof.BodyRest
public import proofs.«01_k».proof.Proof.BodyEnd

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2x128x512.Idx → Elt F .bf16) (Y : Dev nD → S4x2x128x512.Idx → Elt F .bf16)
variable (K : GSem nD τ sig → ℕ) (c : Dev nD)

/-- The cells of the gather's transfers a device enqueues, and those of the scatter's. -/
abbrev gatherCells : sProp 𝕄 := six fun d b => iprop(sender X Y K c 0 d b ∗ target X Y K 1 d b (peer c d.val))
abbrev scatterCells : sProp 𝕄 := six fun d b => iprop(sender X Y K c 2 d b ∗ target X Y K 3 d b (peer c (neg4 d).val))

/-- After the barrier a device has all its twelve transfers take. -/
theorem kits :
    iprop(gatherCells X Y K c ∗ scatterCells X Y K c ∗ (lent (peer c 1) 1 ∗ lent (peer c 2) 2 ∗ lent (peer c 3) 3) ∗ xsAll c (X c))
      ⊢ (iprop(six (gatherKit X Y K c) ∗ six (scatterKit X Y K c)) : sProp 𝕄) := by
  rw [xs_six]
  unfold lent gatherKit scatterKit
  iintro ⟨⟨A10, A11, A20, A21, A30, A31⟩, ⟨B10, B11, B20, B21, B30, B31⟩,
    ⟨⟨X10, X11, Y30, Y31⟩, ⟨X20, X21, Y20, Y21⟩, X30, X31, Y10, Y11⟩, S10, S11, S20, S21, S30, S31⟩
  isplitl [A10 A11 A20 A21 A30 A31 X10 X11 X20 X21 X30 X31 S10 S11 S20 S21 S30 S31]
  · isplitl [A10 X10 S10]
    · icases A10 with ⟨A10, T10⟩
      isplitl [A10]; · iexact A10
      isplitl [T10]; · iexact T10
      isplitl [X10]; · iexact X10
      iexact S10
    isplitl [A11 X11 S11]
    · icases A11 with ⟨A11, T11⟩
      isplitl [A11]; · iexact A11
      isplitl [T11]; · iexact T11
      isplitl [X11]; · iexact X11
      iexact S11
    isplitl [A20 X20 S20]
    · icases A20 with ⟨A20, T20⟩
      isplitl [A20]; · iexact A20
      isplitl [T20]; · iexact T20
      isplitl [X20]; · iexact X20
      iexact S20
    isplitl [A21 X21 S21]
    · icases A21 with ⟨A21, T21⟩
      isplitl [A21]; · iexact A21
      isplitl [T21]; · iexact T21
      isplitl [X21]; · iexact X21
      iexact S21
    isplitl [A30 X30 S30]
    · icases A30 with ⟨A30, T30⟩
      isplitl [A30]; · iexact A30
      isplitl [T30]; · iexact T30
      isplitl [X30]; · iexact X30
      iexact S30
    icases A31 with ⟨A31, T31⟩
    isplitl [A31]; · iexact A31
    isplitl [T31]; · iexact T31
    isplitl [X31]; · iexact X31
    iexact S31
  isplitl [B10 Y10]
  · icases B10 with ⟨B10, T10⟩
    isplitl [B10]; · iexact B10
    isplitl [T10]; · iexact T10
    iexact Y10
  isplitl [B11 Y11]
  · icases B11 with ⟨B11, T11⟩
    isplitl [B11]; · iexact B11
    isplitl [T11]; · iexact T11
    iexact Y11
  isplitl [B20 Y20]
  · icases B20 with ⟨B20, T20⟩
    isplitl [B20]; · iexact B20
    isplitl [T20]; · iexact T20
    iexact Y20
  isplitl [B21 Y21]
  · icases B21 with ⟨B21, T21⟩
    isplitl [B21]; · iexact B21
    isplitl [T21]; · iexact T21
    iexact Y21
  isplitl [B30 Y30]
  · icases B30 with ⟨B30, T30⟩
    isplitl [B30]; · iexact B30
    isplitl [T30]; · iexact T30
    iexact Y30
  icases B31 with ⟨B31, T31⟩
  isplitl [B31]; · iexact B31
  isplitl [T31]; · iexact T31
  iexact Y31

/-- What was written to `o` is some contents. -/
theorem o_forget (f : S128x512.Idx → Elt F .f32) (T : List (View.Piece (Elt F) S128x512 .f32)) :
    oPts c f T ⊢ (iprop(∃ g, oPts c g []) : sProp 𝕄) := by
  iintro H
  iexists oM.view.writes (Elt F) f T
  iexact H

/-- What device `c` owes at the start, in the order it pays. -/
abbrev allDues : List (GSem nD τ sig × ℕ) :=
  [barDue c 1, barDue c 2, barDue c 3,
    gatherDue c (1, 0), gatherDue c (1, 1), gatherDue c (2, 0), gatherDue c (2, 1), gatherDue c (3, 0), gatherDue c (3, 1),
    scatterDue c (1, 0), scatterDue c (1, 1), scatterDue c (3, 0), scatterDue c (3, 1), scatterDue c (2, 0), scatterDue c (2, 1)]

variable (WQ WO : Dev nD → S512x512.Idx → Elt F .bf16) (KB VB : Dev nD → S2x8x64x128.Idx → Elt F .bf16)

/-- What device `c` starts the body from. -/
def bodyGiven : sProp 𝕄 :=
  iprop(((ringer X Y K c 1 ∗ lent c (neg4 1)) ∗ (ringer X Y K c 2 ∗ lent c (neg4 2)) ∗ (ringer X Y K c 3 ∗ lent c (neg4 3)))
    ∗ listener X Y K c ∗ gatherCells X Y K c ∗ six (armed X Y K c 1) ∗ scatterCells X Y K c ∗ six (armed X Y K c 3)
    ∗ xPts c (X c) ∗ wqPts c (WQ c) ∗ woPts c (WO c) ∗ kPts c (KB c) ∗ vPts c (VB c) ∗ (∃ f, outPts c f [])
    ∗ (∃ f, xsAll c f) ∗ (∃ f, oPts c f []) ∗ six (fun d b => iprop(∃ g, ysPts c d b g)) ∗ owed c (allDues c))

/-- What it has at the end. -/
def bodyLeft : sProp 𝕄 :=
  iprop((inv X Y K (barCell c) ∗ atPos ER (barCell c) 1 ∅ 0)
    ∗ six (fun d b => iprop(spent X Y K c 0 d b ∗ slotPay X Y c 0 d b))
    ∗ six (fun d b => iprop(spent X Y K c 1 d b ∗ slotPay X Y c 1 d b))
    ∗ six (fun d b => iprop(spent X Y K c 2 d b ∗ slotPay X Y c 2 d b))
    ∗ six (fun d b => iprop(spent X Y K c 3 d b ∗ slotPay X Y c 3 d b))
    ∗ xPts c (X c) ∗ wqPts c (WQ c) ∗ woPts c (WO c) ∗ kPts c (KB c) ∗ vPts c (VB c)
    ∗ (outM.view.loc (c : Thread nD τ) ↦{fullShare} outOf X WQ WO KB VB c) ∗ (∃ f, oPts c f []) ∗ owed c [])

set_option maxHeartbeats 8000000 in
/-- The body, run by device `c`: its result is the sum of its own part and of the three that came back. -/
theorem body_runs (hY : Y = YS X WQ WO KB VB) {Q : PUnit → sProp 𝕄} :
    iprop(levAts L lv ∗ bodyGiven X Y K c WQ WO KB VB)
      ⊢ iprop((bodyLeft X Y K c WQ WO KB VB -∗ Q ⟨⟩) -∗ runs c (onBufs (cc0_body (F := F))) Q) := by
  have hL : ∀ (d : Fin 4) (b : Fin 2) (g : S128x512.Idx → Elt F .f32) (i : S128x512.Idx),
      truncf .bf16 (prodO (WO c) g (cols (fun h => headO h (qOf (shapeCast S128x512 (xgBlk c X d b)
        shapeCasts_S1x1x128x512_S128x512) (WQ c)) (blk (KB c) b h) (blk (VB c) b h)) ++ [])) bitsLt_bf16_f32 i
        = Y c (at4 d b i) := by
    rw [hY]; exact landed_prod X WQ WO KB VB c
  have hO : ∀ (f : S2x128x512.Idx → Elt F .bf16) (y0 y1 : FVec F S128x512 .f32),
      y0 = partialOf X WQ WO KB VB c c 0 → y1 = partialOf X WQ WO KB VB c c 1 → outM.view.writes (Elt F) f
        [half 1 (shapeCast S1x128x512 (truncf .bf16 (loaded Y c 2 1 (loaded Y c 3 1 (loaded Y c 1 1 y1))) bitsLt_bf16_f32)
            shapeCasts_S128x512_S1x128x512),
          half 0 (shapeCast S1x128x512 (truncf .bf16 (loaded Y c 2 0 (loaded Y c 3 0 (loaded Y c 1 0 y0))) bitsLt_bf16_f32)
            shapeCasts_S128x512_S1x128x512)] = outOf X WQ WO KB VB c := by
    rw [hY]; exact out_sums c X WQ WO KB VB
  clear hY
  rw [cc0_body_eq_skeleton]
  simp only [runs, onBufs, cc0_body_skel]
  unfold bodyGiven bodyLeft
  iintro ⟨#Hlev, ⟨R1, R2, R3⟩, Hl, HA, ⟨A110, A111, A120, A121, A130, A131⟩, HB, ⟨A310, A311, A320, A321, A330, A331⟩,
    Hx, Hwq, Hwo, Hk, Hv, ⟨%fo, Hout⟩, Hxs, ⟨%f0, Ho⟩, ⟨Y10, Y11, Y20, Y21, Y30, Y31⟩, HO⟩ HQ
  rw [wp_bind]
  iapply (part1 X Y K c [barDue c 3, gatherDue c (1, 0), gatherDue c (1, 1), gatherDue c (2, 0), gatherDue c (2, 1), gatherDue c (3, 0), gatherDue c (3, 1), scatterDue c (1, 0), scatterDue c (1, 1), scatterDue c (3, 0), scatterDue c (3, 1), scatterDue c (2, 0), scatterDue c (2, 1)]) $$ [R1 R2 HO]
  · isplitl [R1]; · iexact R1
    isplitl [R2]; · iexact R2
    iexact HO
  iintro %u1_0 %u1_1 %u1_2 %u1_3 HO
  try dsimp only
  rw [wp_bind]
  iapply (part2 X Y K c [gatherDue c (1, 0), gatherDue c (1, 1), gatherDue c (2, 0), gatherDue c (2, 1), gatherDue c (3, 0), gatherDue c (3, 1), scatterDue c (1, 0), scatterDue c (1, 1), scatterDue c (3, 0), scatterDue c (3, 1), scatterDue c (2, 0), scatterDue c (2, 1)] (above_append _ [gatherDue c (1, 0), gatherDue c (1, 1), gatherDue c (2, 0), gatherDue c (2, 1), gatherDue c (3, 0), gatherDue c (3, 1)] [scatterDue c (1, 0), scatterDue c (1, 1), scatterDue c (3, 0), scatterDue c (3, 1), scatterDue c (2, 0), scatterDue c (2, 1)] (above_gather c _ (by decide) [(1, 0), (1, 1), (2, 0), (2, 1), (3, 0), (3, 1)]) (above_scatter c _ (by first | decide | rw [level_dsem]; decide) [(1, 0), (1, 1), (3, 0), (3, 1), (2, 0), (2, 1)]))) $$ [R3 Hl Hx Hxs HO]
  · isplitr; · iexact Hlev
    isplitl [R3]; · iexact R3
    isplitl [Hl]; · iexact Hl
    isplitl [Hx]; · iexact Hx
    isplitl [Hxs]; · iexact Hxs
    iexact HO
  iintro %u2_0 %u2_1 ⟨HO, Hbar, HL, Hx, Hxs⟩
  try dsimp only
  ihave HK := (kits X Y K c) $$ [HA HB HL Hxs]
  · isplitl [HA]; · iexact HA
    isplitl [HB]; · iexact HB
    isplitl [HL]; · iexact HL
    iexact Hxs
  icases HK with ⟨⟨F10, F11, F20, F21, F30, F31⟩, G10, G11, G20, G21, G30, G31⟩
  rw [wp_bind]
  iapply (part3 X Y K c [gatherDue c (2, 0), gatherDue c (2, 1), gatherDue c (3, 0), gatherDue c (3, 1), scatterDue c (1, 0), scatterDue c (1, 1), scatterDue c (3, 0), scatterDue c (3, 1), scatterDue c (2, 0), scatterDue c (2, 1)]) $$ [F10 F11 HO]
  · isplitl [F10]; · iexact F10
    isplitl [F11]; · iexact F11
    iexact HO
  iintro %u3_0 %u3_1 ⟨A010, A011, HO⟩
  try dsimp only
  rw [wp_bind]
  iapply (part4 X Y K c [gatherDue c (2, 1), gatherDue c (3, 0), gatherDue c (3, 1), scatterDue c (1, 0), scatterDue c (1, 1), scatterDue c (3, 0), scatterDue c (3, 1), scatterDue c (2, 0), scatterDue c (2, 1)]) $$ [F20 HO]
  · isplitl [F20]; · iexact F20
    iexact HO
  iintro %u4_0 %u4_1 ⟨A020, HO⟩
  try dsimp only
  rw [wp_bind]
  iapply (part5 X Y K c [gatherDue c (3, 0), gatherDue c (3, 1), scatterDue c (1, 0), scatterDue c (1, 1), scatterDue c (3, 0), scatterDue c (3, 1), scatterDue c (2, 0), scatterDue c (2, 1)]) $$ [F21 HO]
  · isplitl [F21]; · iexact F21
    iexact HO
  iintro %u5_0 ⟨A021, HO⟩
  rw [wp_bind]
  iapply (part6 X Y K c [scatterDue c (1, 0), scatterDue c (1, 1), scatterDue c (3, 0), scatterDue c (3, 1), scatterDue c (2, 0), scatterDue c (2, 1)] (WQ c) (WO c) (KB c)) $$ [F30 F31 HO Hwq Hwo Hk]
  · isplitl [F30]; · iexact F30
    isplitl [F31]; · iexact F31
    isplitl [HO]; · iexact HO
    isplitl [Hwq]; · iexact Hwq
    isplitl [Hwo]; · iexact Hwo
    iexact Hk
  iintro %u6_0 ⟨A030, A031, HO, Hwq, Hwo, Hk⟩
  try dsimp only
  rw [wp_bind]
  iapply (part7 c (KB c) (VB c)) $$ [Hk Hv]
  · isplitl [Hk]; · iexact Hk
    iexact Hv
  iintro ⟨Hk, Hv⟩
  try dsimp only
  rw [wp_bind]
  iapply (part8 c (KB c) (VB c)) $$ [Hk Hv]
  · isplitl [Hk]; · iexact Hk
    iexact Hv
  iintro ⟨Hk, Hv⟩
  try dsimp only
  rw [wp_bind]
  iapply (part9 c (KB c) (VB c)) $$ [Hk Hv]
  · isplitl [Hk]; · iexact Hk
    iexact Hv
  iintro ⟨Hk, Hv⟩
  try dsimp only
  rw [wp_bind]
  iapply (part10 c f0 _ (VB c)) $$ [Hv Ho]
  · isplitl [Hv]; · iexact Hv
    iexact Ho
  iintro ⟨Hv, Ho⟩
  try dsimp only
  rw [wp_bind]
  iapply (part11 c f0 _) $$ Ho
  iintro Ho
  rw [wp_bind]
  iapply (part12 c f0 _) $$ Ho
  iintro Ho
  try dsimp only
  ihave Ho := (o_forget c _ _) $$ Ho
  icases Ho with ⟨%f1, Ho⟩
  rw [wp_bind]
  iapply (part13 c f1 _) $$ Ho
  iintro Ho
  rw [wp_bind]
  iapply (part14 c f1 _) $$ Ho
  iintro Ho
  try dsimp only
  rw [wp_bind]
  iapply (part15 X Y K c [scatterDue c (1, 0), scatterDue c (1, 1), scatterDue c (3, 0), scatterDue c (3, 1), scatterDue c (2, 0), scatterDue c (2, 1)] f1 _ (above_scatter c _ (by first | decide | rw [level_dsem]; decide) [(1, 0), (1, 1), (3, 0), (3, 1), (2, 0), (2, 1)])) $$ [A010 HO Ho]
  · isplitr; · iexact Hlev
    isplitl [A010]; · iexact A010
    isplitl [HO]; · iexact HO
    iexact Ho
  iintro ⟨HO, S010, P010, Ho⟩
  ihave Ho := (o_forget c _ _) $$ Ho
  icases Ho with ⟨%f2, Ho⟩
  rw [wp_bind]
  iapply (part16 X Y K c [scatterDue c (1, 0), scatterDue c (1, 1), scatterDue c (3, 0), scatterDue c (3, 1), scatterDue c (2, 0), scatterDue c (2, 1)] f2 _ (above_scatter c _ (by first | decide | rw [level_dsem]; decide) [(1, 0), (1, 1), (3, 0), (3, 1), (2, 0), (2, 1)])) $$ [A110 HO Ho]
  · isplitr; · iexact Hlev
    isplitl [A110]; · iexact A110
    isplitl [HO]; · iexact HO
    iexact Ho
  iintro ⟨HO, S110, P110, Ho⟩
  try dsimp only
  rw [wp_bind]
  iapply (part17 c f2 _) $$ Ho
  iintro %u17_0 Ho
  try dsimp only
  rw [wp_bind]
  iapply (part18 Y c f2 _) $$ [Y10 Ho]
  · isplitr
    · ipureintro; exact hL 1 0 f2
    isplitl [Y10]; · iexact Y10
    iexact Ho
  iintro %u18_0 %u18_1 %u18_2 %u18_3 ⟨Y10, Ho⟩
  try dsimp only
  ihave Ho := (o_forget c _ _) $$ Ho
  icases Ho with ⟨%f3, Ho⟩
  rw [wp_bind]
  iapply (part19 X Y K c [scatterDue c (1, 1), scatterDue c (3, 0), scatterDue c (3, 1), scatterDue c (2, 0), scatterDue c (2, 1)] (above_scatter c _ (by first | decide | rw [level_dsem]; decide) [(1, 1), (3, 0), (3, 1), (2, 0), (2, 1)])) $$ [A011 G10 Y10 HO]
  · isplitr; · iexact Hlev
    isplitl [A011]; · iexact A011
    isplitl [G10]; · iexact G10
    isplitl [Y10]; · iexact Y10
    iexact HO
  iintro %u19_0 ⟨HO, A210, S011, P011⟩
  rw [wp_bind]
  iapply (part20 X Y K c [scatterDue c (1, 1), scatterDue c (3, 0), scatterDue c (3, 1), scatterDue c (2, 0), scatterDue c (2, 1)] f3 _ (above_scatter c _ (by first | decide | rw [level_dsem]; decide) [(1, 1), (3, 0), (3, 1), (2, 0), (2, 1)])) $$ [A111 HO Ho]
  · isplitr; · iexact Hlev
    isplitl [A111]; · iexact A111
    isplitl [HO]; · iexact HO
    iexact Ho
  iintro ⟨HO, S111, P111, Ho⟩
  try dsimp only
  rw [wp_bind]
  iapply (part21 c f3 _) $$ Ho
  iintro Ho
  try dsimp only
  rw [wp_bind]
  iapply (part22 c f3 _) $$ Ho
  iintro Ho
  ihave Ho := (o_forget c _ _) $$ Ho
  icases Ho with ⟨%f4, Ho⟩
  rw [wp_bind]
  iapply (part23 X Y K c [scatterDue c (3, 0), scatterDue c (3, 1), scatterDue c (2, 0), scatterDue c (2, 1)]) $$ [Y11 G11 HO]
  · isplitr
    · ipureintro; exact hL 1 1 f3
    isplitl [Y11]; · iexact Y11
    isplitl [G11]; · iexact G11
    iexact HO
  iintro %u23_0 ⟨HO, A211⟩
  rw [wp_bind]
  iapply (part24 X Y K c [scatterDue c (3, 0), scatterDue c (3, 1), scatterDue c (2, 0), scatterDue c (2, 1)] f4 _ (above_scatter c _ (by first | decide | rw [level_dsem]; decide) [(3, 0), (3, 1), (2, 0), (2, 1)]) (above_scatter c _ (by first | decide | rw [level_dsem]; decide) [(3, 0), (3, 1), (2, 0), (2, 1)])) $$ [A030 A130 HO Ho]
  · isplitr; · iexact Hlev
    isplitl [A030]; · iexact A030
    isplitl [A130]; · iexact A130
    isplitl [HO]; · iexact HO
    iexact Ho
  iintro %u24_0 ⟨HO, S030, P030, S130, P130, Ho⟩
  try dsimp only
  rw [wp_bind]
  iapply (part25 c f4 _) $$ Ho
  iintro Ho
  rw [wp_bind]
  iapply (part26 c f4 _) $$ Ho
  iintro Ho
  try dsimp only
  rw [wp_bind]
  iapply (part27 Y c f4 _) $$ [Y30 Ho]
  · isplitr
    · ipureintro; exact hL 3 0 f4
    isplitl [Y30]; · iexact Y30
    iexact Ho
  iintro %u27_0 ⟨Y30, Ho⟩
  ihave Ho := (o_forget c _ _) $$ Ho
  icases Ho with ⟨%f5, Ho⟩
  rw [wp_bind]
  iapply (part28 X Y K c [scatterDue c (3, 1), scatterDue c (2, 0), scatterDue c (2, 1)] (above_scatter c _ (by first | decide | rw [level_dsem]; decide) [(3, 1), (2, 0), (2, 1)]) (above_scatter c _ (by first | decide | rw [level_dsem]; decide) [(3, 1), (2, 0), (2, 1)])) $$ [A031 A131 G30 Y30 HO]
  · isplitr; · iexact Hlev
    isplitl [A031]; · iexact A031
    isplitl [A131]; · iexact A131
    isplitl [G30]; · iexact G30
    isplitl [Y30]; · iexact Y30
    iexact HO
  iintro ⟨HO, A230, S031, P031, S131, P131⟩
  rw [wp_bind]
  iapply (part29 c f5 _) $$ Ho
  iintro Ho
  try dsimp only
  rw [wp_bind]
  iapply (part30 c f5 _) $$ Ho
  iintro Ho
  rw [wp_bind]
  iapply (part31 Y c f5 _) $$ [Y31 Ho]
  · isplitr
    · ipureintro; exact hL 3 1 f5
    isplitl [Y31]; · iexact Y31
    iexact Ho
  iintro %u31_0 ⟨Y31, Ho⟩
  ihave Ho := (o_forget c _ _) $$ Ho
  icases Ho with ⟨%f6, Ho⟩
  rw [wp_bind]
  iapply (part32 X Y K c [scatterDue c (2, 0), scatterDue c (2, 1)] (above_scatter c _ (by first | decide | rw [level_dsem]; decide) [(2, 0), (2, 1)])) $$ [A020 G31 Y31 HO]
  · isplitr; · iexact Hlev
    isplitl [A020]; · iexact A020
    isplitl [G31]; · iexact G31
    isplitl [Y31]; · iexact Y31
    iexact HO
  iintro ⟨HO, A231, S020, P020⟩
  try dsimp only
  rw [wp_bind]
  iapply (part33 X Y K c [scatterDue c (2, 0), scatterDue c (2, 1)] f6 _ (above_scatter c _ (by first | decide | rw [level_dsem]; decide) [(2, 0), (2, 1)])) $$ [A120 HO Ho]
  · isplitr; · iexact Hlev
    isplitl [A120]; · iexact A120
    isplitl [HO]; · iexact HO
    iexact Ho
  iintro ⟨HO, S120, P120, Ho⟩
  try dsimp only
  rw [wp_bind]
  iapply (part34 c f6 _) $$ Ho
  iintro %u34_0 Ho
  try dsimp only
  rw [wp_bind]
  iapply (part35 Y c f6 _) $$ [Y20 Ho]
  · isplitr
    · ipureintro; exact hL 2 0 f6
    isplitl [Y20]; · iexact Y20
    iexact Ho
  iintro %u35_0 %u35_1 %u35_2 %u35_3 ⟨Y20, Ho⟩
  try dsimp only
  ihave Ho := (o_forget c _ _) $$ Ho
  icases Ho with ⟨%f7, Ho⟩
  rw [wp_bind]
  iapply (part36 X Y K c [scatterDue c (2, 1)] (above_scatter c _ (by first | decide | rw [level_dsem]; decide) [(2, 1)])) $$ [A021 G20 Y20 HO]
  · isplitr; · iexact Hlev
    isplitl [A021]; · iexact A021
    isplitl [G20]; · iexact G20
    isplitl [Y20]; · iexact Y20
    iexact HO
  iintro %u36_0 ⟨HO, A220, S021, P021⟩
  rw [wp_bind]
  iapply (part37 X Y K c [scatterDue c (2, 1)] f7 _ (above_scatter c _ (by first | decide | rw [level_dsem]; decide) [(2, 1)])) $$ [A121 HO Ho]
  · isplitr; · iexact Hlev
    isplitl [A121]; · iexact A121
    isplitl [HO]; · iexact HO
    iexact Ho
  iintro ⟨HO, S121, P121, Ho⟩
  try dsimp only
  rw [wp_bind]
  iapply (part38 c f7 _) $$ Ho
  iintro Ho
  try dsimp only
  rw [wp_bind]
  iapply (part39 c f7 _) $$ Ho
  iintro Ho
  ihave Ho := (o_forget c _ _) $$ Ho
  icases Ho with ⟨%f8, Ho⟩
  rw [wp_bind]
  iapply (part40 X Y K c []) $$ [Y21 G21 HO]
  · isplitr
    · ipureintro; exact hL 2 1 f7
    isplitl [Y21]; · iexact Y21
    isplitl [G21]; · iexact G21
    iexact HO
  iintro %u40_0 ⟨HO, A221⟩
  rw [wp_bind]
  iapply (part41 X Y K c [] (above_nil _) (above_nil _)) $$ [A210 A310 HO]
  · isplitr; · iexact Hlev
    isplitl [A210]; · iexact A210
    isplitl [A310]; · iexact A310
    iexact HO
  iintro ⟨HO, S210, P210, S310, P310⟩
  rw [wp_bind]
  iapply (part42 X Y K c [] (above_nil _) (above_nil _) (above_nil _)) $$ [A211 A311 A230 HO]
  · isplitr; · iexact Hlev
    isplitl [A211]; · iexact A211
    isplitl [A311]; · iexact A311
    isplitl [A230]; · iexact A230
    iexact HO
  iintro ⟨HO, S211, P211, S311, P311, S230, P230⟩
  rw [wp_bind]
  iapply (part43 X Y K c [] (above_nil _) (above_nil _)) $$ [A330 A231 HO]
  · isplitr; · iexact Hlev
    isplitl [A330]; · iexact A330
    isplitl [A231]; · iexact A231
    iexact HO
  iintro ⟨HO, S330, P330, S231, P231⟩
  rw [wp_bind]
  iapply (part44 X Y K c [] (above_nil _) (above_nil _) (above_nil _)) $$ [A331 A220 A320 HO]
  · isplitr; · iexact Hlev
    isplitl [A331]; · iexact A331
    isplitl [A220]; · iexact A220
    isplitl [A320]; · iexact A320
    iexact HO
  iintro ⟨HO, S331, P331, S220, P220, S320, P320⟩
  rw [wp_bind]
  iapply (part45 X Y K c [] (above_nil _) (above_nil _)) $$ [A221 A321 P320 HO]
  · isplitr; · iexact Hlev
    isplitl [A221]; · iexact A221
    isplitl [A321]; · iexact A321
    isplitl [P320]; · iexact P320
    iexact HO
  iintro ⟨HO, S221, P221, S321, P321, P320⟩
  try dsimp only
  simp only [Prog.lift, Prog.bind_op, Prog.bind_ret, Prog.pure_eq_ret]
  iapply (step_load c) $$ Hout; iintro Hout
  iapply (step_out c fo _) $$ Hout; iintro Hout
  iapply (step_load c) $$ Hout; iintro Hout
  iapply (step_out c fo _) $$ Hout; iintro Hout
  simp only [wp_ret]
  imodintro
  iapply HQ
  isplitl [Hbar]; · iexact Hbar
  isplitl [S010 P010 S011 P011 S020 P020 S021 P021 S030 P030 S031 P031]
  · isplitl [S010 P010]
    · isplitl [S010]; · iexact S010
      iexact P010
    isplitl [S011 P011]
    · isplitl [S011]; · iexact S011
      iexact P011
    isplitl [S020 P020]
    · isplitl [S020]; · iexact S020
      iexact P020
    isplitl [S021 P021]
    · isplitl [S021]; · iexact S021
      iexact P021
    isplitl [S030 P030]
    · isplitl [S030]; · iexact S030
      iexact P030
    isplitl [S031]; · iexact S031
    iexact P031
  isplitl [S110 P110 S111 P111 S120 P120 S121 P121 S130 P130 S131 P131]
  · isplitl [S110 P110]
    · isplitl [S110]; · iexact S110
      iexact P110
    isplitl [S111 P111]
    · isplitl [S111]; · iexact S111
      iexact P111
    isplitl [S120 P120]
    · isplitl [S120]; · iexact S120
      iexact P120
    isplitl [S121 P121]
    · isplitl [S121]; · iexact S121
      iexact P121
    isplitl [S130 P130]
    · isplitl [S130]; · iexact S130
      iexact P130
    isplitl [S131]; · iexact S131
    iexact P131
  isplitl [S210 P210 S211 P211 S220 P220 S221 P221 S230 P230 S231 P231]
  · isplitl [S210 P210]
    · isplitl [S210]; · iexact S210
      iexact P210
    isplitl [S211 P211]
    · isplitl [S211]; · iexact S211
      iexact P211
    isplitl [S220 P220]
    · isplitl [S220]; · iexact S220
      iexact P220
    isplitl [S221 P221]
    · isplitl [S221]; · iexact S221
      iexact P221
    isplitl [S230 P230]
    · isplitl [S230]; · iexact S230
      iexact P230
    isplitl [S231]; · iexact S231
    iexact P231
  isplitl [S310 P310 S311 P311 S320 P320 S321 P321 S330 P330 S331 P331]
  · isplitl [S310 P310]
    · isplitl [S310]; · iexact S310
      iexact P310
    isplitl [S311 P311]
    · isplitl [S311]; · iexact S311
      iexact P311
    isplitl [S320 P320]
    · isplitl [S320]; · iexact S320
      iexact P320
    isplitl [S321 P321]
    · isplitl [S321]; · iexact S321
      iexact P321
    isplitl [S330 P330]
    · isplitl [S330]; · iexact S330
      iexact P330
    isplitl [S331]; · iexact S331
    iexact P331
  isplitl [Hx]; · iexact Hx
  isplitl [Hwq]; · iexact Hwq
  isplitl [Hwo]; · iexact Hwo
  isplitl [Hk]; · iexact Hk
  isplitl [Hv]; · iexact Hv
  isplitl [Hout]
  · rw [← hO fo _ _ (own_prod X WQ WO KB VB c 0 f0 _ rfl) (own_prod X WQ WO KB VB c 1 f1 _ rfl)]
    iexact Hout
  isplitl [Ho]; · iexists f8; iexact Ho
  iexact HO

end Cert.KernelIdeal.Proof

end
-- ==== Proof.Cells.lean ====
/-
  What a device holds before and after the body. Before: the invariants of all cells, its own cells opened, the tokens of the
  duties it pays, its credits, its buffers; from these the body is started (`given_of`). After: every own cell is past its last
  duty and is closed, its counter at zero, and the buffers are whole again (`left_closed`).
-/
module

public import proofs.«01_k».proof.Proof.Body

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S2x128x512.Idx → Elt F .bf16) (Y : Dev nD → S4x2x128x512.Idx → Elt F .bf16)
variable (K : GSem nD τ sig → ℕ) (c : Dev nD)

/-! ## Six at a time -/

/-- The slots that take part. -/
abbrev moved : Finset (Fin 4 × Fin 2) := {(1, 0), (1, 1), (2, 0), (2, 1), (3, 0), (3, 1)}

theorem six_eq (P : Fin 4 → Fin 2 → sProp 𝕄) : six P = bigSep moved fun t => P t.1 t.2 := by
  unfold moved
  rw [bigSep_insert (by decide), bigSep_insert (by decide), bigSep_insert (by decide), bigSep_insert (by decide),
    bigSep_insert (by decide), bigSep_singleton]
  rfl

theorem six_sep (P Q : Fin 4 → Fin 2 → sProp 𝕄) : six (fun d b => iprop(P d b ∗ Q d b)) = iprop(six P ∗ six Q) := by
  rw [six_eq, six_eq P, six_eq Q, ← bigSep_sep']

theorem six_mono {P Q : Fin 4 → Fin 2 → sProp 𝕄} (h : ∀ d b, P d b ⊢ Q d b) : six P ⊢ six Q := by
  rw [six_eq P, six_eq Q]
  exact bigSep_mono fun t _ => h t.1 t.2

/-- A persistent fact is there for each of the six. -/
theorem six_with {R : sProp 𝕄} [Persistent R] {P Q : Fin 4 → Fin 2 → sProp 𝕄} (h : ∀ d b, iprop(R ∗ P d b) ⊢ Q d b) :
    iprop(R ∗ six P) ⊢ six Q := by
  rw [six_eq P, six_eq Q]
  exact bigSep_with_persistent fun t _ => h t.1 t.2

theorem four_eq (P : Fin 4 → sProp 𝕄) : bigSep Finset.univ P = iprop(P 0 ∗ P 1 ∗ P 2 ∗ P 3) :=
  bigSep_univ_eq_bigSepL [0, 1, 2, 3] (by decide) (by decide) P

/-- One assertion per cell of a device: by array, then the two idle cells and the six others. -/
theorem cells_eq (P : Fin 4 → Fin 4 → Fin 2 → sProp 𝕄) :
    bigSep Finset.univ (fun k : Fin 4 × Fin 4 × Fin 2 => P k.1 k.2.1 k.2.2)
      = iprop(((P 0 0 0 ∗ P 0 0 1) ∗ six (P 0)) ∗ ((P 1 0 0 ∗ P 1 0 1) ∗ six (P 1))
          ∗ ((P 2 0 0 ∗ P 2 0 1) ∗ six (P 2)) ∗ ((P 3 0 0 ∗ P 3 0 1) ∗ six (P 3))) := by
  rw [bigSep_univ_prod, four_eq]
  have h : ∀ a : Fin 4, bigSep (Finset.univ : Finset (Fin 4 × Fin 2)) (fun t => P a t.1 t.2)
      = iprop((P a 0 0 ∗ P a 0 1) ∗ six (P a)) := fun a => slots_eq (P a)
  rw [← h 0, ← h 1, ← h 2, ← h 3]

/-! ## What every device knows -/

/-- The invariant of every cell, and that every barrier cell is at its round 0. -/
def records : sProp 𝕄 :=
  iprop((bigSep Finset.univ fun p : Dev nD => inv X Y K (barCell p)) ∗ (bigSep Finset.univ fun p : Dev nD => reached ER (barCell p) 0)
    ∗ bigSep Finset.univ fun k : Dev nD × Fin 4 × Fin 4 × Fin 2 => inv X Y K (dcell k.2.1 k.2.2.1 k.2.2.2 k.1))

instance records_persistent : Persistent (records X Y K) := by unfold records; infer_instance

theorem bar_inv (p : Dev nD) : records X Y K ⊢ inv X Y K (barCell p) := by
  have h : (bigSep Finset.univ fun p : Dev nD => inv X Y K (barCell p)) ⊢ inv X Y K (barCell p) := bigSep_elim (Finset.mem_univ p)
  unfold records
  iintro ⟨H, -, -⟩
  iapply h; iexact H
theorem bar_reached (p : Dev nD) : records X Y K ⊢ (reached ER (barCell p) 0 : sProp 𝕄) := by
  have h : (bigSep Finset.univ fun p : Dev nD => (reached ER (barCell p) 0 : sProp 𝕄)) ⊢ (reached ER (barCell p) 0 : sProp 𝕄) := bigSep_elim (Finset.mem_univ p)
  unfold records
  iintro ⟨-, H, -⟩
  iapply h; iexact H
theorem dma_inv (a d : Fin 4) (b : Fin 2) (p : Dev nD) : records X Y K ⊢ inv X Y K (dcell a d b p) := by
  have h : (bigSep Finset.univ fun k : Dev nD × Fin 4 × Fin 4 × Fin 2 => inv X Y K (dcell k.2.1 k.2.2.1 k.2.2.2 k.1))
      ⊢ inv X Y K (dcell a d b p) :=
    bigSep_elim (Φ := fun k : Dev nD × Fin 4 × Fin 4 × Fin 2 => inv X Y K (dcell k.2.1 k.2.2.1 k.2.2.2 k.1)) (Finset.mem_univ (p, a, d, b))
  unfold records
  iintro ⟨-, -, H⟩
  iapply h; iexact H

/-! ## What a device holds of its own -/

abbrev barTok (d : Fin 4) : sProp 𝕄 := dutyTok ER (barCell (peer c d.val)) 0 (neg4 d)

/-- The tokens of the duties device `c` pays: a unit to each other device's barrier, the sources of its transfers, their targets. -/
def tokens : sProp 𝕄 :=
  iprop((barTok c 1 ∗ barTok c 2 ∗ barTok c 3)
    ∗ six (fun d b => dutyTok ER (dcell 0 d b c) 0 0) ∗ six (fun d b => dutyTok ER (dcell 1 d b (peer c d.val)) 0 0)
    ∗ six (fun d b => dutyTok ER (dcell 2 d b c) 0 0) ∗ six (fun d b => dutyTok ER (dcell 3 d b (peer c (neg4 d).val)) 0 0))

/-- Its credits: what the others will send to its cells. -/
def credits : sProp 𝕄 :=
  iprop(cred (tallyAt (barCell c) () 3) ∗ six (fun d b => cred (tallyAt (dcell 1 d b c) () N))
    ∗ six (fun d b => cred (tallyAt (dcell 3 d b c) () N)))

abbrev atZero (a d : Fin 4) (b : Fin 2) : sProp 𝕄 := atPos ER (dcell a d b c) 0 ∅ 0
abbrev isZero (a d : Fin 4) (b : Fin 2) : sProp 𝕄 := reached ER (dcell a d b c) 0

/-- Its cells opened, with the tokens and credits. -/
def opened : sProp 𝕄 :=
  iprop(atPos ER (barCell c) 0 ∅ 0
    ∗ (bigSep Finset.univ fun k : Fin 4 × Fin 4 × Fin 2 => iprop(atZero c k.1 k.2.1 k.2.2 ∗ isZero c k.1 k.2.1 k.2.2))
    ∗ tokens c ∗ credits c)

/-- The scratch buffers, at any contents. -/
def scratch : sProp 𝕄 :=
  iprop((∃ f, xsAll c f) ∗ (∃ f : S4x2x128x512.Idx → Elt F .bf16, xgM.view.loc (c : Thread nD τ) ↦{fullShare} f)
    ∗ (∃ f : S128x512.Idx → Elt F .f32, oM.view.loc (c : Thread nD τ) ↦{fullShare} f)
    ∗ (∃ f : S4x2x128x512.Idx → Elt F .bf16, ysM.view.loc (c : Thread nD τ) ↦{fullShare} f)
    ∗ (∃ f : S4x2x128x512.Idx → Elt F .bf16, yrM.view.loc (c : Thread nD τ) ↦{fullShare} f))

/-- What takes no part: the idle cells and slots. -/
def kept : sProp 𝕄 :=
  iprop(((atZero c 0 0 0 ∗ atZero c 0 0 1) ∗ (atZero c 1 0 0 ∗ atZero c 1 0 1) ∗ (atZero c 2 0 0 ∗ atZero c 2 0 1)
      ∗ (atZero c 3 0 0 ∗ atZero c 3 0 1))
    ∗ ((∃ f, xgPts c 0 0 f) ∗ (∃ f, xgPts c 0 1 f)) ∗ ((∃ f, ysPts c 0 0 f) ∗ (∃ f, ysPts c 0 1 f))
    ∗ ((∃ f, yrPts c 0 0 f) ∗ (∃ f, yrPts c 0 1 f)))

/-- Eight slots of one buffer, each at some contents. -/
theorem slots_some {P : Fin 4 → Fin 2 → (S4x2x128x512.Idx → Elt F .bf16) → sProp 𝕄} (f : S4x2x128x512.Idx → Elt F .bf16) :
    bigSep slots (fun t => P t.1 t.2 f)
      ⊢ (iprop(((∃ f, P 0 0 f) ∗ (∃ f, P 0 1 f)) ∗ six (fun d b => iprop(∃ f, P d b f))) : sProp 𝕄) := by
  rw [← slots_eq fun d b => iprop(∃ f, P d b f)]
  refine bigSep_mono fun t _ => ?_
  have h : P t.1 t.2 f ⊢ iprop(∃ f, P t.1 t.2 f) := by
    iintro H; iexists f; iexact H
  exact h

/-! ## Into the body -/

/-- The slots lent to the three other devices. -/
theorem lents : iprop(six (xgRoom (F := F) c) ∗ six (yrRoom (F := F) c)) ⊢ iprop(lent (F := F) c (neg4 1) ∗ lent (F := F) c (neg4 2) ∗ lent (F := F) c (neg4 3)) := by
  unfold lent
  iintro ⟨⟨A10, A11, A20, A21, A30, A31⟩, B10, B11, B20, B21, B30, B31⟩
  isplitl [A30 A31 B10 B11]
  · isplitl [A30]; · iexact A30
    isplitl [A31]; · iexact A31
    isplitl [B10]; · iexact B10
    iexact B11
  isplitl [A20 A21 B20 B21]
  · isplitl [A20]; · iexact A20
    isplitl [A21]; · iexact A21
    isplitl [B20]; · iexact B20
    iexact B21
  isplitl [A10]; · iexact A10
  isplitl [A11]; · iexact A11
  isplitl [B30]; · iexact B30
  iexact B31

/-- The duty to ring device `c + d`. -/
theorem ringer_of (d : Fin 4) : iprop(records X Y K ∗ barTok c d) ⊢ ringer X Y K c d := by
  unfold ringer
  iintro ⟨#HR, Ht⟩
  isplitr; · iapply (bar_inv X Y K (peer c d.val)); iexact HR
  isplitr; · iapply (bar_reached X Y K (peer c d.val)); iexact HR
  iexact Ht

/-- The cells of the transfers into array `a'` of the device `p` names, from the sources of array `a`. -/
theorem senders_of (a a' : Fin 4) (p : Fin 4 → Dev nD) :
    iprop(records X Y K ∗ six (fun d b => iprop(atZero c a d b ∗ isZero c a d b)) ∗ six (fun d b => dutyTok ER (dcell a d b c) 0 0)
        ∗ six (fun d b => dutyTok ER (dcell a' d b (p d)) 0 0))
      ⊢ six (fun d b => iprop(sender X Y K c a d b ∗ target X Y K a' d b (p d))) := by
  rw [← six_sep, ← six_sep]
  refine six_with fun d b => ?_
  have h : iprop(records X Y K ∗ (atZero c a d b ∗ isZero c a d b) ∗ dutyTok ER (dcell a d b c) 0 0 ∗ dutyTok ER (dcell a' d b (p d)) 0 0)
      ⊢ iprop(sender X Y K c a d b ∗ target X Y K a' d b (p d)) := by
    unfold sender target
    iintro ⟨#HR, ⟨Ha, Hr⟩, Ht, Ht'⟩
    isplitl [Ha Hr Ht]
    · isplitr; · iapply (dma_inv X Y K a d b c); iexact HR
      isplitl [Ha]; · iexact Ha
      isplitl [Hr] <;> iassumption
    isplitr; · iapply (dma_inv X Y K a' d b (p d)); iexact HR
    iexact Ht'
  exact h

/-- The own target cells, ready for their waits. -/
theorem armed_of (a : Fin 4) :
    iprop(records X Y K ∗ six (fun d b => atZero c a d b) ∗ six (fun d b => cred (tallyAt (dcell a d b c) () N)))
      ⊢ six (armed X Y K c a) := by
  rw [← six_sep]
  refine six_with fun d b => ?_
  have h : iprop(records X Y K ∗ atZero c a d b ∗ cred (tallyAt (dcell a d b c) () N)) ⊢ armed X Y K c a d b := by
    unfold armed
    iintro ⟨#HR, Ha, Hc⟩
    isplitr; · iapply (dma_inv X Y K a d b c); iexact HR
    isplitl [Ha] <;> iassumption
  exact h

variable (WQ WO : Dev nD → S512x512.Idx → Elt F .bf16) (KB VB : Dev nD → S2x8x64x128.Idx → Elt F .bf16)

/-- The staged operands, and the staged result at any contents. -/
def staged : sProp 𝕄 :=
  iprop(xPts c (X c) ∗ wqPts c (WQ c) ∗ woPts c (WO c) ∗ kPts c (KB c) ∗ vPts c (VB c) ∗ (∃ f, outPts c f []))

set_option maxHeartbeats 4000000 in
/-- From what a device holds, what its body starts from; the rest is kept. -/
theorem given_of : iprop(records X Y K ∗ opened c ∗ scratch c ∗ staged X c WQ WO KB VB ∗ owed c (allDues c))
    ⊢ iprop(bodyGiven X Y K c WQ WO KB VB ∗ kept (F := F) c) := by
  unfold opened
  rw [cells_eq fun a d b => iprop(atZero c a d b ∗ isZero c a d b)]
  unfold scratch tokens credits staged
  iintro ⟨#HR, ⟨Hbar, ⟨⟨⟨⟨I00, -⟩, I01, -⟩, C0⟩, ⟨⟨⟨I10, -⟩, I11, -⟩, C1⟩, ⟨⟨⟨I20, -⟩, I21, -⟩, C2⟩, ⟨⟨I30, -⟩, I31, -⟩, C3⟩,
      ⟨⟨R1, R2, R3⟩, T0, T1, T2, T3⟩, Hc, E1, E3⟩,
    ⟨Hxs, ⟨%fg, Hxg⟩, ⟨%fo, Ho⟩, ⟨%fy, Hys⟩, ⟨%fr, Hyr⟩⟩, ⟨Hx, Hwq, Hwo, Hk, Hv, Hout⟩, HO⟩
  ihave Hxg := (Entails.of_eq (xg_slots c fg)) $$ Hxg
  ihave Hxg := (slots_some (P := fun d b f => xgPts c d b f) fg) $$ Hxg
  icases Hxg with ⟨G0, G⟩
  ihave Hys := (Entails.of_eq (ys_slots c fy)) $$ Hys
  ihave Hys := (slots_some (P := fun d b f => ysPts c d b f) fy) $$ Hys
  icases Hys with ⟨S0, S⟩
  ihave Hyr := (Entails.of_eq (yr_slots c fr)) $$ Hyr
  ihave Hyr := (slots_some (P := fun d b f => yrPts c d b f) fr) $$ Hyr
  icases Hyr with ⟨D0, D⟩
  ihave C1 := (Entails.of_eq (six_sep (fun d b => atZero c 1 d b) (fun d b => isZero c 1 d b))) $$ C1
  icases C1 with ⟨C1, Z1⟩
  ihave C3 := (Entails.of_eq (six_sep (fun d b => atZero c 3 d b) (fun d b => isZero c 3 d b))) $$ C3
  icases C3 with ⟨C3, Z3⟩
  ihave G := (Entails.of_eq (six_sep (fun d b => iprop(∃ f, xgPts c d b f)) (fun d b => isZero c 1 d b)).symm) $$ [G Z1]
  · isplitl [G] <;> iassumption
  ihave D := (Entails.of_eq (six_sep (fun d b => iprop(∃ f, yrPts c d b f)) (fun d b => isZero c 3 d b)).symm) $$ [D Z3]
  · isplitl [D] <;> iassumption
  ihave HL := (lents (F := F) c) $$ [G D]
  · isplitl [G]; · iexact G
    iexact D
  icases HL with ⟨L1, L2, L3⟩
  unfold bodyGiven kept
  isplitr [I00 I01 I10 I11 I20 I21 I30 I31 G0 S0 D0]
  · isplitl [R1 R2 R3 L1 L2 L3]
    · isplitl [R1 L1]
      · isplitl [R1]
        · iapply (ringer_of X Y K c 1); isplitr; · iexact HR
          iexact R1
        iexact L1
      isplitl [R2 L2]
      · isplitl [R2]
        · iapply (ringer_of X Y K c 2); isplitr; · iexact HR
          iexact R2
        iexact L2
      isplitl [R3]
      · iapply (ringer_of X Y K c 3); isplitr; · iexact HR
        iexact R3
      iexact L3
    isplitl [Hbar Hc]
    · unfold listener
      isplitr; · iapply (bar_inv X Y K c); iexact HR
      isplitl [Hbar] <;> iassumption
    isplitl [C0 T0 T1]
    · iapply (senders_of X Y K c 0 1 fun d => peer c d.val)
      isplitr; · iexact HR
      isplitl [C0]; · iexact C0
      isplitl [T0]; · iexact T0
      iexact T1
    isplitl [C1 E1]
    · iapply (armed_of X Y K c 1)
      isplitr; · iexact HR
      isplitl [C1]; · iexact C1
      iexact E1
    isplitl [C2 T2 T3]
    · iapply (senders_of X Y K c 2 3 fun d => peer c (neg4 d).val)
      isplitr; · iexact HR
      isplitl [C2]; · iexact C2
      isplitl [T2]; · iexact T2
      iexact T3
    isplitl [C3 E3]
    · iapply (armed_of X Y K c 3)
      isplitr; · iexact HR
      isplitl [C3]; · iexact C3
      iexact E3
    isplitl [Hx]; · iexact Hx
    isplitl [Hwq]; · iexact Hwq
    isplitl [Hwo]; · iexact Hwo
    isplitl [Hk]; · iexact Hk
    isplitl [Hv]; · iexact Hv
    isplitl [Hout]; · iexact Hout
    isplitl [Hxs]; · iexact Hxs
    isplitl [Ho]; · iexists fo; iexact Ho
    isplitl [S]; · iexact S
    iexact HO
  isplitl [I00 I01 I10 I11 I20 I21 I30 I31]
  · isplitl [I00 I01]; · isplitl [I00] <;> iassumption
    isplitl [I10 I11]; · isplitl [I10] <;> iassumption
    isplitl [I20 I21]; · isplitl [I20] <;> iassumption
    isplitl [I30] <;> iassumption
  isplitl [G0]; · iexact G0
  isplitl [S0]; · iexact S0
  iexact D0

/-! ## Out of the body -/

/-- The eight slots of a buffer together: two kept, six used and now at contents `f`. -/
theorem slots_back {P : Fin 4 → Fin 2 → (S4x2x128x512.Idx → Elt F .bf16) → sProp 𝕄} (f : S4x2x128x512.Idx → Elt F .bf16) :
    (iprop(((∃ f, P 0 0 f) ∗ (∃ f, P 0 1 f)) ∗ six (fun d b => P d b f)) : sProp 𝕄)
      ⊢ bigSep slots (fun t => iprop(∃ f, P t.1 t.2 f)) := by
  rw [slots_eq fun d b => iprop(∃ f, P d b f)]
  refine sep_mono .rfl (six_mono fun d b => ?_)
  have h : P d b f ⊢ iprop(∃ f, P d b f) := by
    iintro H; iexists f; iexact H
  exact h

/-- The round an own cell ends in: an idle one is still in round 0. -/
def lastRound (d : Fin 4) : ℕ := if d = 0 then 0 else 1

theorem past_last (a d : Fin 4) (b : Fin 2) : ∀ r, lastRound d ≤ r → (ringRd X Y).duties (dcell a d b c) r = ∅ := by
  intro r hr
  unfold lastRound at hr
  split at hr
  · next h => subst h; exact duties_idle X Y c a b r
  · exact duties_later X Y _ r hr

/-- A device's own semaphores, by array, distance and batch. -/
abbrev osem (k : Fin 4 × Fin 4 × Fin 2) : SemLoc sig := .dma (dsem k.1 k.2.1 k.2.2)

/-- A used cell is at its last round. -/
theorem spent_last (a : Fin 4) : six (spent X Y K c a)
    ⊢ six (fun d b => iprop(inv X Y K (dcell a d b c) ∗ atPos ER (dcell a d b c) (lastRound d) ∅ 0)) := by
  unfold spent
  exact .rfl

set_option maxHeartbeats 4000000 in
/-- After the body every own cell is closed and every buffer whole. -/
theorem left_closed : iprop(records X Y K ∗ bodyLeft X Y K c WQ WO KB VB ∗ kept (F := F) c)
    ⊢ iprop(|={Set.univ}=> (semVal (barCell c) 0 ∗ Pipeline.ownSems0 osem c ∗ scratch c
        ∗ (xPts c (X c) ∗ wqPts c (WQ c) ∗ woPts c (WO c) ∗ kPts c (KB c) ∗ vPts c (VB c)
          ∗ (outM.view.loc (c : Thread nD τ) ↦{fullShare} outOf X WQ WO KB VB c)) ∗ owed c [])) := by
  unfold bodyLeft kept
  rw [six_sep, six_sep, six_sep, six_sep]
  iintro ⟨#HR, ⟨⟨#Hbi, Hb⟩, ⟨Z0, P0⟩, ⟨Z1, P1⟩, ⟨Z2, P2⟩, ⟨Z3, P3⟩, Hx, Hwq, Hwo, Hk, Hv, Hout, ⟨%fo, Ho⟩, HO⟩,
    ⟨⟨I00, I01⟩, ⟨I10, I11⟩, ⟨I20, I21⟩, I30, I31⟩, G0, S0, D0⟩
  imod (Rounds.cell_close ER (ringRd X Y) (Set.mem_univ (K (barCell c))) (fun h => h) (R := 1) (duties_later X Y (barCell c))) $$ [Hb] with Hb0
  · isplitr; · iexact Hbi
    iexact Hb
  imod (Rounds.cells_close ER (ringRd X Y) Finset.univ (fun k : Fin 4 × Fin 4 × Fin 2 => dcell k.1 k.2.1 k.2.2 c)
      (fun k => K (dcell k.1 k.2.1 k.2.2 c)) (fun k _ => Set.mem_univ _) (fun k _ h => h) (fun k => lastRound k.2.1)
      (fun k _ => past_last X Y c k.1 k.2.1 k.2.2)) $$ [Z0 Z1 Z2 Z3 I00 I01 I10 I11 I20 I21 I30 I31] with Hz
  · iapply (Entails.of_eq (cells_eq fun a d b => iprop(inv X Y K (dcell a d b c) ∗ atPos ER (dcell a d b c) (lastRound d) ∅ 0)).symm)
    isplitl [Z0 I00 I01]
    · isplitl [I00 I01]
      · isplitl [I00]
        · isplitr; · iapply (dma_inv X Y K 0 0 0 c); iexact HR
          iexact I00
        isplitr; · iapply (dma_inv X Y K 0 0 1 c); iexact HR
        iexact I01
      iapply (spent_last X Y K c 0); iexact Z0
    isplitl [Z1 I10 I11]
    · isplitl [I10 I11]
      · isplitl [I10]
        · isplitr; · iapply (dma_inv X Y K 1 0 0 c); iexact HR
          iexact I10
        isplitr; · iapply (dma_inv X Y K 1 0 1 c); iexact HR
        iexact I11
      iapply (spent_last X Y K c 1); iexact Z1
    isplitl [Z2 I20 I21]
    · isplitl [I20 I21]
      · isplitl [I20]
        · isplitr; · iapply (dma_inv X Y K 2 0 0 c); iexact HR
          iexact I20
        isplitr; · iapply (dma_inv X Y K 2 0 1 c); iexact HR
        iexact I21
      iapply (spent_last X Y K c 2); iexact Z2
    isplitl [I30 I31]
    · isplitl [I30]
      · isplitr; · iapply (dma_inv X Y K 3 0 0 c); iexact HR
        iexact I30
      isplitr; · iapply (dma_inv X Y K 3 0 1 c); iexact HR
      iexact I31
    iapply (spent_last X Y K c 3); iexact Z3
  imodintro
  isplitl [Hb0]; · iexact Hb0
  isplitl [Hz]; · unfold Pipeline.ownSems0; iexact Hz
  isplitl [P0 P1 P2 P3 G0 S0 D0 Ho]
  · unfold scratch
    isplitl [P0]
    · iexists X c
      iapply (Entails.of_eq (xs_six c (X c)).symm); iexact P0
    isplitl [P1 G0]
    · iapply (xg_join c)
      iapply (slots_back (P := fun d b f => xgPts c d b f) (XG X c))
      isplitl [G0]; · iexact G0
      iexact P1
    isplitl [Ho]; · iexists fo; iexact Ho
    isplitl [P2 S0]
    · iapply (ys_join c)
      iapply (slots_back (P := fun d b f => ysPts c d b f) (Y c))
      isplitl [S0]; · iexact S0
      iexact P2
    iapply (yr_join c)
    iapply (slots_back (P := fun d b f => yrPts c d b f) (YR Y c))
    isplitl [D0]; · iexact D0
    iexact P3
  isplitl [Hx Hwq Hwo Hk Hv Hout]
  · isplitl [Hx]; · iexact Hx
    isplitl [Hwq]; · iexact Hwq
    isplitl [Hwo]; · iexact Hwo
    isplitl [Hk]; · iexact Hk
    isplitl [Hv] <;> iassumption
  iexact HO

end Cert.KernelIdeal.Proof

end
-- ==== Proof.Region.lean ====
/-
  The kernel as one region of the program: what each device's staged windows hold at entry and at the end, the invariant
  before and after the body, and the region's record.
-/
module

public import proofs.«01_k».proof.Proof.Cells
public import proofs.«01_k».proof.Proof.Gen.KernelIdeal.Regions
public import Idealize.ShloMosaic.Lib.Pipeline.RegionTalk
public import Idealize.ShloMosaic.Lib.VecWindow

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

/-! ## A window that is its whole array -/

theorem read_x (t : Fin cfg0.N) (f : S2x128x512.Idx → Elt F .bf16) : ((cfg0.win 0).blk t).view.read (Elt F) f = f :=
  funext fun i => congrArg f (Rect.emb_unit_full _ i)
theorem read_wq (t : Fin cfg0.N) (f : S512x512.Idx → Elt F .bf16) : ((cfg0.win 1).blk t).view.read (Elt F) f = f :=
  funext fun i => congrArg f (Rect.emb_unit_full _ i)
theorem read_wo (t : Fin cfg0.N) (f : S512x512.Idx → Elt F .bf16) : ((cfg0.win 2).blk t).view.read (Elt F) f = f :=
  funext fun i => congrArg f (Rect.emb_unit_full _ i)
theorem read_k (t : Fin cfg0.N) (f : S2x8x64x128.Idx → Elt F .bf16) : ((cfg0.win 3).blk t).view.read (Elt F) f = f :=
  funext fun i => congrArg f (Rect.emb_unit_full _ i)
theorem read_v (t : Fin cfg0.N) (f : S2x8x64x128.Idx → Elt F .bf16) : ((cfg0.win 4).blk t).view.read (Elt F) f = f :=
  funext fun i => congrArg f (Rect.emb_unit_full _ i)
theorem write_out (t : Fin cfg0.N) (f g : S2x128x512.Idx → Elt F .bf16) :
    ((cfg0.win 5).blk t).view.write (Elt F) f g Finset.univ = g := by
  funext i
  have h : ((cfg0.win 5).blk t).view.emb i = (i : S2x128x512.Idx) := Rect.emb_unit_full (s := S2x128x512) _ i
  calc ((cfg0.win 5).blk t).view.write (Elt F) f g Finset.univ i
      = ((cfg0.win 5).blk t).view.write (Elt F) f g Finset.univ (((cfg0.win 5).blk t).view.emb i) := by rw [h]
    _ = g i := View.write_emb_of_mem (v := ((cfg0.win 5).blk t).view) f g (Finset.mem_univ i)

/-! ## What the windows hold -/

variable (m : (ℓ : Loc nD τ sig) → Buf (Elt F) ℓ)

/-- The operands on each device: its block of `x`, its columns of `Wq`, its rows of `Wo`, its heads of `K` and `V`. -/
abbrev opX (c : Dev nD) : S2x128x512.Idx → Elt F .bf16 := V1 m c main_arg0
abbrev opWQ (c : Dev nD) : S512x512.Idx → Elt F .bf16 := V1 m c main_arg1
abbrev opWO (c : Dev nD) : S512x512.Idx → Elt F .bf16 := V1 m c main_arg4
abbrev opK (c : Dev nD) : S2x8x64x128.Idx → Elt F .bf16 := V1 m c main_v11
abbrev opV (c : Dev nD) : S2x8x64x128.Idx → Elt F .bf16 := V1 m c main_v16

/-- What the devices compute for one another, and each device's result. -/
def sent : Dev nD → S4x2x128x512.Idx → Elt F .bf16 := YS (opX m) (opWQ m) (opWO m) (opK m) (opV m)
def result (c : Dev nD) : S2x128x512.Idx → Elt F .bf16 := outOf (opX m) (opWQ m) (opWO m) (opK m) (opV m) c

/-- What the region leaves: the result in its array. -/
def outs : Outs (F := F) := fun _ r c => if h : r = main_v17 then h ▸ result m c else m ((c : Thread nD τ).loc r)

theorem outs_result (c : Dev nD) : outs m 2 main_v17 c = result m c := by unfold outs; rw [dif_pos rfl]

/-! ## The invariant before and after the body -/

/-- What the launch dealt a device and the region opened. -/
def Xk (c : Dev nD) : sProp 𝕄 :=
  iprop((∃ K, records (opX m) (sent m) K ∗ opened (F := F) c) ∗ levAts L lv)
def Yk (c : Dev nD) : sProp 𝕄 := semVal (barCell c) 0

def Φ₀ (c : Dev nD) : sProp 𝕄 := iprop(Xk m c ∗ scratch (F := F) c ∗ ∃ r, prngReg c r)
def Φ₁ (c : Dev nD) : sProp 𝕄 := iprop(Yk (F := F) c ∗ Pipeline.ownSems0 osem c ∗ scratch (F := F) c ∗ ∃ r, prngReg c r)

def dat0 (c : Dev nD) : Dat τ (Elt F) Unit ℕ UU ℕ cfg0 c where
  A w := match w with
    | 0 => opX m c
    | 1 => opWQ m c
    | 2 => opWO m c
    | 3 => opK m c
    | 4 => opV m c
    | 5 => V1 m c main_v17
    | ⟨_ + 6, h⟩ => absurd h (Nat.not_lt.2 (Nat.le_add_left _ _))
  after w _ := match w with
    | 0 => opX m c
    | 1 => opWQ m c
    | 2 => opWO m c
    | 3 => opK m c
    | 4 => opV m c
    | 5 => result m c
    | ⟨_ + 6, h⟩ => absurd h (Nat.not_lt.2 (Nat.le_add_left _ _))
  Φ t := if t.val = 0 then Φ₀ m c else Φ₁ c
  q _ := fullShare
  owed t := if t.val = 0 then O₀ c else 0

def pdats : (p : Fin 1) → (c : Dev nD) → Dat τ (Elt F) Unit ℕ UU ℕ (cfgs p) c := fun _ => dat0 m

theorem owed_first (c : Dev nD) : (dat0 m c).owed t0_0.castSucc = O₀ c := by
  show (if t0_0.castSucc.val = 0 then O₀ c else 0) = _
  exact if_pos rfl
theorem owed_last (c : Dev nD) : (dat0 m c).owed (Fin.last cfg0.N) = 0 := by
  show (if (Fin.last cfg0.N).val = 0 then O₀ c else 0) = 0
  rw [Fin.val_last, if_neg (by rw [show cfg0.N = 1 from N_0]; decide)]

theorem owes_in {c : Dev nD} (t : Fin (cfg0.N + 1)) (O : CellTallies nD τ sig Unit) (h : (dat0 m c).owed t = O) :
    iprop(∃ W, owes (c : Thread nD τ) O W) ⊢ ((dat0 m c).owesAt () t : sProp 𝕄) := by
  unfold Dat.owesAt Pipeline.owesWithin; rw [h]
  iintro ⟨%W, H⟩; iexists W; isplitr; · ipureintro; exact fun _ _ => Or.inl trivial
  iexact H
theorem owes_out {c : Dev nD} (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin; rw [h]
  iintro ⟨%W, -, H⟩; iexists W; iexact H

/-! ## The body -/

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_in (c : Dev nD) (b : Ref sig .tc) (f : b.ty.Contents (Elt F)) :
    (((c : Thread nD τ).loc b) ↦{fullShare} f) ⊢ stg c b f := by
  unfold stg
  iintro H
  iexists f
  isplitr
  · ipureintro; rfl
  · iexact H

theorem stg_out (c : Dev nD) (b : Ref sig .tc) (f : b.ty.Contents (Elt F)) :
    stg c b f ⊢ (((c : Thread nD τ).loc b) ↦{fullShare} f) := by
  unfold stg
  iintro ⟨%g, %h, H⟩
  subst h
  iexact H

theorem stg_any (c : Dev nD) (b : Ref sig .tc) (B : b.ty.Contents (Elt F) → b.ty.Contents (Elt F)) (f : b.ty.Contents (Elt F)) (h : ∀ d, B d = f) :
    iprop(∃ d, stg c b (B d)) ⊢ (((c : Thread nD τ).loc b) ↦{fullShare} f) := by
  simp only [h]
  iintro ⟨%d, H⟩
  iapply (stg_out c b f); iexact H

theorem before_x (c : Dev nD) (d) : (dat0 m c).before (0 : Fin 6) t0_0 d = opX m c := by
  unfold Dat.before; rw [if_pos (fetch0_0 t0_0)]; exact read_x t0_0 (opX m c)
theorem before_wq (c : Dev nD) (d) : (dat0 m c).before (1 : Fin 6) t0_0 d = opWQ m c := by
  unfold Dat.before; rw [if_pos (fetch0_1 t0_0)]; exact read_wq t0_0 (opWQ m c)
theorem before_wo (c : Dev nD) (d) : (dat0 m c).before (2 : Fin 6) t0_0 d = opWO m c := by
  unfold Dat.before; rw [if_pos (fetch0_2 t0_0)]; exact read_wo t0_0 (opWO m c)
theorem before_k (c : Dev nD) (d) : (dat0 m c).before (3 : Fin 6) t0_0 d = opK m c := by
  unfold Dat.before; rw [if_pos (fetch0_3 t0_0)]; exact read_k t0_0 (opK m c)
theorem before_v (c : Dev nD) (d) : (dat0 m c).before (4 : Fin 6) t0_0 d = opV m c := by
  unfold Dat.before; rw [if_pos (fetch0_4 t0_0)]; exact read_v t0_0 (opV m c)

def bodyPre (c : Dev nD) : sProp 𝕄 :=
  iprop(Φ₀ m c ∗ (dat0 m c).owesAt () t0_0.castSucc
    ∗ (∃ d, stg c cc0_stg0_0 ((dat0 m c).before (0 : Fin 6) t0_0 d))
    ∗ (∃ d, stg c cc0_stg1_0 ((dat0 m c).before (1 : Fin 6) t0_0 d))
    ∗ (∃ d, stg c cc0_stg2_0 ((dat0 m c).before (2 : Fin 6) t0_0 d))
    ∗ (∃ d, stg c cc0_stg3_0 ((dat0 m c).before (3 : Fin 6) t0_0 d))
    ∗ (∃ d, stg c cc0_stg4_0 ((dat0 m c).before (4 : Fin 6) t0_0 d))
    ∗ (∃ d, stg c cc0_stg5_0 ((dat0 m c).before (5 : Fin 6) t0_0 d)))

def bodyPost (c : Dev nD) : sProp 𝕄 :=
  iprop(Φ₁ (F := F) c ∗ (dat0 m c).owesAt () t0_0.succ
    ∗ stg c cc0_stg0_0 (opX m c) ∗ stg c cc0_stg1_0 (opWQ m c) ∗ stg c cc0_stg2_0 (opWO m c)
    ∗ stg c cc0_stg3_0 (opK m c) ∗ stg c cc0_stg4_0 (opV m c) ∗ stg c cc0_stg5_0 (result m c))

/-- What a device holds before the body is what the body is proved from. -/
theorem staged_of (c : Dev nD) :
    iprop((∃ d, stg c cc0_stg0_0 ((dat0 m c).before (0 : Fin 6) t0_0 d))
      ∗ (∃ d, stg c cc0_stg1_0 ((dat0 m c).before (1 : Fin 6) t0_0 d))
      ∗ (∃ d, stg c cc0_stg2_0 ((dat0 m c).before (2 : Fin 6) t0_0 d))
      ∗ (∃ d, stg c cc0_stg3_0 ((dat0 m c).before (3 : Fin 6) t0_0 d))
      ∗ (∃ d, stg c cc0_stg4_0 ((dat0 m c).before (4 : Fin 6) t0_0 d))
      ∗ (∃ d, stg c cc0_stg5_0 ((dat0 m c).before (5 : Fin 6) t0_0 d)))
      ⊢ staged (opX m) c (opWQ m) (opWO m) (opK m) (opV m) := by
  unfold staged
  iintro ⟨H0, H1, H2, H3, H4, ⟨%d, %f, -, H5⟩⟩
  isplitl [H0]; · iapply (stg_any c cc0_stg0_0 _ _ (before_x m c)); iexact H0
  isplitl [H1]; · iapply (stg_any c cc0_stg1_0 _ _ (before_wq m c)); iexact H1
  isplitl [H2]; · iapply (stg_any c cc0_stg2_0 _ _ (before_wo m c)); iexact H2
  isplitl [H3]; · iapply (stg_any c cc0_stg3_0 _ _ (before_k m c)); iexact H3
  isplitl [H4]; · iapply (stg_any c cc0_stg4_0 _ _ (before_v m c)); iexact H4
  iexists f; iexact H5

theorem body_sound (c : Dev nD) : bodyPre m c ⊢ runs c (onBufs (cc0_body (F := F))) (fun _ => bodyPost m c) := by
  have h₁ : bodyPre m c ⊢ runs c (onBufs (cc0_body (F := F))) (fun _ => iprop(|={Set.univ}=> bodyPost m c)) := by
    unfold bodyPre Φ₀ Xk
    iintro ⟨⟨⟨⟨%K, #HR, Hop⟩, #Hlev⟩, Hs, Hp⟩, HO, Hst⟩
    ihave HO := (owes_out m t0_0.castSucc (O₀ c) (owed_first m c)) $$ HO
    ihave Hst := (staged_of m c) $$ Hst
    ihave Hg := (given_of (opX m) (sent m) K c (opWQ m) (opWO m) (opK m) (opV m)) $$ [Hop Hs Hst HO]
    · isplitr; · iexact HR
      isplitl [Hop]; · iexact Hop
      isplitl [Hs]; · iexact Hs
      isplitl [Hst]; · iexact Hst
      unfold owed; iexact HO
    icases Hg with ⟨Hg, Hk⟩
    iapply (body_runs (opX m) (sent m) K c (opWQ m) (opWO m) (opK m) (opV m) rfl) $$ [Hg]
    · isplitr; · iexact Hlev
      iexact Hg
    iintro Hl
    imod (left_closed (opX m) (sent m) K c (opWQ m) (opWO m) (opK m) (opV m)) $$ [Hl Hk] with ⟨Hb, Hz, Hs, ⟨H0, H1, H2, H3, H4, H5⟩, HO⟩
    · isplitr; · iexact HR
      isplitl [Hl] <;> iassumption
    imodintro
    unfold bodyPost Φ₁ Yk
    isplitl [Hb Hz Hs Hp]
    · isplitl [Hb]; · iexact Hb
      isplitl [Hz]; · iexact Hz
      isplitl [Hs] <;> iassumption
    isplitl [HO]
    · iapply (owes_in m t0_0.succ 0 (owed_last m c))
      unfold owed; iexact HO
    isplitl [H0]; · iapply (stg_in c cc0_stg0_0 (opX m c)); iexact H0
    isplitl [H1]; · iapply (stg_in c cc0_stg1_0 (opWQ m c)); iexact H1
    isplitl [H2]; · iapply (stg_in c cc0_stg2_0 (opWO m c)); iexact H2
    isplitl [H3]; · iapply (stg_in c cc0_stg3_0 (opK m c)); iexact H3
    isplitl [H4]; · iapply (stg_in c cc0_stg4_0 (opV m c)); iexact H4
    iapply (stg_in c cc0_stg5_0 (result m c)); iexact H5
  exact h₁.trans (wp_fupd _ _ _ _ _)

/-- The body's obligation on device `c`. -/
theorem body_obligation (c : Dev nD) : BodyObligation (dat0 m c) (defs₀ (F := F)) 𝒱₀ () Set.univ := fun t => by
  obtain rfl := fin_N0 t
  rw [bigSep_W0, bigSep_W0]
  simp only [owns_whole_eq]
  exact body_sound m c

/-! ## The region -/

/-- What a device is dealt at launch: its own cells not yet opened. -/
def linear (c : Dev nD) : sProp 𝕄 :=
  iprop(atPos ER (barCell c) 0 ∅ 0 ∗ (bigSep Finset.univ fun k : Fin 4 × Fin 4 × Fin 2 => openTok ER (dcell k.1 k.2.1 k.2.2 c))
    ∗ tokens (F := F) c ∗ credits (F := F) c)
def Tk (c : Dev nD) : sProp 𝕄 := iprop(∃ K, records (opX m) (sent m) K ∗ linear (F := F) c)

theorem open_cells (c : Dev nD) : iprop(Tk m c ∗ Pipeline.ownSems0 osem c ∗ levAts L lv) ⊢ (|={Set.univ}=> Xk m c : sProp 𝕄) := by
  unfold Tk Xk linear opened
  iintro ⟨⟨%K, #HR, Hb, Ho, Ht, Hc⟩, Hz, #Hlev⟩
  imod (Rounds.cells_open ER (ringRd (opX m) (sent m)) Finset.univ (fun k : Fin 4 × Fin 4 × Fin 2 => dcell k.1 k.2.1 k.2.2 c)
      (fun k => K (dcell k.1 k.2.1 k.2.2 c)) (fun k _ => Set.mem_univ _)) $$ [Ho Hz] with Ha
  · isplitl [Ho]
    · iapply (bigSep_with_persistent (R := records (opX m) (sent m) K)
        (Φ := fun k : Fin 4 × Fin 4 × Fin 2 => openTok ER (dcell k.1 k.2.1 k.2.2 c))
        fun k _ => sep_mono (dma_inv (opX m) (sent m) K k.1 k.2.1 k.2.2 c) .rfl)
      isplitr; · iexact HR
      iexact Ho
    unfold Pipeline.ownSems0; iexact Hz
  imodintro
  isplitl [Hb Ha Ht Hc]
  · iexists K
    isplitr; · iexact HR
    isplitl [Hb]; · iexact Hb
    isplitl [Ha]; · iexact Ha
    isplitl [Ht] <;> iassumption
  iexact Hlev

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem ownSemFacts : Pipeline.OwnSemFacts spec0 osem := by decide

/-- The scratch buffers are the scoped buffers no window stages. -/
theorem scratch_eq (c : Dev nD) :
    (Pipeline.scopedRest (Ix := Unit) (Name := ℕ) (U := UU) (Lvl := ℕ) (Val := Elt F) spec0 c : sProp 𝕄) = scratch c :=
  scopedRest0_eq c

/-- The buffers beside the windows' arrays. -/
abbrev others : Finset (DevRef τ sig) := Pipeline.ucRefs τ sig \ Pipeline.arrRefs (τ := τ) spec0

theorem enter (c : Dev nD) :
    iprop(Pipeline.scopedRest spec0 c ∗ (∃ r, prngReg c r) ∗ StableHlo.held (c.tc : Thread nD τ) ∅ (V1 m c) ∗ Xk m c)
      ⊢ (dat0 m c).Φ 0 := by
  have hΦ : (dat0 m c).Φ 0 = Φ₀ m c := by
    show (if (0 : Fin (cfg0.N + 1)).val = 0 then Φ₀ m c else Φ₁ c) = _
    exact if_pos rfl
  rw [hΦ, scratch_eq]
  unfold Φ₀
  iintro ⟨Hs, Hp, -, HX⟩
  isplitl [HX]; · iexact HX
  isplitl [Hs] <;> iassumption

theorem leave (c : Dev nD) (W : Valuation τ sig (Elt F)) : (dat0 m c).Φ (Fin.last cfg0.N)
    ⊢ iprop(Pipeline.scopedRest spec0 c ∗ (∃ r, prngReg c r) ∗ StableHlo.held (c.tc : Thread nD τ) ∅ W ∗ Pipeline.ownSems0 osem c ∗ Yk c) := by
  have hΦ : (dat0 m c).Φ (Fin.last cfg0.N) = Φ₁ c := by
    show (if (Fin.last cfg0.N).val = 0 then Φ₀ m c else Φ₁ c) = _
    rw [Fin.val_last, if_neg (by rw [show cfg0.N = 1 from N_0]; decide)]
  rw [hΦ, scratch_eq]
  unfold Φ₁ StableHlo.held
  rw [BI.bigSep_empty]
  iintro ⟨Hy, Hz, Hs, Hp⟩
  isplitl [Hs]; · iexact Hs
  isplitl [Hp]; · iexact Hp
  isplitr; · iempintro
  isplitl [Hz] <;> iassumption

theorem above_O₀ (c : Dev nD) : Above 0 ([1, 2, 3].map (barDue c) ++ (gatherOrder.map (gatherDue c) ++ scatterOrder.map (scatterDue c))) :=
  above_append _ _ _ (above_bar c 0 (by decide) _)
    (above_append _ _ _ (above_gather c 0 (by decide) _) (above_scatter c 0 (by decide) _))

theorem cut : Pipeline.LevelCutOwed (pcfgs (F := F)) adm (pdats m) () L lv 0 (fun _ => 0) where
  hι c w s := by rw [L_tc]; exact Finset.mem_singleton_self _
  hιb c w s := by
    have h : ∀ (w : Fin 6) (s : Fin (cfg0.win w).nbuf), level (.dma ((cfg0.win w).sem s)) ≤ 0 := by decide
    exact h w s
  hD c t g i h := by
    have e : (pdats m 0 c).owed t = if t.val = 0 then O₀ c else 0 := rfl
    rw [e] at h
    split at h
    · obtain ⟨x, hx, rfl⟩ := dues_pos _ g i h
      exact ⟨by rw [L, if_pos (above_O₀ c x hx).1]; exact Finset.mem_singleton_self _, (above_O₀ c x hx).2⟩
    · exact absurd h (Nat.lt_irrefl 0)

theorem V2_result (c : Dev nD) : V2 m (outs m) c main_v17 = outs m 2 main_v17 c := by
  unfold V2
  exact Function.update_self _ _ _

theorem arr_first (c : Dev nD) (w : Fin 6) : (dat0 m c).arrAt w 0 = V1 m c (Proc.devRef .tc (Pipeline.arrRef spec0 w)) := by
  fin_cases w <;> rfl

theorem arr_last (c : Dev nD) (w : Fin 6) :
    (dat0 m c).arrAt w cfg0.N = V2 m (outs m) c (Proc.devRef .tc (Pipeline.arrRef spec0 w)) := by
  fin_cases w
  · exact ((dat0 m c).arrAt_in (0 : Fin 6) rfl _).trans (V2_of m (outs m) c main_arg0 (by decide)).symm
  · exact ((dat0 m c).arrAt_in (1 : Fin 6) rfl _).trans (V2_of m (outs m) c main_arg1 (by decide)).symm
  · exact ((dat0 m c).arrAt_in (2 : Fin 6) rfl _).trans (V2_of m (outs m) c main_arg4 (by decide)).symm
  · exact ((dat0 m c).arrAt_in (3 : Fin 6) rfl _).trans (V2_of m (outs m) c main_v11 (by decide)).symm
  · exact ((dat0 m c).arrAt_in (4 : Fin 6) rfl _).trans (V2_of m (outs m) c main_v16 (by decide)).symm
  · refine Eq.trans (b := result m c) ?_ ((V2_result m c).trans (outs_result m c)).symm
    have h := (dat0 m c).arrAt_succ (5 : Fin 6) t0_0
    rw [if_pos (flush0_5 t0_0)] at h
    exact (congrArg ((dat0 m c).arrAt (5 : Fin 6)) N_0).trans (h.trans (write_out t0_0 _ _))

set_option backward.isDefEq.respectTransparency.types false in
/-- The region's record: entered with every buffer as the host operations left it, left with the result written. -/
def region : Pipeline.RegionSeg (pcfgs (F := F)) adm (pdats m) () defs₀ 𝒱₀ L lv 0 :=
  Pipeline.RegionSeg.ofTalk (pcfgs (F := F)) adm (pdats m) () defs₀ 𝒱₀ L lv 0 osem ownSemFacts
    ∅ others (Finset.empty_subset _) kitP rfl (fun c => (body_obligation m c).loose)
    (fun _ => 0) O₀ (fun c => (owed_first m c).trans (zero_add _).symm) (owed_last m) (fun _ => rfl)
    (fun c w => by unfold Dat.share; split <;> rfl)
    (V1 m) (V2 m (outs m)) (fun c b hb => Function.update_of_ne (fun h => by
      subst h
      exact absurd hb (by decide)) _ _)
    (Tk m) Yk (Xk m) Yk (open_cells m) (enter m) (fun c => leave m c _)
    (fun c => by iintro H; imodintro; iexact H)
    (fun _ => 0) (cut m) (fun _ => iprop(emp)) (arr_first m) (arr_last m)

/-! ## The thread's state around the region -/

/-- What rides beside the buffers: before the region and after it. -/
def rides : Fin 2 → Dev nD → sProp 𝕄
  | 0, c => iprop((∃ r, prngReg c r) ∗ Tk m c ∗ ∃ W, owes (c : Thread nD τ) (O₀ c) W)
  | 1, c => iprop((∃ r, prngReg c r) ∗ Yk (F := F) c ∗ ∃ W, owes (c : Thread nD τ) (0 : CellTallies nD τ sig Unit) W)

theorem arrs_sub : Pipeline.arrRefs (τ := τ) spec0 ⊆ Pipeline.ucRefs τ sig :=
  Pipeline.arrRefs_sub_ucRefs spec0 (by decide)

theorem region_pre (c : Dev nD) :
    iprop(StableHlo.held (c : Thread nD τ) (Pipeline.ucRefs τ sig) (V1 m c) ∗ rides m 0 c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [zero_add, StableHlo.held_sub_split (c.tc : Thread nD τ) arrs_sub (V1 m c)]
  unfold rides
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem region_post (c : Dev nD) :
    (region m).post c ⊢ iprop(StableHlo.held (c : Thread nD τ) (Pipeline.ucRefs τ sig) (V2 m (outs m) c) ∗ rides m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c ∗ ∃ Wd, owes (c : Thread nD τ) (0 : CellTallies nD τ sig Unit) Wd) ⊢ _
  rw [StableHlo.held_sub_split (c.tc : Thread nD τ) arrs_sub (V2 m (outs m) c)]
  unfold rides
  iintro ⟨Ha, Hp, ⟨Hr, -⟩, HY, HO⟩
  isplitl [Ha Hr]
  · isplitl [Ha] <;> iassumption
  isplitl [Hp]; · iexact Hp
  isplitl [HY] <;> iassumption

end Cert.KernelIdeal.Proof

end
-- ==== Proof.Run.lean ====
/-
  The launch and the run. Every cell's invariant is allocated at the start, the transfer cells still closed; every duty's
  token goes to the device that pays it and every credit to the device that waits for it; and the whole program ends with the
  arguments as they were, each device's result in its array, and every semaphore counter at zero.
-/
module

public import proofs.«01_k».proof.Proof.Region
public import Idealize.ShloMosaic.Harness.Basic
public import Idealize.ShloMosaic.Lib.Quiescent

@[expose] public section

set_option maxRecDepth 16384

noncomputable section

namespace Cert.KernelIdeal.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

abbrev CellIx : Type := Fin 4 × Fin 4 × Fin 2

theorem osem_inj : Function.Injective osem := by decide
theorem osem_ne_bar : ∀ k : CellIx, osem k ≠ .reg barS := by decide

/-- A barrier cell's duty `e`, by device. -/
def barDutyEmb : Dev nD × Fin 4 ↪ GSem nD τ sig × ℕ × Fin 4 :=
  ⟨fun k => (barCell k.1, 0, k.2), fun _ _ h => Prod.ext (congrArg (fun t : GSem nD τ sig × ℕ × Fin 4 => t.1.1.1) h)
    (congrArg (fun t : GSem nD τ sig × ℕ × Fin 4 => t.2.2) h)⟩
/-- A transfer cell's duty, by device. -/
def dmaDutyEmb : Dev nD × CellIx ↪ GSem nD τ sig × ℕ × Fin 4 :=
  ⟨fun k => (((k.1 : Thread nD τ), osem k.2), 0, 0), fun _ _ h => Prod.ext (congrArg (fun t : GSem nD τ sig × ℕ × Fin 4 => t.1.1.1) h)
    (osem_inj (congrArg (fun t : GSem nD τ sig × ℕ × Fin 4 => t.1.2) h))⟩
def barEmb : Dev nD ↪ GSem nD τ sig := ⟨fun c => barCell c, fun _ _ h => congrArg (fun g : GSem nD τ sig => g.1.1) h⟩
def dmaEmb : Dev nD × CellIx ↪ GSem nD τ sig :=
  ⟨fun k => ((k.1 : Thread nD τ), osem k.2), fun _ _ h =>
    Prod.ext (congrArg (fun g : GSem nD τ sig => g.1.1) h) (osem_inj (congrArg Prod.snd h))⟩

abbrev barCells : Finset (GSem nD τ sig) := Finset.univ.map barEmb
abbrev dmaCells : Finset (GSem nD τ sig) := Finset.univ.map dmaEmb
abbrev barDuties : Finset (GSem nD τ sig × ℕ × Fin 4) := Finset.univ.map barDutyEmb
abbrev dmaDuties : Finset (GSem nD τ sig × ℕ × Fin 4) := Finset.univ.map dmaDutyEmb
abbrev allTokens : Finset (GSem nD τ sig × ℕ × Fin 4) := barDuties ∪ dmaDuties

theorem cells_disjoint : Disjoint (barCells : Finset (GSem nD τ sig)) dmaCells := by
  rw [Finset.disjoint_left]
  rintro g h₁ h₂
  obtain ⟨c, -, rfl⟩ := Finset.mem_map.mp h₁
  obtain ⟨k, -, h⟩ := Finset.mem_map.mp h₂
  exact osem_ne_bar k.2 (congrArg Prod.snd h)

theorem duties_disjoint : Disjoint (barDuties : Finset (GSem nD τ sig × ℕ × Fin 4)) dmaDuties := by
  rw [Finset.disjoint_left]
  rintro g h₁ h₂
  obtain ⟨c, -, rfl⟩ := Finset.mem_map.mp h₁
  obtain ⟨k, -, h⟩ := Finset.mem_map.mp h₂
  exact osem_ne_bar k.2 (congrArg (fun t : GSem nD τ sig × ℕ × Fin 4 => t.1.2) h)

/-! ## The tokens go round -/

theorem six_bigSep (P : Dev nD → Fin 4 → Fin 2 → sProp 𝕄) :
    (bigSep Finset.univ fun c : Dev nD => six (P c)) = six fun d b => bigSep Finset.univ fun c : Dev nD => P c d b := by
  unfold six
  rw [bigSep_sep', bigSep_sep', bigSep_sep', bigSep_sep', bigSep_sep']

theorem around (P : Dev nD → sProp 𝕄) (d : Fin 4) :
    (bigSep Finset.univ P) = bigSep Finset.univ fun c : Dev nD => P (peer c d.val) :=
  bigSep_univ_equiv (turn d) P

theorem six_around (P : Dev nD → Fin 4 → Fin 2 → sProp 𝕄) (e : Fin 4 → Fin 4) :
    (bigSep Finset.univ fun c : Dev nD => six (P c)) = bigSep Finset.univ fun c : Dev nD => six fun d b => P (peer c (e d).val) d b := by
  rw [six_bigSep, six_bigSep (fun c d b => P (peer c (e d).val) d b)]
  refine congrArg six (funext fun d => funext fun b => ?_)
  exact around (fun c => P c d b) (e d)

/-- A device's own cells' tokens: one for each duty of its barrier cell, one for each transfer cell. -/
def minted (c : Dev nD) : sProp 𝕄 :=
  iprop((bigSep Finset.univ fun e : Fin 4 => dutyTok ER (barCell c) 0 e)
    ∗ bigSep Finset.univ fun k : CellIx => dutyTok ER (dcell k.1 k.2.1 k.2.2 c) 0 0)

theorem minted_eq : bigSep allTokens (fun x => (dutyTok ER x.1 x.2.1 x.2.2 : sProp 𝕄)) = bigSep Finset.univ fun c : Dev nD => minted c := by
  unfold minted
  rw [BI.bigSep_union duties_disjoint, bigSep_map, bigSep_map, bigSep_univ_prod, bigSep_univ_prod, bigSep_sep']
  rfl

/-- The tokens of the three rings and of the transfers, still with their cells' devices. -/
def unsent (c : Dev nD) : sProp 𝕄 :=
  iprop(dutyTok ER (barCell c) 0 (neg4 1) ∗ dutyTok ER (barCell c) 0 (neg4 2) ∗ dutyTok ER (barCell c) 0 (neg4 3)
    ∗ six (fun d b => dutyTok ER (dcell 0 d b c) 0 0) ∗ six (fun d b => dutyTok ER (dcell 1 d b c) 0 0)
    ∗ six (fun d b => dutyTok ER (dcell 2 d b c) 0 0) ∗ six (fun d b => dutyTok ER (dcell 3 d b c) 0 0))

theorem unsent_of (c : Dev nD) : minted (F := F) c ⊢ unsent c := by
  unfold minted unsent
  rw [four_eq, cells_eq (fun a d b => dutyTok ER (dcell a d b c) 0 0)]
  iintro ⟨⟨-, H1, H2, H3⟩, ⟨-, A0⟩, ⟨-, A1⟩, ⟨-, A2⟩, -, A3⟩
  isplitl [H3]; · iexact H3
  isplitl [H2]; · iexact H2
  isplitl [H1]; · iexact H1
  isplitl [A0]; · iexact A0
  isplitl [A1]; · iexact A1
  isplitl [A2] <;> iassumption

/-- Seven families over the devices regrouped, five of them reindexed. -/
theorem dealt_round (A₁ A₂ A₃ A₄ A₅ A₆ A₇ : Dev nD → sProp 𝕄) {B₁ B₂ B₃ B₅ B₇ : Dev nD → sProp 𝕄}
    (h₁ : bigSep Finset.univ A₁ = bigSep Finset.univ B₁) (h₂ : bigSep Finset.univ A₂ = bigSep Finset.univ B₂)
    (h₃ : bigSep Finset.univ A₃ = bigSep Finset.univ B₃) (h₅ : bigSep Finset.univ A₅ = bigSep Finset.univ B₅)
    (h₇ : bigSep Finset.univ A₇ = bigSep Finset.univ B₇) :
    (bigSep Finset.univ fun c : Dev nD => iprop(A₁ c ∗ A₂ c ∗ A₃ c ∗ A₄ c ∗ A₅ c ∗ A₆ c ∗ A₇ c))
      ⊢ bigSep Finset.univ fun c : Dev nD => iprop((B₁ c ∗ B₂ c ∗ B₃ c) ∗ A₄ c ∗ B₅ c ∗ A₆ c ∗ B₇ c) := by
  rw [bigSep_sep', bigSep_sep', bigSep_sep', bigSep_sep', bigSep_sep', bigSep_sep', bigSep_sep', bigSep_sep', bigSep_sep',
    bigSep_sep', bigSep_sep', bigSep_sep', h₁, h₂, h₃, h₅, h₇]
  iintro ⟨H1, H2, H3, H⟩
  isplitl [H1 H2 H3]
  · isplitl [H1]; · iexact H1
    isplitl [H2]; · iexact H2
    iexact H3
  iexact H

/-- Each token handed to the device that pays its duty. -/
theorem tokens_around : (bigSep Finset.univ fun c : Dev nD => unsent (F := F) c) ⊢ bigSep Finset.univ fun c : Dev nD => tokens (F := F) c := by
  unfold unsent tokens
  exact dealt_round _ _ _ _ _ _ _ (around (fun c : Dev nD => dutyTok ER (barCell c) 0 (neg4 1)) 1)
    (around (fun c : Dev nD => dutyTok ER (barCell c) 0 (neg4 2)) 2) (around (fun c : Dev nD => dutyTok ER (barCell c) 0 (neg4 3)) 3)
    (six_around (fun c d b => dutyTok ER (dcell 1 d b c) 0 0) id) (six_around (fun c d b => dutyTok ER (dcell 3 d b c) 0 0) neg4)

/-! ## The credits at launch -/

/-- What all devices owe one semaphore, each to the device a bijection names, reaches each device in full. -/
theorem credit_one (e : Dev nD ≃ Dev nD) (sm : SemLoc sig) (n : ℕ) (c : Dev nD) :
    (Pipeline.launchCred (fun d : Dev nD => tallyAt ((e d : Thread nD τ), sm) () n) c : sProp 𝕄)
      ⊢ cred (tallyAt ((c : Thread nD τ), sm) () n) := by
  refine (Pipeline.launchCred_elim _ c sm).trans (Entails.of_eq (congrArg _ ?_))
  unfold tallyAt
  refine congrArg _ (Finsupp.ext fun u => ?_)
  rw [Pipeline.launchCredit_owing, Finsupp.single_eq_same]
  have h : ∀ d : Dev nD, (tallyOn ((e d : Thread nD τ), sm) (Finsupp.single () n) : CellTallies nD τ sig Unit) ((c : Thread nD τ), sm) u
      = if d = e.symm c then n else 0 := fun d => by
    have h' := tallyAt_apply (Ix := Unit) ((e d : Thread nD τ), sm) () n ((c : Thread nD τ), sm) u
    unfold tallyAt at h'
    rw [h']
    by_cases hd : d = e.symm c
    · subst hd
      rw [e.apply_symm_apply, if_pos ⟨rfl, rfl⟩, if_pos rfl]
    · rw [if_neg hd, if_neg fun hh => hd (e.injective (by
        rw [e.apply_symm_apply]
        exact (congrArg (fun g : GSem nD τ sig => g.1.1) hh.1).symm))]
  rw [Finset.sum_congr rfl fun d _ => h d, Finset.sum_ite_eq' Finset.univ (e.symm c) fun _ => n, if_pos (Finset.mem_univ _)]

/-- The credits of a list of dues of one kind, then those of the rest of the list. -/
theorem credit_list {T : Type} (sm : T → SemLoc sig) (n : ℕ) (e : T → Dev nD ≃ Dev nD) (l : Dev nD → List (GSem nD τ sig × ℕ)) (c : Dev nD) :
    ∀ ts : List T, (Pipeline.launchCred (fun d : Dev nD => dues (ts.map (fun t => (((e t d : Thread nD τ), sm t), n)) ++ l d)) c : sProp 𝕄)
      ⊢ ts.foldr (fun t P => iprop(cred (tallyAt ((c : Thread nD τ), sm t) () n) ∗ P)) (Pipeline.launchCred (fun d => dues (l d)) c)
  | [] => .rfl
  | t :: ts => by
    have h : (fun d : Dev nD => dues ((t :: ts).map (fun t => (((e t d : Thread nD τ), sm t), n)) ++ l d))
        = fun d => dues (ts.map (fun t => (((e t d : Thread nD τ), sm t), n)) ++ l d) + tallyAt ((e t d : Thread nD τ), sm t) () n := rfl
    rw [h, Pipeline.launchCred_add]
    have h₁ := credit_one (F := F) (e t) (sm t) n c
    have h₂ := credit_list sm n e l c ts
    rw [List.foldr_cons]
    iintro ⟨A, B⟩
    isplitl [B]
    · iapply h₁; iexact B
    · iapply h₂; iexact A

theorem three_units (g : GSem nD τ sig) :
    iprop(cred (tallyAt g () 1) ∗ cred (tallyAt g () 1) ∗ cred (tallyAt g () 1)) ⊢ (cred (tallyAt g () 3) : sProp 𝕄) := by
  have h : (tallyAt g () 3 : CellTallies nD τ sig Unit) = tallyAt g () 1 + (tallyAt g () 1 + tallyAt g () 1) := by
    rw [tallyAt_add, tallyAt_add]
  rw [h]
  exact (sep_mono_right (cred_add _ _).2).trans (cred_add _ _).2

/-- A device's launch credits are what it waits for. -/
theorem credits_of (c : Dev nD) : (Pipeline.launchCred O₀ c : sProp 𝕄) ⊢ credits c := by
  have h₁ := credit_list (F := F) (fun _ : Fin 4 => SemLoc.reg barS) 1 turn
    (fun d => gatherOrder.map (gatherDue d) ++ scatterOrder.map (scatterDue d)) c [1, 2, 3]
  have h₂ := credit_list (F := F) (fun t : Fin 4 × Fin 2 => SemLoc.dma (dsem 1 t.1 t.2)) N (fun t => turn t.1)
    (fun d => scatterOrder.map (scatterDue d)) c gatherOrder
  have h₃ := credit_list (F := F) (fun t : Fin 4 × Fin 2 => SemLoc.dma (dsem 3 t.1 t.2)) N (fun t => turn (neg4 t.1))
    (fun _ => []) c scatterOrder
  unfold credits
  have h₁' : (Pipeline.launchCred O₀ c : sProp 𝕄) ⊢ iprop(cred (tallyAt (barCell c) () 1) ∗ cred (tallyAt (barCell c) () 1) ∗ cred (tallyAt (barCell c) () 1)
      ∗ Pipeline.launchCred (fun d => dues (gatherOrder.map (gatherDue d) ++ scatterOrder.map (scatterDue d))) c) := h₁
  have h₂' : (Pipeline.launchCred (fun d => dues (gatherOrder.map (gatherDue d) ++ scatterOrder.map (scatterDue d))) c : sProp 𝕄)
      ⊢ iprop(cred (tallyAt (dcell 1 1 0 c) () N) ∗ cred (tallyAt (dcell 1 1 1 c) () N) ∗ cred (tallyAt (dcell 1 2 0 c) () N)
        ∗ cred (tallyAt (dcell 1 2 1 c) () N) ∗ cred (tallyAt (dcell 1 3 0 c) () N) ∗ cred (tallyAt (dcell 1 3 1 c) () N)
        ∗ Pipeline.launchCred (fun d => dues (scatterOrder.map (scatterDue d))) c) := h₂
  have h₃' : (Pipeline.launchCred (fun d => dues (scatterOrder.map (scatterDue d))) c : sProp 𝕄)
      ⊢ iprop(cred (tallyAt (dcell 3 1 0 c) () N) ∗ cred (tallyAt (dcell 3 1 1 c) () N) ∗ cred (tallyAt (dcell 3 3 0 c) () N)
        ∗ cred (tallyAt (dcell 3 3 1 c) () N) ∗ cred (tallyAt (dcell 3 2 0 c) () N) ∗ cred (tallyAt (dcell 3 2 1 c) () N)
        ∗ Pipeline.launchCred (fun _ => dues []) c) := h₃
  iintro H
  ihave H := h₁' $$ H
  icases H with ⟨B1, B2, B3, H⟩
  ihave H := h₂' $$ H
  icases H with ⟨A1, A2, A3, A4, A5, A6, H⟩
  ihave H := h₃' $$ H
  icases H with ⟨C1, C2, C5, C6, C3, C4, -⟩
  isplitl [B1 B2 B3]
  · iapply (three_units (F := F) (barCell c))
    isplitl [B1]; · iexact B1
    isplitl [B2] <;> iassumption
  unfold six
  isplitl [A1 A2 A3 A4 A5 A6]
  · isplitl [A1]; · iexact A1
    isplitl [A2]; · iexact A2
    isplitl [A3]; · iexact A3
    isplitl [A4]; · iexact A4
    isplitl [A5]; · iexact A5
    iexact A6
  isplitl [C1]; · iexact C1
  isplitl [C2]; · iexact C2
  isplitl [C3]; · iexact C3
  isplitl [C4]; · iexact C4
  isplitl [C5]; · iexact C5
  iexact C6

/-! ## The launch -/

variable (m : (ℓ : Loc nD τ sig) → Buf (Elt F) ℓ) (ρ : Dev nD → PrngReg)

/-- The launch element: the pipeline's at its staging cells, the rounds' at the barrier and transfer cells. -/
def u₀ : UU :=
  (initOf (Pipeline.cells (Pipeline.pin (pcfgs (F := F)) adm) cellOf_inj) (Pipeline.launchToks (Pipeline.pin (pcfgs (F := F)) adm) cellOf_inj),
    launchOf barCells dmaCells allTokens)

/-- The rounds' launch element, kept on device 0 until the cells are allocated. -/
def G (c : Dev nD) : sProp 𝕄 := if c = 0 then BI.own (ER (launchOf barCells dmaCells allTokens)) else iprop(emp)

theorem G_all : (bigSep Finset.univ (G (F := F)) : sProp 𝕄) = BI.own (ER (launchOf barCells dmaCells allTokens)) := by
  rw [bigSep_univ_at _ (0 : Dev nD), bigSep_congr (s := Finset.univ.erase (0 : Dev nD)) (Φ := G (F := F)) (Ψ := fun _ => (BI.emp : sProp 𝕄))
    fun c hc => if_neg (Finset.ne_of_mem_erase hc), BI.bigSep_emp_const]
  unfold G
  rw [if_pos rfl]
  exact BI.equiv_iff.mp sep_emp

theorem bar_counter (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The allocated invariants as every device's records. -/
theorem records_of (κ : GSem nD τ sig → ℕ) :
    iprop((bigSep (barCells ∪ dmaCells) fun g => cellInv ER (ringRd (opX m) (sent m)) (κ g) g) ∗ bigSep barCells fun g => reached ER g 0)
      ⊢ records (opX m) (sent m) κ := by
  unfold records
  have h : (bigSep (barCells ∪ dmaCells) fun g => (cellInv ER (ringRd (opX m) (sent m)) (κ g) g : sProp 𝕄))
      = iprop((bigSep barCells fun g => cellInv ER (ringRd (opX m) (sent m)) (κ g) g)
        ∗ bigSep dmaCells fun g => cellInv ER (ringRd (opX m) (sent m)) (κ g) g) := BI.bigSep_union cells_disjoint
  rw [h, bigSep_map, bigSep_map, bigSep_map]
  iintro ⟨⟨A, B⟩, C⟩
  isplitl [A]; · iexact A
  isplitl [C]; · iexact C
  iexact B

/-- What a device is dealt beside the records. -/
def dealt (c : Dev nD) : sProp 𝕄 := iprop(linear (F := F) c ∗ owes (c : Thread nD τ) (O₀ c) ∅ ∗ ∃ r, prngReg c r)

theorem rides_of (κ : GSem nD τ sig → ℕ) (c : Dev nD) : iprop(records (opX m) (sent m) κ ∗ dealt (F := F) c) ⊢ rides m 0 c := by
  unfold dealt rides Tk
  iintro ⟨#HR, Hl, HO, Hp⟩
  isplitl [Hp]; · iexact Hp
  isplitl [Hl]
  · iexists κ
    isplitr; · iexact HR
    iexact Hl
  iexists ∅; iexact HO

/-- From the counters, the dues, the credits and the launch element to what rides into the region. -/
theorem deal :
    iprop((bigSep Finset.univ fun c : Dev nD => iprop(unscopedSems0 c ∗ owes (c : Thread nD τ) (O₀ c) ∅ ∗ Pipeline.launchCred O₀ c
        ∗ prngReg c (ρ c) ∗ G c)) ∗ levAts L lv) ⊢ (|={Set.univ}=> bigSep Finset.univ (rides m 0) : sProp 𝕄) := by
  have hcore (c : Dev nD) : iprop(unscopedSems0 c ∗ owes (c : Thread nD τ) (O₀ c) ∅ ∗ Pipeline.launchCred O₀ c ∗ prngReg c (ρ c) ∗ G c)
      ⊢ (iprop((credits c ∗ owes (c : Thread nD τ) (O₀ c) ∅ ∗ ∃ r, prngReg c r) ∗ semVal (barCell c) 0 ∗ G c) : sProp 𝕄) := by
    rw [bar_counter]
    iintro ⟨Hs, HO, Hc, Hp, HG⟩
    isplitl [HO Hc Hp]
    · isplitl [Hc]; · iapply (credits_of (F := F) c); iexact Hc
      isplitl [HO]; · iexact HO
      iexists (ρ c); iexact Hp
    isplitl [Hs] <;> iassumption
  have hall : (bigSep Finset.univ fun c : Dev nD => iprop(unscopedSems0 c ∗ owes (c : Thread nD τ) (O₀ c) ∅ ∗ Pipeline.launchCred O₀ c
        ∗ prngReg c (ρ c) ∗ G c))
      ⊢ (bigSep Finset.univ fun c : Dev nD => iprop((credits c ∗ owes (c : Thread nD τ) (O₀ c) ∅ ∗ ∃ r, prngReg c r) ∗ semVal (barCell c) 0 ∗ G c) : sProp 𝕄) :=
    bigSep_mono fun c _ => hcore c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄))
      ⊢ bigSep Finset.univ (fun c : Dev nD => bigSep Finset.univ fun k : CellIx => (openTok ER (dcell k.1 k.2.1 k.2.2 c) : sProp 𝕄)) :=
    Entails.of_eq (by rw [bigSep_map, bigSep_univ_prod]; rfl)
  have htok : bigSep allTokens (fun x => (dutyTok ER x.1 x.2.1 x.2.2 : sProp 𝕄)) ⊢ bigSep Finset.univ (fun c : Dev nD => tokens (F := F) c) := by
    rw [minted_eq]
    exact (bigSep_mono fun c _ => unsent_of c).trans tokens_around
  have hG : bigSep Finset.univ (G (F := F)) ⊢ BI.own (ER (launchOf barCells dmaCells allTokens)) := Entails.of_eq G_all
  iintro ⟨H, -⟩
  ihave H := hall $$ H
  ihave H := Smoke.bigSep_unpair $$ H
  icases H with ⟨HB, H⟩
  ihave H := Smoke.bigSep_unpair $$ H
  icases H with ⟨Hv, HG⟩
  ihave HB := Smoke.bigSep_unpair $$ HB
  icases HB with ⟨Hcr, Hrest⟩
  imod (Rounds.fund_launch ER (ringRd (opX m) (sent m)) cells_disjoint (fun g _ h => h) allTokens) $$ [Hv HG] with ⟨%κ, -, #Hinv, #Hr, Hat, Hopen, Htok⟩
  · isplitl [Hv]
    · iapply hv; iexact Hv
    · iapply hG; iexact HG
  imodintro
  iapply (bigSep_with_persistent (R := records (opX m) (sent m) κ) (Φ := fun c : Dev nD => dealt (F := F) c) fun c _ => rides_of m κ c)
  isplitr
  · iapply (records_of m κ)
    isplitr; · iexact Hinv
    iexact Hr
  unfold dealt linear
  iapply Smoke.bigSep_pair
  isplitr [Hrest]
  · iapply Smoke.bigSep_pair; isplitl [Hat]; · iapply hat; iexact Hat
    iapply Smoke.bigSep_pair; isplitl [Hopen]; · iapply hopen; iexact Hopen
    iapply Smoke.bigSep_pair; isplitl [Htok]; · iapply htok; iexact Htok
    iexact Hcr
  · iexact Hrest

/-! ## The run -/

theorem unscoped_bar : ∀ sm : SemLoc sig, sm.isScoped .tc = false → sm = .reg barS := by decide

/-- Every unscoped buffer is one of those the thread holds throughout. -/
theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

set_option backward.isDefEq.respectTransparency.types false in
/-- Every weakly fair execution on the four devices terminates, with the arguments as launched, each device's result in its
    array, and every semaphore counter at zero. -/
theorem run_main : θ_run defs (onTc (τ := τ) (main (F := F))) ⟨m, fun _ => 0, ρ⟩ (fun r =>
    (∀ c : Dev nD, r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) := by
  refine Pipeline.θ_run_regions_kit_dev_sems (pcfgs (F := F)) adm (pdats m) () cellOf_inj EP defs₀ 𝒱₀ L lv m ρ main
    (segs m 𝒱₀ L lv (rides m) () (pdats m) (region m))
    (fun c Q => by
      rewrite [main_chain c, Pipeline.Seg.run_eq_chain,
        show (segs m 𝒱₀ L lv (rides m) () (pdats m) (region m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne (G (F := F)) (u₀ (F := F)) ?_
    (T₀ := fun c => iprop(StableHlo.held (c : Thread nD τ) (Pipeline.ucRefs τ sig) (V0 m c) ∗ rides m 0 c))
    (Tₙ := fun c => iprop(StableHlo.held (c : Thread nD τ) (Pipeline.ucRefs τ sig) (V2 m (outs m) c) ∗ semVal (barCell c) 0))
    (hch := fun c => ⟨.rfl, region_pre m c, (region_post m c).trans ?_⟩)
    (hinit := ?_)
    (QY := fun c s => (∀ b ∈ Pipeline.ucRefs τ sig, s.mem ((c : Thread nD τ).1, b) = V2 m (outs m) c b) ∧ s.sem (barCell c) = 0)
    (hfin := fun c s' => ?_)
    (hQ := fun s h hs => ⟨fun c => ?_, ?_⟩)
  · unfold u₀
    iintro Hu
    ihave H := (ownU_pair _ _) $$ Hu
    icases H with ⟨HP, HX⟩
    imodintro
    isplitl [HP]; · iexact HP
    rw [G_all]; iexact HX
  · show iprop(StableHlo.held (c : Thread nD τ) (Pipeline.ucRefs τ sig) (V2 m (outs m) c) ∗ rides m 1 c)
      ⊢ iprop((StableHlo.held (c : Thread nD τ) (Pipeline.ucRefs τ sig) (V2 m (outs m) c) ∗ semVal (barCell c) 0)
        ∗ ∃ W, owes (c : Thread nD τ) (0 : CellTallies nD τ sig Unit) W)
    unfold rides Yk
    iintro ⟨Hh, -, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H := hsplit $$ H
    icases H with ⟨Hh, Hr⟩
    imod (deal m ρ) $$ [Hr Hla] with HE
    · isplitl [Hr]; · iexact Hr
      iexact Hla
    imodintro
    rw [bigSep_sep']
    isplitl [Hh]; · iexact Hh
    iexact HE
  · unfold StableHlo.held
    iintro ⟨⟨Hh, Hb0⟩, HSI⟩
    icombine HSI Hb0 gives %hb
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      exact ⟨h, by simpa using hb⟩
    · iexact HSI
  · obtain ⟨h, -⟩ := h c
    exact ⟨(h _ (mem_uc main_v17 (by decide))).trans ((V2_result m c).trans (outs_result m c)),
      (h _ (mem_uc main_arg0 (by decide))).trans (V2_main_arg0 m (outs m) c),
      (h _ (mem_uc main_arg1 (by decide))).trans (V2_main_arg1 m (outs m) c),
      (h _ (mem_uc main_arg2 (by decide))).trans (V2_main_arg2 m (outs m) c),
      (h _ (mem_uc main_arg3 (by decide))).trans (V2_main_arg3 m (outs m) c),
      (h _ (mem_uc main_arg4 (by decide))).trans (V2_main_arg4 m (outs m) c)⟩
  · exact sem_eq_zero hs fun c sm hsm => by
      obtain rfl := unscoped_bar sm hsm
      exact (h c).2

end Cert.KernelIdeal.Proof

end
-- ==== Proof.KerAt.lean ====
/-
  What the kernel's device computes, at an index: the queries, the exponentials, a head, the product with the output
  weights, and the sum that makes the result.
-/
module

public import proofs.«01_k».proof.Proof.Rows
public import Idealize.ShloMosaic.Lib.Pointwise

@[expose] public section

set_option maxRecDepth 16384

noncomputable section

namespace Cert.KernelIdeal.Proof

open Cert.KernelIdeal Cert.KernelIdeal.Gen
open Idealize.ShloMosaic

/-- The queries. -/
theorem qOf_at (xb : FVec Ideal S128x512 .bf16) (wq : FVec Ideal S512x512 .bf16) (i : Fin 128) (n : Fin 512) :
    qOf xb wq (ix2 i n) = (∑ k : Fin 512, xb (ix2 i k) * wq (ix2 k n)) * Ideal.ofBits .f32 0x3E000000#32 := by
  pointwise [qOf]

/-- The exponentials of one head's scores. -/
theorem expOf_at (h : Fin 8) (q : FVec Ideal S128x512 .bf16) (k : FVec Ideal S64x128 .bf16) (i j : Fin 128) :
    expOf h q k (ix2 i j)
      = Ideal.exp (∑ d : Fin 64, q (ix2 i ⟨64 * h.val + d.val, by have := h.isLt; have := d.isLt; omega⟩) * k (ix2 d j)) := by
  pointwise [expOf]

/-- One head. -/
theorem headO_at (h : Fin 8) (q : FVec Ideal S128x512 .bf16) (k v : FVec Ideal S64x128 .bf16) (i : Fin 128) (d : Fin 64) :
    headO h q k v (ix2 i d) = Ideal.div (∑ j, expOf h q k (ix2 i j) * v (ix2 d j)) (∑ j, expOf h q k (ix2 i j)) := by
  pointwise [headO]

/-- The heads side by side: column `n` is column `n % 64` of head `n / 64`. -/
theorem joined_at (p : Fin 8 → FVec Ideal S128x64 .f32) (i : Fin 128) (n : Fin 512) :
    joined p (ix2 i n) = p ⟨n.val / 64, Nat.div_lt_of_lt_mul n.isLt⟩ (ix2 i ⟨n.val % 64, Nat.mod_lt _ (by decide)⟩) := by
  unfold joined
  refine congrArg (p _) (funext fun a => ?_)
  match a with
  | 0 => rfl
  | 1 => rfl

/-- The product with the output weights. -/
theorem yOf_at (q : FVec Ideal S128x512 .bf16) (wo : FVec Ideal S512x512 .bf16) (k v : Fin 8 → FVec Ideal S64x128 .bf16) (i : Fin 128)
    (n : Fin 512) : yOf q wo k v (ix2 i n)
      = ∑ e : Fin 512, joined (fun h => headO h q (k h) (v h)) (ix2 i e) * wo (ix2 e n) := by
  pointwise [yOf]

/-- Head `h` of batch `b` of the keys or values. -/
theorem blk_at (f : S2x8x64x128.Idx → Elt Ideal .bf16) (b : Fin 2) (h : Fin 8) (d : Fin 64) (j : Fin 128) :
    blk f b h (ix2 d j) = f (ix4 b h d j) := by
  have e : blk f b h (ix2 d j) = f ((headR b h).emb (ix4 0 0 d j)) := by pointwise [blk]
  rw [e]
  refine congrArg f (funext fun a => Fin.ext ?_)
  rw [Rect.emb_apply]
  match a with
  | 0 => show b.val + 1 * 0 = b.val; omega
  | 1 => show h.val + 1 * 0 = h.val; omega
  | 2 => show 0 + 1 * d.val = d.val; omega
  | 3 => show 0 + 1 * j.val = j.val; omega

/-- Batch `b` of a block. -/
theorem rows_at (f : S2x128x512.Idx → Elt Ideal .bf16) (b : Fin 2) (i : Fin 128) (k : Fin 512) :
    rows f b (ix2 i k) = f (ix3 b i k) := by
  refine congrArg f (funext fun a => ?_)
  match a with
  | 0 => rfl
  | 1 => rfl
  | 2 => rfl

variable (X : Dev nD → S2x128x512.Idx → Elt Ideal .bf16) (WQ WO : Dev nD → S512x512.Idx → Elt Ideal .bf16)
variable (KB VB : Dev nD → S2x8x64x128.Idx → Elt Ideal .bf16)

/-- What comes back from the device `d` places on is what it computed for this device. -/
theorem backOf_at (c : Dev nD) (d : Fin 4) (b : Fin 2) (i : Fin 128) (n : Fin 512) :
    backOf X WQ WO KB VB c d b (ix2 i n) = partialOf X WQ WO KB VB (peer c d.val) c b (ix2 i n) := by
  have e : backOf X WQ WO KB VB c d b (ix2 i n)
      = partialOf X WQ WO KB VB (peer c d.val) (peer (peer c d.val) (neg4 d).val) b (ix2 i n) := by
    unfold backOf YS
    refine congrArg (partialOf X WQ WO KB VB (peer c d.val) (peer (peer c d.val) (neg4 d).val) b) (funext fun a => ?_)
    match a with
    | 0 => rfl
    | 1 => rfl
  rw [e, peer_neg4]

/-- No places on from a device is that device. -/
theorem peer_zero (c : Dev nD) : peer c 0 = c := by revert c; decide

/-- The devices, counted from one of them on. -/
def countFrom (c : Dev nD) : Fin 4 ≃ Dev nD where
  toFun d := peer c d.val
  invFun e := peer e (4 - c.val)
  left_inv d := by revert c d; decide
  right_inv e := by revert c e; decide

/-- The result: what the four devices computed for this one's block, added. -/
theorem outOf_at (c : Dev nD) (b : Fin 2) (i : Fin 128) (n : Fin 512) :
    outOf X WQ WO KB VB c (ix3 b i n) = ∑ e : Dev nD, partialOf X WQ WO KB VB e c b (ix2 i n) := by
  have e : outOf X WQ WO KB VB c (ix3 b i n) = sumOf X WQ WO KB VB c b (ix2 i n) := by
    unfold outOf
    refine congrArg (sumOf X WQ WO KB VB c b) (funext fun a => ?_)
    match a with
    | 0 => rfl
    | 1 => rfl
  have s : sumOf X WQ WO KB VB c b (ix2 i n)
      = partialOf X WQ WO KB VB c c b (ix2 i n) + backOf X WQ WO KB VB c 1 b (ix2 i n) + backOf X WQ WO KB VB c 3 b (ix2 i n)
        + backOf X WQ WO KB VB c 2 b (ix2 i n) := rfl
  rw [e, s, backOf_at, backOf_at, backOf_at]
  generalize hp : (fun e => partialOf X WQ WO KB VB e c b (ix2 i n)) = p
  have hp' : ∀ e, partialOf X WQ WO KB VB e c b (ix2 i n) = p e := fun e => congrFun hp e
  simp only [hp']
  rw [← (countFrom c).sum_comp p, Fin.sum_univ_four]
  show p c + p (peer c 1) + p (peer c 3) + p (peer c 2) = p (peer c 0) + p (peer c 1) + p (peer c 2) + p (peer c 3)
  have h0 : peer c 0 = c := peer_zero c
  rw [h0, add_right_comm]

end Cert.KernelIdeal.Proof

end
-- ==== Proof.Softmax.lean ====
/-
  The extended reals of the attention: sums and products of finite numbers are finite; a factor that is a nonnegative
  real comes out of a sum; and the quotient of the weighted sum of exponentials by their sum is the same whether or not
  the greatest score is subtracted first.
-/
module

public import Idealize.ShloMosaic.PureOps.Ideal.Laws
public import Idealize.ShloMosaic.Lib.IdealHost

@[expose] public section

noncomputable section

namespace Cert.Softmax

open Idealize.ShloMosaic
open scoped BigOperators

/-- Neither infinity. -/
def IsFin (a : EReal) : Prop := a ≠ ⊤ ∧ a ≠ ⊥

/-- A real is finite. -/
theorem fin_coe (r : ℝ) : IsFin (r : EReal) := ⟨EReal.coe_ne_top r, EReal.coe_ne_bot r⟩

/-- A number that is neither infinity is a real. -/
theorem IsFin.real {a : EReal} (h : IsFin a) : ∃ r : ℝ, a = r := ⟨a.toReal, (EReal.coe_toReal h.1 h.2).symm⟩

/-- A product of finite numbers is finite. -/
theorem IsFin.mul {a b : EReal} (ha : IsFin a) (hb : IsFin b) : IsFin (a * b) := by
  obtain ⟨r, rfl⟩ := ha.real; obtain ⟨s, rfl⟩ := hb.real
  rw [← EReal.coe_mul]; exact fin_coe _

/-- A sum of two finite numbers is finite. -/
theorem IsFin.add {a b : EReal} (ha : IsFin a) (hb : IsFin b) : IsFin (a + b) := by
  obtain ⟨r, rfl⟩ := ha.real; obtain ⟨s, rfl⟩ := hb.real
  rw [← EReal.coe_add]; exact fin_coe _

/-- A sum of finite numbers is finite. -/
theorem fin_sum {ι : Type*} (s : Finset ι) (f : ι → EReal) (h : ∀ i, IsFin (f i)) : IsFin (∑ i ∈ s, f i) := by
  classical
  induction s using Finset.induction_on with
  | empty => rw [Finset.sum_empty]; exact fin_coe 0
  | insert a s ha ih => rw [Finset.sum_insert ha]; exact (h a).add ih

/-- A nonnegative real factor comes out of a sum, whatever the terms. -/
theorem sum_mul_real {ι : Type*} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- The greatest of finitely many finite numbers, at least one, is finite. -/
theorem fin_max {n : ℕ} (s : Fin (n + 1) → EReal) (hs : ∀ j, IsFin (s j)) :
    IsFin ((Finset.univ : Finset (Fin (n + 1))).fold max ⊥ s) := by
  constructor
  · refine ne_of_lt ((Finset.fold_max_lt _).mpr ⟨bot_lt_top, fun j _ => lt_top_iff_ne_top.mpr (hs j).1⟩)
  · refine ne_of_gt ((Finset.lt_fold_max _).mpr (Or.inr ⟨0, Finset.mem_univ _, bot_lt_iff_ne_bot.mpr (hs 0).2⟩))

/-- A positive real factor above and below leaves a quotient by a nonzero real as it was. -/
theorem div_scale (a : EReal) (l c : ℝ) (hl : l ≠ 0) (hc : c ≠ 0) :
    Ideal.div (a * c) ((l : EReal) * c) = Ideal.div a l := by
  rw [← EReal.coe_mul, Ideal.div_coe (mul_ne_zero hl hc), Ideal.div_coe hl, mul_assoc, ← EReal.coe_mul]
  congr 2
  field_simp

/-- One online step from nothing (no weight, no sum, the greatest score so far `⊥`) over finite scores gives the plain
    quotient: weighted exponentials over exponentials. -/
theorem online_eq_plain {n : ℕ} (s v : Fin (n + 1) → EReal) (hs : ∀ j, IsFin (s j)) (M : EReal) (hM : IsFin M) :
    Ideal.div (0 * Ideal.exp (⊥ - M) + ∑ j, v j * Ideal.exp (s j - M))
        (0 * Ideal.exp (⊥ - M) + (0 + ∑ j, Ideal.exp (s j - M)))
      = Ideal.div (∑ j, Ideal.exp (s j) * v j) (∑ j, Ideal.exp (s j)) := by
  obtain ⟨r, rfl⟩ := hM.real
  choose t ht using fun j => (hs j).real
  have e : ∀ j, Ideal.exp (s j - r) = Ideal.exp (s j) * (Real.exp (-r) : ℝ) := fun j => by
    rw [ht j, ← EReal.coe_sub, Ideal.exp_coe, Ideal.exp_coe, ← EReal.coe_mul, ← Real.exp_add, sub_eq_add_neg]
  have l : ∑ j, Ideal.exp (s j) = ((∑ j, Real.exp (t j) : ℝ) : EReal) := by
    have : ∀ S : Finset (Fin (n + 1)), ∑ j ∈ S, Ideal.exp (s j) = ((∑ j ∈ S, Real.exp (t j) : ℝ) : EReal) := fun S => by
      classical
      induction S using Finset.induction_on with
      | empty => simp
      | insert a S ha ih => rw [Finset.sum_insert ha, Finset.sum_insert ha, ih, ht a, Ideal.exp_coe, ← EReal.coe_add]
    exact this _
  have hl : (∑ j, Real.exp (t j)) ≠ 0 :=
    ne_of_gt (Finset.sum_pos (fun j _ => Real.exp_pos _) ⟨0, Finset.mem_univ _⟩)
  simp only [zero_mul, zero_add, e]
  have n1 : ∑ j, v j * (Ideal.exp (s j) * (Real.exp (-r) : ℝ)) = (∑ j, Ideal.exp (s j) * v j) * (Real.exp (-r) : ℝ) := by
    rw [← sum_mul_real _ _ _ (Real.exp_pos _).le]
    exact Finset.sum_congr rfl fun j _ => by rw [← mul_assoc, mul_comm (v j)]
  rw [n1, sum_mul_real _ _ _ (Real.exp_pos _).le, l]
  exact div_scale _ _ _ hl (Real.exp_ne_zero _)

end Cert.Softmax

end
-- ==== Proof.RefAt.lean ====
/-
  The reference as the textbook reads: its one composed term cut into the queries, the scores, the greatest score of a row,
  the weights, the heads and the last product, and each of these at an index.
-/
module

public import proofs.«01_k».proof.Proof.Softmax
public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Plain
open Cert.ReferenceIdeal Cert.ReferenceIdeal.Gen
open Idealize.ShloMosaic

/-- Every query, 32 heads of 64. -/
def queries (x : FVec Ideal S2x512x512 .bf16) (wq : FVec Ideal S512x2048 .bf16) : FVec Ideal S2x512x32x64 .bf16 :=
  shapeCast _ (truncf .bf16 (Host.dotGeneral (F := Ideal) dot_S2x512x512_S512x2048_S2x512x2048_2_0_01_1_n_n none x wq) bitsLt_bf16_f32)
    shapeCasts_S2x512x2048_S2x512x32x64

/-- The scores. -/
def scores (q : FVec Ideal S2x512x32x64 .bf16) (k : FVec Ideal S2x128x32x64 .bf16) : FVec Ideal S2x32x512x128 .f32 :=
  mulf (extf .f32 (truncf .bf16 (Host.dotGeneral (F := Ideal) dot_S2x512x32x64_S2x128x32x64_S2x32x512x128_3_3_1_1_02_02 none q k)
    bitsLt_bf16_f32) bitsLt_bf16_f32) (broadcastInDim S2x32x512x128 ![] bcast_S_S2x32x512x128 (constant S_ .f32 0x3E000000#32))

/-- Minus infinity, at every row of every head. -/
def lowest : FVec Ideal S2x32x512x1 .f32 :=
  broadcastInDim S2x32x512x1 ![] bcast_S_S2x32x512x1 (constant S_ .f32 0xFF800000#32)

/-- The greatest score of each row. -/
def greatest (s : FVec Ideal S2x32x512x128 .f32) : FVec Ideal S2x32x512x1 .f32 :=
  maximumf lowest (broadcastInDim S2x32x512x1 ![0, 1, 2] bcast_S2x32x512_S2x32x512x1_0_1_2
    (Host.reduce FloatOps.maximumf s (constant S_ .f32 0xFF800000#32) reducesTo_S2x32x512x128_S2x32x512_d3 h_S_))

/-- The exponentials of the scores less the greatest. -/
def weights (s : FVec Ideal S2x32x512x128 .f32) : FVec Ideal S2x32x512x128 .f32 :=
  Host.exp (subf s (broadcastInDim S2x32x512x128 ![0, 1, 2, 3] bcast_S2x32x512x1_S2x32x512x128_0_1_2_3 (greatest s)))

/-- The factor by which the step scales what came before it. -/
def factor (s : FVec Ideal S2x32x512x128 .f32) : FVec Ideal S2x32x512x1 .f32 := Host.exp (subf lowest (greatest s))

/-- The weighted values. -/
def above (s : FVec Ideal S2x32x512x128 .f32) (v : FVec Ideal S2x128x32x64 .bf16) : FVec Ideal S2x512x32x64 .f32 :=
  addf (mulf (broadcastInDim S2x512x32x64 ![] bcast_S_S2x512x32x64 (constant S_ .f32 0x00000000#32))
      (broadcastInDim S2x512x32x64 ![0, 1, 2, 3] bcast_S2x512x32x1_S2x512x32x64_0_1_2_3
        (transpose S2x512x32x1 [0, 2, 1, 3] (factor s) transposes_S2x32x512x1_S2x512x32x1_0_2_1_3)))
    (transpose S2x512x32x64 [0, 3, 1, 2] (Host.dotGeneral (F := Ideal) dot_S2x128x32x64_S2x32x512x128_S2x32x64x512_1_3_3_2_02_01 none
      (extf .f32 v bitsLt_bf16_f32) (weights s)) transposes_S2x32x64x512_S2x512x32x64_0_3_1_2)

/-- The sum of the weights. -/
def below (s : FVec Ideal S2x32x512x128 .f32) : FVec Ideal S2x32x512x1 .f32 :=
  addf (mulf (broadcastInDim S2x32x512x1 ![] bcast_S_S2x32x512x1 (constant S_ .f32 0x00000000#32)) (factor s))
    (broadcastInDim S2x32x512x1 ![0, 1, 2] bcast_S2x32x512_S2x32x512x1_0_1_2
      (Host.reduceAdd (weights s) (constant S_ .f32 0x00000000#32) reducesTo_S2x32x512x128_S2x32x512_d3 h_S_))

/-- Every head's result. -/
def heads (s : FVec Ideal S2x32x512x128 .f32) (v : FVec Ideal S2x128x32x64 .bf16) : FVec Ideal S2x512x32x64 .f32 :=
  Host.divf (above s v) (broadcastInDim S2x512x32x64 ![0, 1, 2, 3] bcast_S2x512x32x1_S2x512x32x64_0_1_2_3
    (transpose S2x512x32x1 [0, 2, 1, 3] (below s) transposes_S2x32x512x1_S2x512x32x1_0_2_1_3))

/-- The heads side by side times the output weights. -/
def product (o : FVec Ideal S2x512x32x64 .f32) (wo : FVec Ideal S2048x512 .bf16) : FVec Ideal S2x512x512 .bf16 :=
  truncf .bf16 (Host.dotGeneral (F := Ideal) dot_S2x512x2048_S2048x512_S2x512x512_2_0_01_1_n_n none
    (shapeCast _ o shapeCasts_S2x512x32x64_S2x512x2048) (extf .f32 wo bitsLt_bf16_f32)) bitsLt_bf16_f32

/-- The reference's result is these, one after the other. -/
theorem res_eq (m : (ℓ : Loc nD τ sig) → Buf (Elt Ideal) ℓ) (c : Dev nD) :
    Value.res_main_v36 m c = product (heads (scores (queries (m ((c.tc : Thread nD τ).loc main_arg0)) (m ((c.tc : Thread nD τ).loc main_arg1)))
      (m ((c.tc : Thread nD τ).loc main_arg2))) (m ((c.tc : Thread nD τ).loc main_arg3))) (m ((c.tc : Thread nD τ).loc main_arg4)) := by
  unfold Value.res_main_v36
  rfl

/-! ## At an index -/

/-- An eighth, as the program's word. -/
abbrev eighth : EReal := Ideal.ofBits .f32 0x3E000000#32

/-- A query: a row of `x` times a column of the query weights. -/
theorem queries_at (x : FVec Ideal S2x512x512 .bf16) (wq : FVec Ideal S512x2048 .bf16) (b : Fin 2) (i : Fin 512) (h : Fin 32) (d : Fin 64) :
    queries x wq (ix4 b i h d)
      = ∑ k : Fin 512, x (ix3 b i k) * wq (ix2 k ⟨h.val * 64 + d.val, by have := h.isLt; have := d.isLt; omega⟩) := by
  pointwise [queries]

/-- A score: a query times a key, an eighth of it. -/
theorem scores_at (q : FVec Ideal S2x512x32x64 .bf16) (k : FVec Ideal S2x128x32x64 .bf16) (b : Fin 2) (h : Fin 32) (i : Fin 512)
    (j : Fin 128) : scores q k (ix4 b h i j) = (∑ d : Fin 64, q (ix4 b i h d) * k (ix4 b j h d)) * eighth := by
  pointwise [scores]

/-- The word of minus infinity. -/
theorem lowest_word : Ideal.ofBits .f32 0xFF800000#32 = ⊥ := by
  simp [Ideal.ofBits, Ideal.ieee]

/-- A maximum of finite numbers taken along the last of four axes is finite. -/
theorem reduce_last_fin {n0 n1 n2 n : ℕ} {t u : Shape} (v : FVec Ideal ⟨4, ![n0, n1, n2, n + 1]⟩ .f32) (init : FVec Ideal u .f32)
    (h : Shape.ReducesTo ⟨4, ![n0, n1, n2, n + 1]⟩ [3] t) (hu : 0 < u.numel) (j : t.Idx) (hi : init (Shape.Idx.first hu) = ⊥)
    (hv : ∀ i, Softmax.IsFin (v i)) :
    Softmax.IsFin (max ⊥ (Host.reduce (FloatOps.maximumf (F := Ideal) (φ := .f32)) v init h hu j)) := by
  have e := (Host.reduce_eq_fold (FloatOps.maximumf (F := Ideal) (φ := .f32)) v init h hu j).trans (h.fold_fiber_r4_a3 j _ _ v)
  rw [hi] at e
  rw [e, max_eq_right bot_le]
  exact Softmax.fin_max _ fun j => hv _

/-- The greatest score of a row is the larger of minus infinity and the row's own maximum. -/
theorem greatest_at (f : FVec Ideal S2x32x512 .f32) (b : Fin 2) (h : Fin 32) (i : Fin 512) :
    maximumf lowest (broadcastInDim S2x32x512x1 ![0, 1, 2] bcast_S2x32x512_S2x32x512x1_0_1_2 f) (ix4 b h i 0)
      = max ⊥ (f (ix3 b h i)) := by
  rw [← lowest_word]
  pointwise [lowest]

/-- A row's own maximum, where the scores are finite. -/
theorem rowMax_fin (s : FVec Ideal S2x32x512x128 .f32) (hs : ∀ i, Softmax.IsFin (s i)) (j : S2x32x512.Idx) :
    Softmax.IsFin (max ⊥ (Host.reduce (FloatOps.maximumf (F := Ideal) (φ := .f32)) s (constant (F := Ideal) S_ .f32 0xFF800000#32)
      reducesTo_S2x32x512x128_S2x32x512_d3 h_S_ j)) :=
  reduce_last_fin s _ reducesTo_S2x32x512x128_S2x32x512_d3 h_S_ j lowest_word hs

/-- What holds of the larger of minus infinity and a row's maximum holds of the greatest score. -/
theorem greatest_of (P : EReal → Prop) (s : FVec Ideal S2x32x512x128 .f32) (i : S2x32x512x1.Idx)
    (hp : ∀ f : FVec Ideal S2x32x512 .f32, f = Host.reduce (FloatOps.maximumf (F := Ideal) (φ := .f32)) s
        (constant (F := Ideal) S_ .f32 0xFF800000#32) reducesTo_S2x32x512x128_S2x32x512_d3 h_S_ →
      P (maximumf lowest (broadcastInDim S2x32x512x1 ![0, 1, 2] bcast_S2x32x512_S2x32x512x1_0_1_2 f) i)) : P (greatest s i) :=
  hp _ rfl

/-- The greatest of finite scores is finite. -/
theorem greatest_fin (s : FVec Ideal S2x32x512x128 .f32) (hs : ∀ i, Softmax.IsFin (s i)) (b : Fin 2) (h : Fin 32) (i : Fin 512) :
    Softmax.IsFin (greatest s (ix4 b h i 0)) := by
  refine greatest_of Softmax.IsFin s (ix4 b h i 0) fun f hf => ?_
  rw [greatest_at, hf]
  exact rowMax_fin s hs (ix3 b h i)

/-- A weight: the exponential of a score less its row's greatest. -/
theorem weights_at (s : FVec Ideal S2x32x512x128 .f32) (b : Fin 2) (h : Fin 32) (i : Fin 512) (j : Fin 128) :
    weights s (ix4 b h i j) = Ideal.exp (s (ix4 b h i j) - greatest s (ix4 b h i 0)) := by
  pointwise [weights]

/-- A head: the one step's sum of weighted values over its sum of weights. -/
theorem heads_at (s : FVec Ideal S2x32x512x128 .f32) (v : FVec Ideal S2x128x32x64 .bf16) (b : Fin 2) (h : Fin 32) (i : Fin 512)
    (d : Fin 64) : heads s v (ix4 b i h d)
      = Ideal.div (0 * Ideal.exp (⊥ - greatest s (ix4 b h i 0)) + ∑ j, v (ix4 b j h d) * weights s (ix4 b h i j))
          (0 * Ideal.exp (⊥ - greatest s (ix4 b h i 0)) + (0 + ∑ j, weights s (ix4 b h i j))) := by
  rw [zero_add (∑ j, weights s (ix4 b h i j)), ← lowest_word]
  pointwise [heads, above, below, factor, lowest]

/-- The last product: a row of the heads, laid side by side, times a column of the output weights. -/
theorem product_at (o : FVec Ideal S2x512x32x64 .f32) (wo : FVec Ideal S2048x512 .bf16) (b : Fin 2) (i n : Fin 512) :
    product o wo (ix3 b i n)
      = ∑ k : Fin 2048, o (ix4 b i ⟨k.val / 64, by have := k.isLt; omega⟩ ⟨k.val % 64, Nat.mod_lt _ (by decide)⟩) * wo (ix2 k n) := by
  pointwise [product]

/-- A head of the reference, over finite scores: the plain quotient. -/
theorem heads_plain (s : FVec Ideal S2x32x512x128 .f32) (hs : ∀ i, Softmax.IsFin (s i)) (v : FVec Ideal S2x128x32x64 .bf16)
    (b : Fin 2) (h : Fin 32) (i : Fin 512) (d : Fin 64) : heads s v (ix4 b i h d)
      = Ideal.div (∑ j, Ideal.exp (s (ix4 b h i j)) * v (ix4 b j h d)) (∑ j, Ideal.exp (s (ix4 b h i j))) := by
  rw [heads_at]
  simp only [weights_at]
  exact Softmax.online_eq_plain (n := 127) (fun j => s (ix4 b h i j)) (fun j => v (ix4 b j h d)) (fun j => hs _) _
    (greatest_fin s hs b h i)

end Cert.ReferenceIdeal.Plain

end
-- ==== Proof.Agree.lean ====
/-
  The two programs' results agree: what device `e` computes for the rows of device `c` is the reference's heads
  `8e … 8e+7` at those rows times their rows of the output weights, and the four devices' products add up to the
  reference's one product.
-/
module

public import proofs.«01_k».proof.Proof.KerAt
public import proofs.«01_k».proof.Proof.RefAt

@[expose] public section

set_option maxRecDepth 16384

noncomputable section

namespace Cert.Agree

open Idealize.ShloMosaic
open Cert.KernelIdeal (nD)
open Cert.KernelIdeal.Proof
open Cert.ReferenceIdeal.Plain
open Softmax (IsFin)

/-! ## Places in the whole tensors -/

/-- Row `i` of device `c`. -/
def rowOf (c : Dev nD) (i : Fin 128) : Fin 512 :=
  ⟨128 * c.val + i.val, by have := c.isLt; have : nD = 4 := rfl; have := i.isLt; omega⟩

/-- Column `n` of device `c`, among all heads' columns. -/
def colOf (c : Dev nD) (n : Fin 512) : Fin 2048 :=
  ⟨512 * c.val + n.val, by have := c.isLt; have : nD = 4 := rfl; have := n.isLt; omega⟩

/-- Head `h` of device `c`. -/
def headOf (c : Dev nD) (h : Fin 8) : Fin 32 :=
  ⟨8 * c.val + h.val, by have := c.isLt; have : nD = 4 := rfl; have := h.isLt; omega⟩

/-- How the devices' operands are cut from the whole tensors. -/
structure Cut (X : Dev nD → FVec Ideal KernelIdeal.S2x128x512 .bf16) (WQ WO : Dev nD → FVec Ideal KernelIdeal.S512x512 .bf16)
    (KB VB : Dev nD → FVec Ideal KernelIdeal.S2x8x64x128 .bf16)
    (x : FVec Ideal ReferenceIdeal.S2x512x512 .bf16) (wq : FVec Ideal ReferenceIdeal.S512x2048 .bf16)
    (k v : FVec Ideal ReferenceIdeal.S2x128x32x64 .bf16) (wo : FVec Ideal ReferenceIdeal.S2048x512 .bf16) : Prop where
  hx : ∀ (c : Dev nD) (b : Fin 2) (i : Fin 128) (n : Fin 512), X c (ix3 b i n) = x (ix3 b (rowOf c i) n)
  hwq : ∀ (c : Dev nD) (i n : Fin 512), WQ c (ix2 i n) = wq (ix2 i (colOf c n))
  hwo : ∀ (c : Dev nD) (i n : Fin 512), WO c (ix2 i n) = wo (ix2 (colOf c i) n)
  hk : ∀ (c : Dev nD) (b : Fin 2) (h : Fin 8) (d : Fin 64) (j : Fin 128), KB c (ix4 b h d j) = k (ix4 b j (headOf c h) d)
  hv : ∀ (c : Dev nD) (b : Fin 2) (h : Fin 8) (d : Fin 64) (j : Fin 128), VB c (ix4 b h d j) = v (ix4 b j (headOf c h) d)

/-! ## Finiteness -/

/-- The word of an eighth is an eighth. -/
theorem eighth_eq : eighth = ((1 / 8 : ℝ) : EReal) := by
  simp [eighth, Ideal.ofBits, Ideal.ieee, -EReal.coe_mul]; norm_num

/-- An index of four axes is its four coordinates. -/
theorem eta4 {n0 n1 n2 n3 : ℕ} (i : Shape.Idx ⟨4, ![n0, n1, n2, n3]⟩) : ∃ a b c d, i = ix4 a b c d :=
  ⟨i 0, i 1, i 2, i 3, funext fun a => by match a with | 0 => rfl | 1 => rfl | 2 => rfl | 3 => rfl⟩

/-- Finite inputs give finite scores. -/
theorem scores_fin (x : FVec Ideal ReferenceIdeal.S2x512x512 .bf16) (wq : FVec Ideal ReferenceIdeal.S512x2048 .bf16)
    (k : FVec Ideal ReferenceIdeal.S2x128x32x64 .bf16) (hx : ∀ i, IsFin (x i)) (hwq : ∀ i, IsFin (wq i)) (hk : ∀ i, IsFin (k i))
    (i : ReferenceIdeal.S2x32x512x128.Idx) : IsFin (scores (queries x wq) k i) := by
  obtain ⟨b, h, r, j, rfl⟩ := eta4 i
  rw [scores_at, eighth_eq]
  refine (Softmax.fin_sum _ _ fun d => IsFin.mul ?_ (hk _)).mul (Softmax.fin_coe _)
  rw [queries_at]
  exact Softmax.fin_sum _ _ fun n => (hx _).mul (hwq _)

/-! ## One device's product -/

section
variable {X : Dev nD → FVec Ideal KernelIdeal.S2x128x512 .bf16} {WQ WO : Dev nD → FVec Ideal KernelIdeal.S512x512 .bf16}
variable {KB VB : Dev nD → FVec Ideal KernelIdeal.S2x8x64x128 .bf16}
variable {x : FVec Ideal ReferenceIdeal.S2x512x512 .bf16} {wq : FVec Ideal ReferenceIdeal.S512x2048 .bf16}
variable {k v : FVec Ideal ReferenceIdeal.S2x128x32x64 .bf16} {wo : FVec Ideal ReferenceIdeal.S2048x512 .bf16}
variable (C : Cut X WQ WO KB VB x wq k v wo)
include C

/-- A query of device `e` for a row of device `c`: the reference's, scaled. -/
theorem query_agree (e c : Dev nD) (b : Fin 2) (i : Fin 128) (h : Fin 8) (d : Fin 64) :
    qOf (rows (X c) b) (WQ e) (ix2 i ⟨64 * h.val + d.val, by have := h.isLt; have := d.isLt; omega⟩)
      = queries x wq (ix4 b (rowOf c i) (headOf e h) d) * eighth := by
  rw [qOf_at, queries_at]
  congr 1
  refine Finset.sum_congr rfl fun n _ => ?_
  rw [rows_at, C.hx, C.hwq]
  refine congrArg (fun y => x (ix3 b (rowOf c i) n) * wq (ix2 n y)) (Fin.ext ?_)
  show 512 * e.val + (64 * h.val + d.val) = (8 * e.val + h.val) * 64 + d.val
  omega

/-- The exponential of a score. -/
theorem exp_agree (e c : Dev nD) (b : Fin 2) (i j : Fin 128) (h : Fin 8) :
    expOf h (qOf (rows (X c) b) (WQ e)) (blk (KB e) b h) (ix2 i j)
      = Ideal.exp (scores (queries x wq) k (ix4 b (headOf e h) (rowOf c i) j)) := by
  rw [expOf_at, scores_at, eighth_eq, ← Softmax.sum_mul_real _ _ _ (by norm_num)]
  refine congrArg Ideal.exp (Finset.sum_congr rfl fun d _ => ?_)
  rw [query_agree C, blk_at, C.hk, eighth_eq, mul_right_comm]

/-- A head. -/
theorem head_agree (hs : ∀ i, IsFin (scores (queries x wq) k i)) (e c : Dev nD) (b : Fin 2) (i : Fin 128) (h : Fin 8) (d : Fin 64) :
    headO h (qOf (rows (X c) b) (WQ e)) (blk (KB e) b h) (blk (VB e) b h) (ix2 i d)
      = heads (scores (queries x wq) k) v (ix4 b (rowOf c i) (headOf e h) d) := by
  rw [headO_at, heads_plain _ hs]
  simp only [exp_agree C, blk_at, C.hv]

/-- The product that device `e` makes for a row of device `c`. -/
theorem partial_agree (hs : ∀ i, IsFin (scores (queries x wq) k i)) (e c : Dev nD) (b : Fin 2) (i : Fin 128) (n : Fin 512) :
    partialOf X WQ WO KB VB e c b (ix2 i n)
      = ∑ y : Fin 512, heads (scores (queries x wq) k) v (ix4 b (rowOf c i) ⟨(colOf e y).val / 64, by have := (colOf e y).isLt; omega⟩
          ⟨(colOf e y).val % 64, Nat.mod_lt _ (by decide)⟩) * wo (ix2 (colOf e y) n) := by
  unfold partialOf
  rw [yOf_at]
  refine Finset.sum_congr rfl fun y _ => ?_
  rw [joined_at, head_agree C hs, C.hwo]
  congr 2
  congr 1
  · refine Fin.ext ?_
    show 8 * e.val + y.val / 64 = (512 * e.val + y.val) / 64
    omega
  · refine Fin.ext ?_
    show y.val % 64 = (512 * e.val + y.val) % 64
    omega

omit C in
/-- The sum over all columns, device by device. -/
theorem sum_cols (f : Fin 2048 → EReal) : ∑ e : Dev nD, ∑ y : Fin 512, f (colOf e y) = ∑ y, f y := by
  rw [← (finProdFinEquiv (m := 4) (n := 512)).sum_comp f, Fintype.sum_prod_type]
  refine Finset.sum_congr rfl fun e _ => Finset.sum_congr rfl fun y _ => congrArg f (Fin.ext ?_)
  show 512 * e.val + y.val = y.val + 512 * e.val
  omega

/-- The whole result. -/
theorem out_agree (hs : ∀ i, IsFin (scores (queries x wq) k i)) (c : Dev nD) (b : Fin 2) (i : Fin 128) (n : Fin 512) :
    @Eq EReal (outOf (F := Ideal) X WQ WO KB VB c (ix3 b i n))
      (product (heads (scores (queries x wq) k) v) wo (ix3 b (rowOf c i) n)) := by
  rw [outOf_at, product_at]
  simp only [partial_agree C hs]
  exact sum_cols fun y => heads (scores (queries x wq) k) v (ix4 b (rowOf c i) ⟨y.val / 64, by have := y.isLt; omega⟩
    ⟨y.val % 64, Nat.mod_lt _ (by decide)⟩) * wo (ix2 y n)

end

end Cert.Agree

end
-- ==== Proof.KeyBlocks.lean ====
/-
  The heads of the keys and values that a device takes before its launch, at an index: head `h` of device `c` is head
  `8c + h` of the whole tensor, with the last two axes turned.
-/
module

public import proofs.«01_k».proof.Proof.Region
public import Idealize.ShloMosaic.Lib.Pointwise
public import Idealize.ShloMosaic.Lib.DynamicIndex
public import Idealize.ShloMosaic.Lib.StableHlo.Run

@[expose] public section

set_option maxRecDepth 16384

noncomputable section

namespace Cert.KernelIdeal.Proof

open Cert.KernelIdeal Cert.KernelIdeal.Gen
open Idealize.ShloMosaic Idealize.ShloMosaic.TcCoe Idealize.ShloMosaic.StableHlo

/-- Eight times the device's number, as the program makes it. -/
def eightfold (c : Dev nD) : IVec S_ 32 :=
  muli (id (Host.remui (Host.divui (constantI S_ 32 (Dev.word c)) (constantI S_ 32 1#32)) (constantI S_ 32 4#32)))
    (constantI S_ 32 8#32)

/-- The first head that a device holds, as the program makes it. -/
def startWord (c : Dev nD) : IVec S_ 32 :=
  select (cmpi .slt (eightfold c) (constantI S_ 32 0#32)) (addi (eightfold c) (constantI S_ 32 32#32)) (eightfold c)

/-- The host's quotient of words, off zero. -/
theorem div_word {x y : BitVec 32} (h : y ≠ 0) : IntOp.divui .host x y = x / y := by
  unfold IntOp.divui; exact if_neg h

/-- The host's remainder of words, off zero. -/
theorem rem_word {x y : BitVec 32} (h : y ≠ 0) : IntOp.remui .host x y = x % y := by
  unfold IntOp.remui; exact if_neg h

/-- The number's chain of word operations, worked out. -/
theorem eightfold_eq (c : Dev nD) : eightfold c = constantI S_ 32 (Dev.word c / 1#32 % 4#32 * 8#32) := by
  funext i
  show IntOp.remui .host (IntOp.divui .host (Dev.word c) 1#32) 4#32 * 8#32 = Dev.word c / 1#32 % 4#32 * 8#32
  rw [div_word (by decide), rem_word (by decide)]

/-- The first head of device `c` is `8c`. -/
theorem startWord_eq (c : Dev nD) (i : S_.Idx) : (startWord c i).toInt = 8 * ((c.val : ℕ) : ℤ) := by
  unfold startWord
  rw [eightfold_eq]
  match c with
  | 0 => rfl
  | 1 => rfl
  | 2 => rfl
  | 3 => rfl

/-- The corner of a device's heads. -/
def corner (c : Dev nD) : Fin 4 → ℕ := ![0, 8 * c.val, 0, 0]

/-- A device's heads lie inside the whole tensor. -/
theorem corner_fits (c : Dev nD) : S2x32x64x128.Slices (corner c) S2x8x64x128 := by
  revert c; decide

/-- A device's heads out of all of them, at an index. -/
theorem slice_at {α : Type} (f : S2x128x32x64.Idx → α) (c : Dev nD) (start : Fin 4 → ℤ) (hs : ∀ a, start a = (corner c a : ℤ))
    (b : Fin 2) (h : Fin 8) (d : Fin 64) (j : Fin 128) :
    Host.dynamicSlice S2x8x64x128 (transpose S2x32x64x128 [0, 2, 3, 1] f transposes_S2x128x32x64_S2x32x64x128_0_2_3_1) start
        sliceFits_S2x32x64x128_S2x8x64x128 (ix4 b h d j)
      = f (ix4 b j ⟨8 * c.val + h.val, by have := c.isLt; have : nD = 4 := rfl; have := h.isLt; omega⟩ d) := by
  rw [Host.dynamicSlice_eq_extractStridedSlice S2x8x64x128 _ _ (corner c) _ (corner_fits c) hs]
  pointwise [corner]

variable (m : (ℓ : Loc nD τ sig) → Buf (Elt Ideal) ℓ)

/-- The device's keys. -/
theorem opK_at (c : Dev nD) (b : Fin 2) (h : Fin 8) (d : Fin 64) (j : Fin 128) : opK m c (ix4 b h d j)
    = m ((c : Thread nD τ).loc main_arg2)
        (ix4 b j ⟨8 * c.val + h.val, by have := c.isLt; have : nD = 4 := rfl; have := h.isLt; omega⟩ d) := by
  have e : opK m c = Host.dynamicSlice S2x8x64x128 (transpose S2x32x64x128 [0, 2, 3, 1] (m ((c : Thread nD τ).loc main_arg2))
        transposes_S2x128x32x64_S2x32x64x128_0_2_3_1) (fun a => (corner c a : ℤ)) sliceFits_S2x32x64x128_S2x8x64x128 := by
    show StableHlo.after (hostOps0 c) (V0 m c) (Proc.devRef .tc main_v11) = _
    after_results_simp
    refine congrArg (fun f => Host.dynamicSlice S2x8x64x128 _ f _) (funext fun k => ?_)
    match k with
    | 0 => dsimp only [Matrix.cons_val]; after_results_simp; rfl
    | 1 => dsimp only [Matrix.cons_val]; after_results_simp; exact startWord_eq c _
    | 2 => dsimp only [Matrix.cons_val]; after_results_simp; rfl
    | 3 => dsimp only [Matrix.cons_val]; after_results_simp; rfl
  rw [e]
  exact slice_at (m ((c : Thread nD τ).loc main_arg2)) c _ (fun _ => rfl) b h d j

/-- The device's values. -/
theorem opV_at (c : Dev nD) (b : Fin 2) (h : Fin 8) (d : Fin 64) (j : Fin 128) : opV m c (ix4 b h d j)
    = m ((c : Thread nD τ).loc main_arg3)
        (ix4 b j ⟨8 * c.val + h.val, by have := c.isLt; have : nD = 4 := rfl; have := h.isLt; omega⟩ d) := by
  have e : opV m c = Host.dynamicSlice S2x8x64x128 (transpose S2x32x64x128 [0, 2, 3, 1] (m ((c : Thread nD τ).loc main_arg3))
        transposes_S2x128x32x64_S2x32x64x128_0_2_3_1) (fun a => (corner c a : ℤ)) sliceFits_S2x32x64x128_S2x8x64x128 := by
    show StableHlo.after (hostOps0 c) (V0 m c) (Proc.devRef .tc main_v16) = _
    after_results_simp
    refine congrArg (fun f => Host.dynamicSlice S2x8x64x128 _ f _) (funext fun k => ?_)
    match k with
    | 0 => dsimp only [Matrix.cons_val]; after_results_simp; rfl
    | 1 => dsimp only [Matrix.cons_val]; after_results_simp; exact startWord_eq c _
    | 2 => dsimp only [Matrix.cons_val]; after_results_simp; rfl
    | 3 => dsimp only [Matrix.cons_val]; after_results_simp; rfl
  rw [e]
  exact slice_at (m ((c : Thread nD τ).loc main_arg3)) c _ (fun _ => rfl) b h d j

/-- The launch takes its block of `x` from the argument as it was. -/
theorem opX_eq (c : Dev nD) : opX m c = m ((c : Thread nD τ).loc main_arg0) := V1_of m c main_arg0 (by decide)

/-- The launch's query weights are the argument. -/
theorem opWQ_eq (c : Dev nD) : opWQ m c = m ((c : Thread nD τ).loc main_arg1) := V1_of m c main_arg1 (by decide)

/-- The launch's output weights are the argument. -/
theorem opWO_eq (c : Dev nD) : opWO m c = m ((c : Thread nD τ).loc main_arg4) := V1_of m c main_arg4 (by decide)

end Cert.KernelIdeal.Proof

end
-- ==== Proof.Finite.lean ====
/-
  The precondition, read: where it holds, no entry of the three arguments that the scores are made of is infinite, on
  any device, and so no entry of the whole arrays that the devices hold blocks of.
-/
module

public import proofs.«01_k».proof.Defs
public import proofs.«01_k».proof.Proof.Softmax
public import Idealize.ShloMosaic.Lib.Pointwise
public import Idealize.ShloMosaic.Lib.IdealHost

@[expose] public section

noncomputable section

namespace Cert.Finite

open Idealize.ShloMosaic
open Softmax (IsFin)

/-- The side conditions of the precondition at one device's blocks. -/
theorem facts_blocks : Cert.Pre_finite_scores_KernelIdeal.Facts := ⟨by decide, by decide, by decide⟩

/-- The side conditions of the precondition at the whole arrays. -/
theorem facts_whole : Cert.Pre_finite_scores_ReferenceIdeal.Facts := ⟨by decide, by decide, by decide⟩

/-- The word of infinity. -/
theorem infinity_word : Ideal.ofBits .bf16 0x7F80#16 = ⊤ := by
  simp [Ideal.ofBits, Ideal.ieee]

/-- A number whose absolute value compares less than infinity is finite. -/
theorem fin_of_word {a : EReal} (h : Ideal.cmp .olt (max a (-a)) (Ideal.ofBits .bf16 0x7F80#16) = 1#1) : IsFin a := by
  rw [infinity_word] at h
  constructor
  · rintro rfl
    simp [Ideal.cmp] at h
  · rintro rfl
    simp [Ideal.cmp] at h

/-- An array whose absolute values all compare less than infinity has finite entries. -/
theorem fin_of_ones {s : Shape} (a : FVec Ideal s .bf16) (hb : (⟨0, ![]⟩ : Shape).BroadcastsInDim s ![])
    (h : cmpf .olt (Host.absf a) (broadcastInDim s ![] hb (constant (F := Ideal) ⟨0, ![]⟩ .bf16 0x7F80#16)) = fun _ => 1#1)
    (i : s.Idx) : IsFin (a i) := by
  have := congrFun h i
  exact fin_of_word this

end Cert.Finite

end
-- ==== Proof.Equal.lean ====
/-
  The kernel and the reference end with the same result, where the precondition holds: the devices' operands are cut
  from the reference's arguments, finite blocks make finite arrays, and `Agree` does the rest.
-/
module

public import proofs.«01_k».proof.Proof.Agree
public import proofs.«01_k».proof.Proof.KeyBlocks
public import proofs.«01_k».proof.Proof.Finite
public import proofs.«01_k».proof.Proof.Run
public import Idealize.ShloMosaic.Lib.Layout

@[expose] public section

noncomputable section

namespace Cert.Equal

open Idealize.ShloMosaic Idealize.SL.Sem
open Cert.KernelIdeal.Proof
open Cert.ReferenceIdeal.Plain
open Cert.Agree
open Softmax (IsFin)

/-! ## Blocks at an index -/

/-- A device's block of rows, at an index. -/
theorem block_rows (f : FVec Ideal ReferenceIdeal.S2x512x512 .bf16) (c : Dev KernelIdeal.nD) (b : Fin 2) (i : Fin 128) (n : Fin 512) :
    Layout.block ⟨3, ![2, 128, 512]⟩ ⟨3, ![2, 512, 512]⟩ 1 4 c f (by decide) (ix3 b i n) = f (ix3 b (rowOf c i) n) := by
  rw [Layout.block_apply]
  refine congrArg f (funext fun a => Fin.ext ?_)
  rw [Layout.Tiles.idx_val]
  match a with
  | 0 => rfl
  | 1 => show c.val * 128 + i.val = 128 * c.val + i.val; omega
  | 2 => rfl

/-- A device's block of columns, at an index. -/
theorem block_cols (f : FVec Ideal ReferenceIdeal.S512x2048 .bf16) (c : Dev KernelIdeal.nD) (i n : Fin 512) :
    Layout.block ⟨2, ![512, 512]⟩ ⟨2, ![512, 2048]⟩ 1 4 c f (by decide) (ix2 i n) = f (ix2 i (colOf c n)) := by
  rw [Layout.block_apply]
  refine congrArg f (funext fun a => Fin.ext ?_)
  rw [Layout.Tiles.idx_val]
  match a with
  | 0 => rfl
  | 1 => show c.val * 512 + n.val = 512 * c.val + n.val; omega

/-- A device's block of the output weights' rows, at an index. -/
theorem block_colRows (f : FVec Ideal ReferenceIdeal.S2048x512 .bf16) (c : Dev KernelIdeal.nD) (i n : Fin 512) :
    Layout.block ⟨2, ![512, 512]⟩ ⟨2, ![2048, 512]⟩ 0 4 c f (by decide) (ix2 i n) = f (ix2 (colOf c i) n) := by
  rw [Layout.block_apply]
  refine congrArg f (funext fun a => Fin.ext ?_)
  rw [Layout.Tiles.idx_val]
  match a with
  | 0 => show c.val * 512 + i.val = 512 * c.val + i.val; omega
  | 1 => rfl

/-! ## Every place lies in some device's block -/

/-- An index of three axes is its three coordinates. -/
theorem eta3 {n0 n1 n2 : ℕ} (i : Shape.Idx ⟨3, ![n0, n1, n2]⟩) : ∃ a b c, i = ix3 a b c :=
  ⟨i 0, i 1, i 2, funext fun a => by match a with | 0 => rfl | 1 => rfl | 2 => rfl⟩

/-- An index of two axes is its two coordinates. -/
theorem eta2 {n0 n1 : ℕ} (i : Shape.Idx ⟨2, ![n0, n1]⟩) : ∃ a b, i = ix2 a b :=
  ⟨i 0, i 1, funext fun a => by match a with | 0 => rfl | 1 => rfl⟩

/-- Every row is a row of some device. -/
theorem row_mem (r : Fin 512) : ∃ c i, r = rowOf c i :=
  ⟨⟨r.val / 128, Nat.div_lt_of_lt_mul r.isLt⟩, ⟨r.val % 128, Nat.mod_lt _ (by decide)⟩,
    Fin.ext (Nat.div_add_mod r.val 128).symm⟩

/-- Every column is a column of some device. -/
theorem col_mem (r : Fin 2048) : ∃ c i, r = colOf c i :=
  ⟨⟨r.val / 512, Nat.div_lt_of_lt_mul r.isLt⟩, ⟨r.val % 512, Nat.mod_lt _ (by decide)⟩,
    Fin.ext (Nat.div_add_mod r.val 512).symm⟩

section
variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- The kernel's argument on a device. -/
abbrev kArg (c : Dev KernelIdeal.nD) (r : Ref KernelIdeal.sig .tc) := m ((c.tc : Thread KernelIdeal.nD KernelIdeal.τ).loc r)

/-- The reference's argument. -/
abbrev rArg (r : Ref ReferenceIdeal.sig .tc) :=
  m' (((0 : Dev ReferenceIdeal.nD).tc : Thread ReferenceIdeal.nD ReferenceIdeal.τ).loc r)

/-- The devices' arguments are blocks, or copies, of the reference's. -/
def Held : Prop := ∀ c : Dev KernelIdeal.nD,
  kArg m c KernelIdeal.main_arg0 = Layout.block ⟨3, ![2, 128, 512]⟩ ⟨3, ![2, 512, 512]⟩ 1 4 c (rArg m' ReferenceIdeal.main_arg0)
  ∧ kArg m c KernelIdeal.main_arg1 = Layout.block ⟨2, ![512, 512]⟩ ⟨2, ![512, 2048]⟩ 1 4 c (rArg m' ReferenceIdeal.main_arg1)
  ∧ kArg m c KernelIdeal.main_arg2 = rArg m' ReferenceIdeal.main_arg2
  ∧ kArg m c KernelIdeal.main_arg3 = rArg m' ReferenceIdeal.main_arg3
  ∧ kArg m c KernelIdeal.main_arg4 = Layout.block ⟨2, ![512, 512]⟩ ⟨2, ![2048, 512]⟩ 0 4 c (rArg m' ReferenceIdeal.main_arg4)

variable {m m'} (H : Held m m')
include H

/-- The launch's operands are cut from the reference's arguments. -/
theorem cut : Cut (opX m) (opWQ m) (opWO m) (opK m) (opV m) (rArg m' ReferenceIdeal.main_arg0) (rArg m' ReferenceIdeal.main_arg1)
    (rArg m' ReferenceIdeal.main_arg2) (rArg m' ReferenceIdeal.main_arg3) (rArg m' ReferenceIdeal.main_arg4) where
  hx c b i n := (congrFun ((opX_eq m c).trans (H c).1) _).trans (block_rows _ c b i n)
  hwq c i n := (congrFun ((opWQ_eq m c).trans (H c).2.1) _).trans (block_cols _ c i n)
  hwo c i n := (congrFun ((opWO_eq m c).trans (H c).2.2.2.2) _).trans (block_colRows _ c i n)
  hk c b h d j := (opK_at m c b h d j).trans (congrFun (H c).2.2.1 _)
  hv c b h d j := (opV_at m c b h d j).trans (congrFun (H c).2.2.2.1 _)

/-- Where the precondition holds the reference's scores are finite. -/
theorem fin_scores [Cert.Pre_finite_scores_KernelIdeal.Facts] (P : Cert.Pre_KernelIdeal_finite_scores_KernelIdeal m)
    (i : ReferenceIdeal.S2x32x512x128.Idx) :
    IsFin (scores (queries (rArg m' ReferenceIdeal.main_arg0) (rArg m' ReferenceIdeal.main_arg1)) (rArg m' ReferenceIdeal.main_arg2) i) := by
  refine scores_fin _ _ _ (fun i => ?_) (fun i => ?_) (fun i => ?_) i
  · obtain ⟨b, r, n, rfl⟩ := eta3 i
    obtain ⟨c, r, rfl⟩ := row_mem r
    rw [← block_rows (rArg m' ReferenceIdeal.main_arg0)]
    exact (congrFun (H c).1 (ix3 b r n)) ▸ Finite.fin_of_ones _ _ (P c).1 (ix3 b r n)
  · obtain ⟨r, n, rfl⟩ := eta2 i
    obtain ⟨c, n, rfl⟩ := col_mem n
    rw [← block_cols (rArg m' ReferenceIdeal.main_arg1)]
    exact (congrFun (H c).2.1 (ix2 r n)) ▸ Finite.fin_of_ones _ _ (P c).2.1 (ix2 r n)
  · exact (congrFun (H 0).2.2.1 i) ▸ Finite.fin_of_ones _ _ (P 0).2.2 i

/-- The kernel's result is the device's block of the reference's. -/
theorem result_eq [Cert.Pre_finite_scores_KernelIdeal.Facts] (P : Cert.Pre_KernelIdeal_finite_scores_KernelIdeal m)
    (c : Dev KernelIdeal.nD) :
    result m c = Layout.block ⟨3, ![2, 128, 512]⟩ ⟨3, ![2, 512, 512]⟩ 1 4 c (ReferenceIdeal.Value.res_main_v36 m' 0) := by
  funext i
  obtain ⟨b, r, n, rfl⟩ := eta3 i
  rw [block_rows, res_eq]
  exact out_agree (cut H) (fin_scores H P) c b r n

end

end Cert.Equal

end
-- ==== Proof.lean ====
/- The claims about the kernel and the reference, put together: what `Run` proves of a run of the kernel at
   exact values, what `Float/Run` proves of it at machine floats, the generated run of the reference, and what `Equal`
   proves of the two results. -/
module

public import proofs.«01_k».proof.Defs
public import proofs.«01_k».proof.Proof.Run
public import proofs.«01_k».proof.Proof.Float.Run
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The kernel at machine floats ends with its arguments as they were and every counter at zero. -/
theorem quiet_kernel : quiescent_Kernel := fun m g _ =>
  (θ_run _ _ _).mono (fun _ h => ⟨fun c => (h.1 c).2, h.2⟩) (Cert.Kernel.Proof.run_main m g)

/-- The kernel at exact values ends with its arguments as they were and every counter at zero. -/
theorem quiet_ideal : quiescent_KernelIdeal := fun m g _ =>
  (θ_run _ _ _).mono (fun _ h => ⟨fun c => (h.1 c).2, h.2⟩) (Cert.KernelIdeal.Proof.run_main m g)

/-- The reference, which has no semaphores, ends with its arguments as they were. -/
theorem quiet_reference : quiescent_ReferenceIdeal := fun m g _ =>
  (θ_run _ _ _).mono (fun _ h => ⟨fun c => (h c).2, sem_eq_zero_of_no_sems rfl _⟩)
    (Cert.ReferenceIdeal.Value.run m g)

/-- Where the precondition holds the kernel and the reference end with the same result. -/
theorem same_result : algebraic_KernelIdeal_ReferenceIdeal_pre_finite_scores_KernelIdeal
    (hPre_finite_scores_KernelIdeal := Cert.Finite.facts_blocks) := fun m g m' g' P H =>
  haveI := Cert.Finite.facts_blocks
  ⟨Cert.ReferenceIdeal.Value.res_main_v36 m' 0,
    (θ_run _ _ _).mono (fun _ h c => ⟨(h.1 c).1.trans (Cert.Equal.result_eq H P c), (h.1 c).2⟩)
      (Cert.KernelIdeal.Proof.run_main m g),
    (θ_run _ _ _).mono (fun _ h => h 0) (Cert.ReferenceIdeal.Value.run m' g')⟩

/-- All the claims: a run from memory of which the precondition holds is a run. -/
theorem claim : Cert.Claim :=
  ⟨Cert.Kernel.Gen.facts, Cert.KernelIdeal.Gen.facts, Cert.ReferenceIdeal.Gen.facts, Cert.Finite.facts_blocks,
    Cert.Finite.facts_whole, quiet_kernel, quiet_ideal, fun m g _ => quiet_ideal m g ⟨⟩, quiet_reference,
    fun m g _ => quiet_reference m g ⟨⟩, trivial, same_result⟩

end Cert.Proof

end
